-- ==== Defs.lean ====
def Pre_Mix [hPre_in_window : Cert.Pre_in_window.Facts] (m : (ℓ : Loc Cert.Mix.nD Cert.Mix.τ Cert.Mix.sig) → Buf (Elt Bits) ℓ) : Prop :=
  ∀ c : Dev Cert.Mix.nD,
    (Cert.Pre_in_window.fn (F := Bits) (m ((c.tc : Thread Cert.Mix.nD Cert.Mix.τ).loc Cert.Mix.main_arg0)) (m ((c.tc : Thread Cert.Mix.nD Cert.Mix.τ).loc Cert.Mix.main_arg1)) (m ((c.tc : Thread Cert.Mix.nD Cert.Mix.τ).loc Cert.Mix.main_arg2)) (m ((c.tc : Thread Cert.Mix.nD Cert.Mix.τ).loc Cert.Mix.main_arg3)) (m ((c.tc : Thread Cert.Mix.nD Cert.Mix.τ).loc Cert.Mix.main_arg4))) = (fun _ => 1#1)

def Pre_MixIdeal [hPre_in_window : Cert.Pre_in_window.Facts] (m : (ℓ : Loc Cert.MixIdeal.nD Cert.MixIdeal.τ Cert.MixIdeal.sig) → Buf (Elt Ideal) ℓ) : Prop :=
  ∀ c : Dev Cert.MixIdeal.nD,
    (Cert.Pre_in_window.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))) = (fun _ => 1#1)

def Pre_MixRefIdeal [hPre_in_window : Cert.Pre_in_window.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_in_window.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4))) = (fun _ => 1#1)

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def quiescent_Mix [hMix : Cert.Mix.Facts] [hPre_in_window : Cert.Pre_in_window.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (Cert.Mix.threads (F := Bits)) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] [hPre_in_window : Cert.Pre_in_window.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (Cert.MixIdeal.threads (F := Ideal)) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] [hPre_in_window : Cert.Pre_in_window.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5)
      ∧ r.2.mem ((c.tc : Thread Cert.Weights.nD Cert.Weights.τ).loc Cert.Weights.main_arg6) = m ((c.tc : Thread Cert.Weights.nD Cert.Weights.τ).loc Cert.Weights.main_arg6)
      ∧ r.2.mem ((c.tc : Thread Cert.Weights.nD Cert.Weights.τ).loc Cert.Weights.main_arg7) = m ((c.tc : Thread Cert.Weights.nD Cert.Weights.τ).loc Cert.Weights.main_arg7)
      ∧ r.2.mem ((c.tc : Thread Cert.Weights.nD Cert.Weights.τ).loc Cert.Weights.main_arg8) = m ((c.tc : Thread Cert.Weights.nD Cert.Weights.τ).loc Cert.Weights.main_arg8)
      ∧ r.2.mem ((c.tc : Thread Cert.Weights.nD Cert.Weights.τ).loc Cert.Weights.main_arg9) = m ((c.tc : Thread Cert.Weights.nD Cert.Weights.τ).loc Cert.Weights.main_arg9))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
      ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
      ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
      ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8)
      ∧ r.2.mem ((c.tc : Thread Cert.WeightsIdeal.nD Cert.WeightsIdeal.τ).loc Cert.WeightsIdeal.main_arg9) = m ((c.tc : Thread Cert.WeightsIdeal.nD Cert.WeightsIdeal.τ).loc Cert.WeightsIdeal.main_arg9))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0)
      ∧ r.2.mem ((c.tc : Thread Cert.WeightsRefIdeal.nD Cert.WeightsRefIdeal.τ).loc Cert.WeightsRefIdeal.main_arg1) = m ((c.tc : Thread Cert.WeightsRefIdeal.nD Cert.WeightsRefIdeal.τ).loc Cert.WeightsRefIdeal.main_arg1)
      ∧ r.2.mem ((c.tc : Thread Cert.WeightsRefIdeal.nD Cert.WeightsRefIdeal.τ).loc Cert.WeightsRefIdeal.main_arg2) = m ((c.tc : Thread Cert.WeightsRefIdeal.nD Cert.WeightsRefIdeal.τ).loc Cert.WeightsRefIdeal.main_arg2)
      ∧ r.2.mem ((c.tc : Thread Cert.WeightsRefIdeal.nD Cert.WeightsRefIdeal.τ).loc Cert.WeightsRefIdeal.main_arg3) = m ((c.tc : Thread Cert.WeightsRefIdeal.nD Cert.WeightsRefIdeal.τ).loc Cert.WeightsRefIdeal.main_arg3)
      ∧ r.2.mem ((c.tc : Thread Cert.WeightsRefIdeal.nD Cert.WeightsRefIdeal.τ).loc Cert.WeightsRefIdeal.main_arg4) = m ((c.tc : Thread Cert.WeightsRefIdeal.nD Cert.WeightsRefIdeal.τ).loc Cert.WeightsRefIdeal.main_arg4)
      ∧ r.2.mem ((c.tc : Thread Cert.WeightsRefIdeal.nD Cert.WeightsRefIdeal.τ).loc Cert.WeightsRefIdeal.main_arg5) = m ((c.tc : Thread Cert.WeightsRefIdeal.nD Cert.WeightsRefIdeal.τ).loc Cert.WeightsRefIdeal.main_arg5)
      ∧ r.2.mem ((c.tc : Thread Cert.WeightsRefIdeal.nD Cert.WeightsRefIdeal.τ).loc Cert.WeightsRefIdeal.main_arg6) = m ((c.tc : Thread Cert.WeightsRefIdeal.nD Cert.WeightsRefIdeal.τ).loc Cert.WeightsRefIdeal.main_arg6)
      ∧ r.2.mem ((c.tc : Thread Cert.WeightsRefIdeal.nD Cert.WeightsRefIdeal.τ).loc Cert.WeightsRefIdeal.main_arg7) = m ((c.tc : Thread Cert.WeightsRefIdeal.nD Cert.WeightsRefIdeal.τ).loc Cert.WeightsRefIdeal.main_arg7)
      ∧ r.2.mem ((c.tc : Thread Cert.WeightsRefIdeal.nD Cert.WeightsRefIdeal.τ).loc Cert.WeightsRefIdeal.main_arg8) = m ((c.tc : Thread Cert.WeightsRefIdeal.nD Cert.WeightsRefIdeal.τ).loc Cert.WeightsRefIdeal.main_arg8)
      ∧ r.2.mem ((c.tc : Thread Cert.WeightsRefIdeal.nD Cert.WeightsRefIdeal.τ).loc Cert.WeightsRefIdeal.main_arg9) = m ((c.tc : Thread Cert.WeightsRefIdeal.nD Cert.WeightsRefIdeal.τ).loc Cert.WeightsRefIdeal.main_arg9))
      ∧ r.2.sem = fun _ => 0)

def preserves_Mix_MixIdeal : Prop :=
  True

def algebraic_MixIdeal_MixRefIdeal [hMixIdeal : Cert.MixIdeal.Facts] [hMixRefIdeal : Cert.MixRefIdeal.Facts] [hPre_in_window : Cert.Pre_in_window.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v10)),
      θ_run (Cert.MixIdeal.defs (F := Ideal)) (Cert.MixIdeal.threads (F := Ideal)) ⟨m, fun _ => 0, g⟩ (fun r => ∀ c : Dev Cert.MixIdeal.nD,
          r.2.mem ((c.tc : Thread Cert.MixIdeal.nD Cert.MixIdeal.τ).loc Cert.MixIdeal.main_v10) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v46) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Weights_WeightsIdeal : Prop :=
  True

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m' ((c.tc : Thread Cert.WeightsRefIdeal.nD Cert.WeightsRefIdeal.τ).loc Cert.WeightsRefIdeal.main_arg0) = m ((c.tc : Thread Cert.WeightsIdeal.nD Cert.WeightsIdeal.τ).loc Cert.WeightsIdeal.main_arg0)
      ∧ m' ((c.tc : Thread Cert.WeightsRefIdeal.nD Cert.WeightsRefIdeal.τ).loc Cert.WeightsRefIdeal.main_arg1) = m ((c.tc : Thread Cert.WeightsIdeal.nD Cert.WeightsIdeal.τ).loc Cert.WeightsIdeal.main_arg1)
      ∧ m' ((c.tc : Thread Cert.WeightsRefIdeal.nD Cert.WeightsRefIdeal.τ).loc Cert.WeightsRefIdeal.main_arg2) = m ((c.tc : Thread Cert.WeightsIdeal.nD Cert.WeightsIdeal.τ).loc Cert.WeightsIdeal.main_arg2)
      ∧ m' ((c.tc : Thread Cert.WeightsRefIdeal.nD Cert.WeightsRefIdeal.τ).loc Cert.WeightsRefIdeal.main_arg3) = m ((c.tc : Thread Cert.WeightsIdeal.nD Cert.WeightsIdeal.τ).loc Cert.WeightsIdeal.main_arg3)
      ∧ m' ((c.tc : Thread Cert.WeightsRefIdeal.nD Cert.WeightsRefIdeal.τ).loc Cert.WeightsRefIdeal.main_arg4) = m ((c.tc : Thread Cert.WeightsIdeal.nD Cert.WeightsIdeal.τ).loc Cert.WeightsIdeal.main_arg4)
      ∧ m' ((c.tc : Thread Cert.WeightsRefIdeal.nD Cert.WeightsRefIdeal.τ).loc Cert.WeightsRefIdeal.main_arg5) = m ((c.tc : Thread Cert.WeightsIdeal.nD Cert.WeightsIdeal.τ).loc Cert.WeightsIdeal.main_arg5)
      ∧ m' ((c.tc : Thread Cert.WeightsRefIdeal.nD Cert.WeightsRefIdeal.τ).loc Cert.WeightsRefIdeal.main_arg6) = m ((c.tc : Thread Cert.WeightsIdeal.nD Cert.WeightsIdeal.τ).loc Cert.WeightsIdeal.main_arg6)
      ∧ m' ((c.tc : Thread Cert.WeightsRefIdeal.nD Cert.WeightsRefIdeal.τ).loc Cert.WeightsRefIdeal.main_arg7) = m ((c.tc : Thread Cert.WeightsIdeal.nD Cert.WeightsIdeal.τ).loc Cert.WeightsIdeal.main_arg7)
      ∧ m' ((c.tc : Thread Cert.WeightsRefIdeal.nD Cert.WeightsRefIdeal.τ).loc Cert.WeightsRefIdeal.main_arg8) = m ((c.tc : Thread Cert.WeightsIdeal.nD Cert.WeightsIdeal.τ).loc Cert.WeightsIdeal.main_arg8)
      ∧ m' ((c.tc : Thread Cert.WeightsRefIdeal.nD Cert.WeightsRefIdeal.τ).loc Cert.WeightsRefIdeal.main_arg9) = m ((c.tc : Thread Cert.WeightsIdeal.nD Cert.WeightsIdeal.τ).loc Cert.WeightsIdeal.main_arg9)) →
    ∃ (v0 : (c : Dev Cert.WeightsIdeal.nD) → Buf (Elt Ideal) ((c.tc : Thread Cert.WeightsIdeal.nD Cert.WeightsIdeal.τ).loc Cert.WeightsIdeal.main_v21_0)) (v1 : (c : Dev Cert.WeightsIdeal.nD) → Buf (Elt Ideal) ((c.tc : Thread Cert.WeightsIdeal.nD Cert.WeightsIdeal.τ).loc Cert.WeightsIdeal.main_v21_1)) (v2 : (c : Dev Cert.WeightsIdeal.nD) → Buf (Elt Ideal) ((c.tc : Thread Cert.WeightsIdeal.nD Cert.WeightsIdeal.τ).loc Cert.WeightsIdeal.main_v21_2)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v21_0) = v0 c
          ∧ r.2.mem ((c.tc : Thread Cert.WeightsIdeal.nD Cert.WeightsIdeal.τ).loc Cert.WeightsIdeal.main_v21_1) = v1 c
          ∧ r.2.mem ((c.tc : Thread Cert.WeightsIdeal.nD Cert.WeightsIdeal.τ).loc Cert.WeightsIdeal.main_v21_2) = v2 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
          ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
          ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
          ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8)
          ∧ r.2.mem ((c.tc : Thread Cert.WeightsIdeal.nD Cert.WeightsIdeal.τ).loc Cert.WeightsIdeal.main_arg9) = m ((c.tc : Thread Cert.WeightsIdeal.nD Cert.WeightsIdeal.τ).loc Cert.WeightsIdeal.main_arg9))
      ∧ θ_run (Cert.WeightsRefIdeal.defs (F := Ideal)) (onTc (τ := Cert.WeightsRefIdeal.τ) (Cert.WeightsRefIdeal.main (F := Ideal))) ⟨m', fun _ => 0, g'⟩ (fun r => ∀ c : Dev Cert.WeightsRefIdeal.nD,
          r.2.mem ((c.tc : Thread Cert.WeightsRefIdeal.nD Cert.WeightsRefIdeal.τ).loc Cert.WeightsRefIdeal.main_v167) = v0 c
          ∧ r.2.mem ((c.tc : Thread Cert.WeightsRefIdeal.nD Cert.WeightsRefIdeal.τ).loc Cert.WeightsRefIdeal.main_v170) = v1 c
          ∧ r.2.mem ((c.tc : Thread Cert.WeightsRefIdeal.nD Cert.WeightsRefIdeal.τ).loc Cert.WeightsRefIdeal.main_v174) = v2 c
          ∧ r.2.mem ((c.tc : Thread Cert.WeightsRefIdeal.nD Cert.WeightsRefIdeal.τ).loc Cert.WeightsRefIdeal.main_arg0) = m' ((c.tc : Thread Cert.WeightsRefIdeal.nD Cert.WeightsRefIdeal.τ).loc Cert.WeightsRefIdeal.main_arg0)
          ∧ r.2.mem ((c.tc : Thread Cert.WeightsRefIdeal.nD Cert.WeightsRefIdeal.τ).loc Cert.WeightsRefIdeal.main_arg1) = m' ((c.tc : Thread Cert.WeightsRefIdeal.nD Cert.WeightsRefIdeal.τ).loc Cert.WeightsRefIdeal.main_arg1)
          ∧ r.2.mem ((c.tc : Thread Cert.WeightsRefIdeal.nD Cert.WeightsRefIdeal.τ).loc Cert.WeightsRefIdeal.main_arg2) = m' ((c.tc : Thread Cert.WeightsRefIdeal.nD Cert.WeightsRefIdeal.τ).loc Cert.WeightsRefIdeal.main_arg2)
          ∧ r.2.mem ((c.tc : Thread Cert.WeightsRefIdeal.nD Cert.WeightsRefIdeal.τ).loc Cert.WeightsRefIdeal.main_arg3) = m' ((c.tc : Thread Cert.WeightsRefIdeal.nD Cert.WeightsRefIdeal.τ).loc Cert.WeightsRefIdeal.main_arg3)
          ∧ r.2.mem ((c.tc : Thread Cert.WeightsRefIdeal.nD Cert.WeightsRefIdeal.τ).loc Cert.WeightsRefIdeal.main_arg4) = m' ((c.tc : Thread Cert.WeightsRefIdeal.nD Cert.WeightsRefIdeal.τ).loc Cert.WeightsRefIdeal.main_arg4)
          ∧ r.2.mem ((c.tc : Thread Cert.WeightsRefIdeal.nD Cert.WeightsRefIdeal.τ).loc Cert.WeightsRefIdeal.main_arg5) = m' ((c.tc : Thread Cert.WeightsRefIdeal.nD Cert.WeightsRefIdeal.τ).loc Cert.WeightsRefIdeal.main_arg5)
          ∧ r.2.mem ((c.tc : Thread Cert.WeightsRefIdeal.nD Cert.WeightsRefIdeal.τ).loc Cert.WeightsRefIdeal.main_arg6) = m' ((c.tc : Thread Cert.WeightsRefIdeal.nD Cert.WeightsRefIdeal.τ).loc Cert.WeightsRefIdeal.main_arg6)
          ∧ r.2.mem ((c.tc : Thread Cert.WeightsRefIdeal.nD Cert.WeightsRefIdeal.τ).loc Cert.WeightsRefIdeal.main_arg7) = m' ((c.tc : Thread Cert.WeightsRefIdeal.nD Cert.WeightsRefIdeal.τ).loc Cert.WeightsRefIdeal.main_arg7)
          ∧ r.2.mem ((c.tc : Thread Cert.WeightsRefIdeal.nD Cert.WeightsRefIdeal.τ).loc Cert.WeightsRefIdeal.main_arg8) = m' ((c.tc : Thread Cert.WeightsRefIdeal.nD Cert.WeightsRefIdeal.τ).loc Cert.WeightsRefIdeal.main_arg8)
          ∧ r.2.mem ((c.tc : Thread Cert.WeightsRefIdeal.nD Cert.WeightsRefIdeal.τ).loc Cert.WeightsRefIdeal.main_arg9) = m' ((c.tc : Thread Cert.WeightsRefIdeal.nD Cert.WeightsRefIdeal.τ).loc Cert.WeightsRefIdeal.main_arg9))

def Claim : Prop :=
  ∃ (hMix : Cert.Mix.Facts) (hMixIdeal : Cert.MixIdeal.Facts) (hMixRefIdeal : Cert.MixRefIdeal.Facts) (hWeights : Cert.Weights.Facts) (hWeightsIdeal : Cert.WeightsIdeal.Facts) (hWeightsRefIdeal : Cert.WeightsRefIdeal.Facts) (hPre_in_window : Cert.Pre_in_window.Facts),
    quiescent_Mix (hMix := hMix) (hPre_in_window := hPre_in_window)
    ∧ quiescent_MixIdeal (hMixIdeal := hMixIdeal) (hPre_in_window := hPre_in_window)
    ∧ quiescent_MixRefIdeal (hMixRefIdeal := hMixRefIdeal) (hPre_in_window := hPre_in_window)
    ∧ quiescent_Weights (hWeights := hWeights)
    ∧ quiescent_WeightsIdeal (hWeightsIdeal := hWeightsIdeal)
    ∧ quiescent_WeightsRefIdeal (hWeightsRefIdeal := hWeightsRefIdeal)
    ∧ preserves_Mix_MixIdeal
    ∧ algebraic_MixIdeal_MixRefIdeal (hMixIdeal := hMixIdeal) (hMixRefIdeal := hMixRefIdeal) (hPre_in_window := hPre_in_window)
    ∧ preserves_Weights_WeightsIdeal
    ∧ algebraic_WeightsIdeal_WeightsRefIdeal (hWeightsIdeal := hWeightsIdeal) (hWeightsRefIdeal := hWeightsRefIdeal)
-- ==== Pre_in_window.lean ====
abbrev S2x2048x768 : Shape := ⟨3, ![2, 2048, 768]⟩
abbrev S2x2048x192 : Shape := ⟨3, ![2, 2048, 192]⟩
abbrev S768x768 : Shape := ⟨2, ![768, 768]⟩
abbrev S2x2048x12x16 : Shape := ⟨4, ![2, 2048, 12, 16]⟩
abbrev S2x2048x12x9 : Shape := ⟨4, ![2, 2048, 12, 9]⟩
abbrev S_ : Shape := ⟨0, ![]⟩

class Facts : Prop where
  shapeCasts_S2x2048x192_S2x2048x12x16 : S2x2048x192.ShapeCasts S2x2048x12x16
  slices_S2x2048x12x16_S2x2048x12x9_0_0_0_0 : S2x2048x12x16.Slices ![0, 0, 0, 0] S2x2048x12x9
  bcast_S_S2x2048x12x9 : S_.BroadcastsInDim S2x2048x12x9 (![] : Fin 0 → Fin S2x2048x12x9.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S2x2048x12x9 32) (arg1 : IVec S_ 32) : IVec S2x2048x12x9 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S2x2048x12x9 32 := broadcastInDim S2x2048x12x9 ![] bcast_S_S2x2048x12x9 v2
  let v4 : IVec S2x2048x12x9 32 := Host.remsi arg0 v3
  let c_1 : IVec S_ 32 := constantI S_ 32 0#32
  let v5 : IVec S2x2048x12x9 32 := broadcastInDim S2x2048x12x9 ![] bcast_S_S2x2048x12x9 c_1
  let v6 : IVec S2x2048x12x9 1 := cmpi .ne v4 v5
  let c_2 : IVec S_ 32 := constantI S_ 32 0#32
  let v7 : IVec S2x2048x12x9 32 := broadcastInDim S2x2048x12x9 ![] bcast_S_S2x2048x12x9 c_2
  let v8 : IVec S2x2048x12x9 1 := cmpi .slt v4 v7
  let c_3 : IVec S_ 32 := constantI S_ 32 0#32
  let v9 : IVec S_ 1 := cmpi .slt v2 c_3
  let v10 : IVec S2x2048x12x9 1 := broadcastInDim S2x2048x12x9 ![] bcast_S_S2x2048x12x9 v9
  let v11 : IVec S2x2048x12x9 1 := cmpi .ne v8 v10
  let v12 : IVec S2x2048x12x9 1 := andi v11 v6
  let v13 : IVec S2x2048x12x9 32 := broadcastInDim S2x2048x12x9 ![] bcast_S_S2x2048x12x9 v2
  let v14 : IVec S2x2048x12x9 32 := addi v4 v13
  let v15 : IVec S2x2048x12x9 32 := select v12 v14 v4
  v15

def fn {F : FTy → Type} [FloatOps F] (main_arg0 : FVec F S2x2048x768 .f32) (main_arg1 : FVec F S2x2048x192 .f32) (main_arg2 : FVec F S2x2048x192 .f32) (main_arg3 : IVec S2x2048x192 32) (main_arg4 : FVec F S768x768 .f32) : IVec S2x2048x12x9 1 :=
  let main_v0 : IVec S2x2048x12x16 32 := shapeCast S2x2048x12x16 main_arg3 shapeCasts_S2x2048x192_S2x2048x12x16
  let main_v1 : IVec S2x2048x12x9 32 := (extractStridedSlice S2x2048x12x9 ![0, 0, 0, 0] · slices_S2x2048x12x16_S2x2048x12x9_0_0_0_0) main_v0
  let main_c : IVec S_ 32 := constantI S_ 32 0#32
  let main_v2 : IVec S2x2048x12x9 32 := broadcastInDim S2x2048x12x9 ![] bcast_S_S2x2048x12x9 main_c
  let main_v3 : IVec S2x2048x12x9 1 := cmpi .sge main_v1 main_v2
  let main_c_0 : IVec S_ 32 := constantI S_ 32 28544#32
  let main_v4 : IVec S2x2048x12x9 32 := broadcastInDim S2x2048x12x9 ![] bcast_S_S2x2048x12x9 main_c_0
  let main_v5 : IVec S2x2048x12x9 1 := cmpi .sle main_v1 main_v4
  let main_v6 : IVec S2x2048x12x9 1 := andi main_v3 main_v5
  let main_c_1 : IVec S_ 32 := constantI S_ 32 64#32
  let main_v7 : IVec S2x2048x12x9 32 := fn_remainder (F := F) main_v1 main_c_1
  let main_c_2 : IVec S_ 32 := constantI S_ 32 0#32
  let main_v8 : IVec S2x2048x12x9 32 := broadcastInDim S2x2048x12x9 ![] bcast_S_S2x2048x12x9 main_c_2
  let main_v9 : IVec S2x2048x12x9 1 := cmpi .eq main_v7 main_v8
  let main_v10 : IVec S2x2048x12x9 1 := andi main_v6 main_v9
  main_v10
-- ==== Mix.lean ====
abbrev S2x2048x768 : Shape := ⟨3, ![2, 2048, 768]⟩
abbrev S2x2048x192 : Shape := ⟨3, ![2, 2048, 192]⟩
abbrev S768x768 : Shape := ⟨2, ![768, 768]⟩
abbrev S2x192x2048 : Shape := ⟨3, ![2, 192, 2048]⟩
abbrev S_ : Shape := ⟨0, ![]⟩
abbrev S2x2240x768 : Shape := ⟨3, ![2, 2240, 768]⟩
abbrev S2x2240x12x64 : Shape := ⟨4, ![2, 2240, 12, 64]⟩
abbrev S2x12x2240x64 : Shape := ⟨4, ![2, 12, 2240, 64]⟩
abbrev S2x12x143360 : Shape := ⟨3, ![2, 12, 143360]⟩
abbrev S2x12x8x16384 : Shape := ⟨4, ![2, 12, 8, 16384]⟩
abbrev S28672 : Shape := ⟨1, ![28672]⟩
abbrev S16x256 : Shape := ⟨2, ![16, 256]⟩
abbrev S16384 : Shape := ⟨1, ![16384]⟩
abbrev S1x1x28672 : Shape := ⟨3, ![1, 1, 28672]⟩
abbrev S1x16x256 : Shape := ⟨3, ![1, 16, 256]⟩
abbrev S16 : Shape := ⟨1, ![16]⟩
abbrev S1x16 : Shape := ⟨2, ![1, 16]⟩
abbrev S1x1x1x16384 : Shape := ⟨4, ![1, 1, 1, 16384]⟩
abbrev S2x12x8x64x256 : Shape := ⟨5, ![2, 12, 8, 64, 256]⟩
abbrev S1x1x1x64x256 : Shape := ⟨5, ![1, 1, 1, 64, 256]⟩
abbrev S64x768 : Shape := ⟨2, ![64, 768]⟩
abbrev S1x256x768 : Shape := ⟨3, ![1, 256, 768]⟩
abbrev S256x768 : Shape := ⟨2, ![256, 768]⟩
abbrev S64x256 : Shape := ⟨2, ![64, 256]⟩

abbrev nBuf : Table → Nat
  | .hbm => 18
  | .local .tc .vmem => 6
  | .local .scVector .vmem => 5
  | _ => 0

abbrev bufTy : (tb : Table) → Fin (nBuf tb) → BufTy
  | .hbm, ⟨0, _⟩ => ⟨S2x2048x768, .f32⟩
  | .hbm, ⟨1, _⟩ => ⟨S2x2048x192, .f32⟩
  | .hbm, ⟨2, _⟩ => ⟨S2x2048x192, .f32⟩
  | .hbm, ⟨3, _⟩ => ⟨S2x2048x192, .i32⟩
  | .hbm, ⟨4, _⟩ => ⟨S768x768, .f32⟩
  | .hbm, ⟨5, _⟩ => ⟨S2x192x2048, .f32⟩
  | .hbm, ⟨6, _⟩ => ⟨S2x192x2048, .f32⟩
  | .hbm, ⟨7, _⟩ => ⟨S2x192x2048, .i32⟩
  | .hbm, ⟨8, _⟩ => ⟨S_, .i32⟩
  | .hbm, ⟨9, _⟩ => ⟨S_, .f32⟩
  | .hbm, ⟨10, _⟩ => ⟨S2x2240x768, .f32⟩
  | .hbm, ⟨11, _⟩ => ⟨S2x2240x12x64, .f32⟩
  | .hbm, ⟨12, _⟩ => ⟨S2x12x2240x64, .f32⟩
  | .hbm, ⟨13, _⟩ => ⟨S2x12x143360, .f32⟩
  | .hbm, ⟨14, _⟩ => ⟨S2x12x8x16384, .f32⟩
  | .hbm, ⟨15, _⟩ => ⟨S2x12x8x64x256, .f32⟩
  | .hbm, ⟨16, _⟩ => ⟨S768x768, .f32⟩
  | .hbm, ⟨17, _⟩ => ⟨S2x2048x768, .f32⟩
  | .local .tc .vmem, ⟨0, _⟩ => ⟨S1x1x1x64x256, .f32⟩
  | .local .tc .vmem, ⟨1, _⟩ => ⟨S1x1x1x64x256, .f32⟩
  | .local .tc .vmem, ⟨2, _⟩ => ⟨S64x768, .f32⟩
  | .local .tc .vmem, ⟨3, _⟩ => ⟨S64x768, .f32⟩
  | .local .tc .vmem, ⟨4, _⟩ => ⟨S1x256x768, .f32⟩
  | .local .tc .vmem, ⟨5, _⟩ => ⟨S1x256x768, .f32⟩
  | .local .scVector .vmem, ⟨0, _⟩ => ⟨S28672, .f32⟩
  | .local .scVector .vmem, ⟨1, _⟩ => ⟨S16x256, .f32⟩
  | .local .scVector .vmem, ⟨2, _⟩ => ⟨S16x256, .f32⟩
  | .local .scVector .vmem, ⟨3, _⟩ => ⟨S16x256, .i32⟩
  | .local .scVector .vmem, ⟨4, _⟩ => ⟨S16384, .f32⟩
  | _, _ => ⟨S2x2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v6_scv : Ref sig .scVector := ⟨.hbm, 13, rfl⟩
abbrev main_v0_scv : Ref sig .scVector := ⟨.hbm, 5, rfl⟩
abbrev main_v1_scv : Ref sig .scVector := ⟨.hbm, 6, rfl⟩
abbrev main_v2_scv : Ref sig .scVector := ⟨.hbm, 7, rfl⟩
abbrev main_v7_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c6_i32 : BitVec 32 := 6#32
  let v2 : BitVec 32 := Scalar.addi c0_i32_0 c6_i32
  let c1_i32 : BitVec 32 := 1#32
  ⟨c0_i32_0, v2, c1_i32⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v3 : BitVec 32 := Scalar.muli v1 c6_i32_2
  let c0_i32_0 : BitVec 32 := 0#32
  let c1_i32 : BitVec 32 := 1#32
  let arg12 : BitVec 32 := Scf.iv c0_i32_0 c1_i32 k0_t1
  let v4 : BitVec 32 := Scalar.addi v3 arg12
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c96_i32 : BitVec 32 := 96#32
  let c0_i32_5 : BitVec 32 := 0#32
  let v11 : BitVec 1 := Scalar.cmpi .sgt c96_i32 c0_i32_5
  let v12 : BitVec 32 := Scalar.extui v11
  let c0_i32_6 : BitVec 32 := 0#32
  let v13 : BitVec 1 := Scalar.cmpi .slt c96_i32 c0_i32_6
  let v14 : BitVec 32 := Scalar.extui v13
  let v15 : BitVec 32 := Scalar.subi v12 v14
  let v16 : BitVec 1 := Scalar.cmpi .ne v10 v15
  let v17 : BitVec 32 := Scalar.remsi v4 c96_i32
  let c0_i32_7 : BitVec 32 := 0#32
  let v18 : BitVec 1 := Scalar.cmpi .ne v17 c0_i32_7
  let v19 : BitVec 1 := Scalar.andi v16 v18
  let v5 : BitVec 32 := Scalar.divsi v4 c96_i32
  let c1_i32_8 : BitVec 32 := 1#32
  let v20 : BitVec 32 := Scalar.subi v5 c1_i32_8
  let v21 : BitVec 32 := Scalar.select v19 v20 v5
  let c96_i32_9 : BitVec 32 := 96#32
  let c0_i32_10 : BitVec 32 := 0#32
  let v22 : BitVec 1 := Scalar.cmpi .eq c96_i32_9 c0_i32_10
  let c1_i32_11 : BitVec 32 := 1#32
  let v23 : BitVec 32 := Scalar.select v22 c1_i32_11 c96_i32_9
  let v24 : BitVec 32 := Scalar.remsi v4 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c8_i32 : BitVec 32 := 8#32
  let c0_i32_17 : BitVec 32 := 0#32
  let v38 : BitVec 1 := Scalar.cmpi .sgt c8_i32 c0_i32_17
  let v39 : BitVec 32 := Scalar.extui v38
  let c0_i32_18 : BitVec 32 := 0#32
  let v40 : BitVec 1 := Scalar.cmpi .slt c8_i32 c0_i32_18
  let v41 : BitVec 32 := Scalar.extui v40
  let v42 : BitVec 32 := Scalar.subi v39 v41
  let v43 : BitVec 1 := Scalar.cmpi .ne v37 v42
  let v44 : BitVec 32 := Scalar.remsi v31 c8_i32
  let c0_i32_19 : BitVec 32 := 0#32
  let v45 : BitVec 1 := Scalar.cmpi .ne v44 c0_i32_19
  let v46 : BitVec 1 := Scalar.andi v43 v45
  let v32 : BitVec 32 := Scalar.divsi v31 c8_i32
  let c1_i32_20 : BitVec 32 := 1#32
  let v47 : BitVec 32 := Scalar.subi v32 c1_i32_20
  let v48 : BitVec 32 := Scalar.select v46 v47 v32
  let c8_i32_21 : BitVec 32 := 8#32
  let c0_i32_22 : BitVec 32 := 0#32
  let v49 : BitVec 1 := Scalar.cmpi .eq c8_i32_21 c0_i32_22
  let c1_i32_23 : BitVec 32 := 1#32
  let v50 : BitVec 32 := Scalar.select v49 c1_i32_23 c8_i32_21
  let v51 : BitVec 32 := Scalar.remsi v31 v50
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let c0_i32_24 : BitVec 32 := 0#32
  let v52 : BitVec 1 := Scalar.cmpi .ne v51 c0_i32_24
  let v56 : BitVec 1 := Scalar.andi v55 v52
  let v57 : BitVec 32 := Scalar.addi v51 v50
  let v58 : BitVec 32 := Scalar.select v56 v57 v51
  let c256_i32 : BitVec 32 := 256#32
  let v59 : BitVec 32 := Scalar.muli v58 c256_i32
  let c64_i32 : BitVec 32 := 64#32
  let v60 : BitVec 32 := Scalar.muli v59 c64_i32
  ![v21.toNat, v48.toNat, v60.toNat]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v3 : BitVec 32 := Scalar.muli v1 c6_i32_2
  let c0_i32_0 : BitVec 32 := 0#32
  let c1_i32 : BitVec 32 := 1#32
  let arg12 : BitVec 32 := Scf.iv c0_i32_0 c1_i32 k0_t1
  let v4 : BitVec 32 := Scalar.addi v3 arg12
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c96_i32 : BitVec 32 := 96#32
  let c0_i32_5 : BitVec 32 := 0#32
  let v11 : BitVec 1 := Scalar.cmpi .sgt c96_i32 c0_i32_5
  let v12 : BitVec 32 := Scalar.extui v11
  let c0_i32_6 : BitVec 32 := 0#32
  let v13 : BitVec 1 := Scalar.cmpi .slt c96_i32 c0_i32_6
  let v14 : BitVec 32 := Scalar.extui v13
  let v15 : BitVec 32 := Scalar.subi v12 v14
  let v16 : BitVec 1 := Scalar.cmpi .ne v10 v15
  let v17 : BitVec 32 := Scalar.remsi v4 c96_i32
  let c0_i32_7 : BitVec 32 := 0#32
  let v18 : BitVec 1 := Scalar.cmpi .ne v17 c0_i32_7
  let v19 : BitVec 1 := Scalar.andi v16 v18
  let v5 : BitVec 32 := Scalar.divsi v4 c96_i32
  let c1_i32_8 : BitVec 32 := 1#32
  let v20 : BitVec 32 := Scalar.subi v5 c1_i32_8
  let v21 : BitVec 32 := Scalar.select v19 v20 v5
  let c96_i32_9 : BitVec 32 := 96#32
  let c0_i32_10 : BitVec 32 := 0#32
  let v22 : BitVec 1 := Scalar.cmpi .eq c96_i32_9 c0_i32_10
  let c1_i32_11 : BitVec 32 := 1#32
  let v23 : BitVec 32 := Scalar.select v22 c1_i32_11 c96_i32_9
  let v24 : BitVec 32 := Scalar.remsi v4 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c8_i32 : BitVec 32 := 8#32
  let c0_i32_17 : BitVec 32 := 0#32
  let v38 : BitVec 1 := Scalar.cmpi .sgt c8_i32 c0_i32_17
  let v39 : BitVec 32 := Scalar.extui v38
  let c0_i32_18 : BitVec 32 := 0#32
  let v40 : BitVec 1 := Scalar.cmpi .slt c8_i32 c0_i32_18
  let v41 : BitVec 32 := Scalar.extui v40
  let v42 : BitVec 32 := Scalar.subi v39 v41
  let v43 : BitVec 1 := Scalar.cmpi .ne v37 v42
  let v44 : BitVec 32 := Scalar.remsi v31 c8_i32
  let c0_i32_19 : BitVec 32 := 0#32
  let v45 : BitVec 1 := Scalar.cmpi .ne v44 c0_i32_19
  let v46 : BitVec 1 := Scalar.andi v43 v45
  let v32 : BitVec 32 := Scalar.divsi v31 c8_i32
  let c1_i32_20 : BitVec 32 := 1#32
  let v47 : BitVec 32 := Scalar.subi v32 c1_i32_20
  let v48 : BitVec 32 := Scalar.select v46 v47 v32
  let c16_i32 : BitVec 32 := 16#32
  let v61 : BitVec 32 := Scalar.muli v48 c16_i32
  let c8_i32_21 : BitVec 32 := 8#32
  let c0_i32_22 : BitVec 32 := 0#32
  let v49 : BitVec 1 := Scalar.cmpi .eq c8_i32_21 c0_i32_22
  let c1_i32_23 : BitVec 32 := 1#32
  let v50 : BitVec 32 := Scalar.select v49 c1_i32_23 c8_i32_21
  let v51 : BitVec 32 := Scalar.remsi v31 v50
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let c0_i32_24 : BitVec 32 := 0#32
  let v52 : BitVec 1 := Scalar.cmpi .ne v51 c0_i32_24
  let v56 : BitVec 1 := Scalar.andi v55 v52
  let v57 : BitVec 32 := Scalar.addi v51 v50
  let v58 : BitVec 32 := Scalar.select v56 v57 v51
  let c256_i32_27 : BitVec 32 := 256#32
  let v62 : BitVec 32 := Scalar.muli v58 c256_i32_27
  ![v21.toNat, v61.toNat, v62.toNat]
@[reducible] def k0_t2_loop : Scf.Loop 32 :=
  let c0_i32_33 : BitVec 32 := 0#32
  let c16_i32_34 : BitVec 32 := 16#32
  let v67 : BitVec 32 := Scalar.addi c0_i32_33 c16_i32_34
  let c1_i32_35 : BitVec 32 := 1#32
  ⟨c0_i32_33, v67, c1_i32_35⟩
def k0_off3 (k0_t2 : Fin k0_t2_loop.trips) : Fin 2 → Nat :=
  let c0_i32_38 : BitVec 32 := 0#32
  let v69 : Index := Scalar.indexCast c0_i32_38
  let c0_i32_33 : BitVec 32 := 0#32
  let c1_i32_35 : BitVec 32 := 1#32
  let arg13 : BitVec 32 := Scf.iv c0_i32_33 c1_i32_35 k0_t2
  let c16_i32_37 : BitVec 32 := 16#32
  let v68 : BitVec 32 := Scalar.muli arg13 c16_i32_37
  let v70 : Index := Scalar.indexCast v68
  ![0, v70.toNat]
def k0_off4 (k0_t2 : Fin k0_t2_loop.trips) : Fin 2 → Nat :=
  let c1_i32_39 : BitVec 32 := 1#32
  let v72 : Index := Scalar.indexCast c1_i32_39
  let c0_i32_33 : BitVec 32 := 0#32
  let c1_i32_35 : BitVec 32 := 1#32
  let arg13 : BitVec 32 := Scf.iv c0_i32_33 c1_i32_35 k0_t2
  let c16_i32_37 : BitVec 32 := 16#32
  let v68 : BitVec 32 := Scalar.muli arg13 c16_i32_37
  let v73 : Index := Scalar.indexCast v68
  ![1, v73.toNat]
def k0_off5 (k0_t2 : Fin k0_t2_loop.trips) : Fin 2 → Nat :=
  let c2_i32_40 : BitVec 32 := 2#32
  let v75 : Index := Scalar.indexCast c2_i32_40
  let c0_i32_33 : BitVec 32 := 0#32
  let c1_i32_35 : BitVec 32 := 1#32
  let arg13 : BitVec 32 := Scf.iv c0_i32_33 c1_i32_35 k0_t2
  let c16_i32_37 : BitVec 32 := 16#32
  let v68 : BitVec 32 := Scalar.muli arg13 c16_i32_37
  let v76 : Index := Scalar.indexCast v68
  ![2, v76.toNat]
def k0_off6 (k0_t2 : Fin k0_t2_loop.trips) : Fin 2 → Nat :=
  let c3_i32 : BitVec 32 := 3#32
  let v78 : Index := Scalar.indexCast c3_i32
  let c0_i32_33 : BitVec 32 := 0#32
  let c1_i32_35 : BitVec 32 := 1#32
  let arg13 : BitVec 32 := Scf.iv c0_i32_33 c1_i32_35 k0_t2
  let c16_i32_37 : BitVec 32 := 16#32
  let v68 : BitVec 32 := Scalar.muli arg13 c16_i32_37
  let v79 : Index := Scalar.indexCast v68
  ![3, v79.toNat]
def k0_off7 (k0_t2 : Fin k0_t2_loop.trips) : Fin 2 → Nat :=
  let c4_i32 : BitVec 32 := 4#32
  let v81 : Index := Scalar.indexCast c4_i32
  let c0_i32_33 : BitVec 32 := 0#32
  let c1_i32_35 : BitVec 32 := 1#32
  let arg13 : BitVec 32 := Scf.iv c0_i32_33 c1_i32_35 k0_t2
  let c16_i32_37 : BitVec 32 := 16#32
  let v68 : BitVec 32 := Scalar.muli arg13 c16_i32_37
  let v82 : Index := Scalar.indexCast v68
  ![4, v82.toNat]
def k0_off8 (k0_t2 : Fin k0_t2_loop.trips) : Fin 2 → Nat :=
  let c5_i32 : BitVec 32 := 5#32
  let v84 : Index := Scalar.indexCast c5_i32
  let c0_i32_33 : BitVec 32 := 0#32
  let c1_i32_35 : BitVec 32 := 1#32
  let arg13 : BitVec 32 := Scf.iv c0_i32_33 c1_i32_35 k0_t2
  let c16_i32_37 : BitVec 32 := 16#32
  let v68 : BitVec 32 := Scalar.muli arg13 c16_i32_37
  let v85 : Index := Scalar.indexCast v68
  ![5, v85.toNat]
def k0_off9 (k0_t2 : Fin k0_t2_loop.trips) : Fin 2 → Nat :=
  let c6_i32_41 : BitVec 32 := 6#32
  let v87 : Index := Scalar.indexCast c6_i32_41
  let c0_i32_33 : BitVec 32 := 0#32
  let c1_i32_35 : BitVec 32 := 1#32
  let arg13 : BitVec 32 := Scf.iv c0_i32_33 c1_i32_35 k0_t2
  let c16_i32_37 : BitVec 32 := 16#32
  let v68 : BitVec 32 := Scalar.muli arg13 c16_i32_37
  let v88 : Index := Scalar.indexCast v68
  ![6, v88.toNat]
def k0_off10 (k0_t2 : Fin k0_t2_loop.trips) : Fin 2 → Nat :=
  let c7_i32 : BitVec 32 := 7#32
  let v90 : Index := Scalar.indexCast c7_i32
  let c0_i32_33 : BitVec 32 := 0#32
  let c1_i32_35 : BitVec 32 := 1#32
  let arg13 : BitVec 32 := Scf.iv c0_i32_33 c1_i32_35 k0_t2
  let c16_i32_37 : BitVec 32 := 16#32
  let v68 : BitVec 32 := Scalar.muli arg13 c16_i32_37
  let v91 : Index := Scalar.indexCast v68
  ![7, v91.toNat]
def k0_off11 (k0_t2 : Fin k0_t2_loop.trips) : Fin 2 → Nat :=
  let c8_i32_42 : BitVec 32 := 8#32
  let v93 : Index := Scalar.indexCast c8_i32_42
  let c0_i32_33 : BitVec 32 := 0#32
  let c1_i32_35 : BitVec 32 := 1#32
  let arg13 : BitVec 32 := Scf.iv c0_i32_33 c1_i32_35 k0_t2
  let c16_i32_37 : BitVec 32 := 16#32
  let v68 : BitVec 32 := Scalar.muli arg13 c16_i32_37
  let v94 : Index := Scalar.indexCast v68
  ![8, v94.toNat]
@[reducible] def k0_t3_loop : Scf.Loop 32 :=
  let c0_i32_70 : BitVec 32 := 0#32
  let c64_i32_71 : BitVec 32 := 64#32
  let v168 : BitVec 32 := Scalar.addi c0_i32_70 c64_i32_71
  let c1_i32_72 : BitVec 32 := 1#32
  ⟨c0_i32_70, v168, c1_i32_72⟩

def k0_chk1 (v172 : IVec S16 32) : Prop :=
  (∀ a x, ((![v172] : Fin 1 → IVec S16 32) a x).toNat < S28672.size a)
theorem k0_idx1_inb : ∀ (v172 : IVec S16 32) (k0_hw1 : k0_chk1 v172), ∀ a x, ((![v172] : Fin 1 → IVec S16 32) a x).toNat < S28672.size a := fun v172 k0_hw1 => k0_hw1

def k0_chk2 (v175 : IVec S16 32) : Prop :=
  (∀ a x, ((![v175] : Fin 1 → IVec S16 32) a x).toNat < S28672.size a)
theorem k0_idx2_inb : ∀ (v175 : IVec S16 32) (k0_hw2 : k0_chk2 v175), ∀ a x, ((![v175] : Fin 1 → IVec S16 32) a x).toNat < S28672.size a := fun v175 k0_hw2 => k0_hw2

def k0_chk3 (v181 : IVec S16 32) : Prop :=
  (∀ a x, ((![v181] : Fin 1 → IVec S16 32) a x).toNat < S28672.size a)
theorem k0_idx3_inb : ∀ (v181 : IVec S16 32) (k0_hw3 : k0_chk3 v181), ∀ a x, ((![v181] : Fin 1 → IVec S16 32) a x).toNat < S28672.size a := fun v181 k0_hw3 => k0_hw3

def k0_chk4 (v184 : IVec S16 32) : Prop :=
  (∀ a x, ((![v184] : Fin 1 → IVec S16 32) a x).toNat < S28672.size a)
theorem k0_idx4_inb : ∀ (v184 : IVec S16 32) (k0_hw4 : k0_chk4 v184), ∀ a x, ((![v184] : Fin 1 → IVec S16 32) a x).toNat < S28672.size a := fun v184 k0_hw4 => k0_hw4

def k0_chk5 (v190 : IVec S16 32) : Prop :=
  (∀ a x, ((![v190] : Fin 1 → IVec S16 32) a x).toNat < S28672.size a)
theorem k0_idx5_inb : ∀ (v190 : IVec S16 32) (k0_hw5 : k0_chk5 v190), ∀ a x, ((![v190] : Fin 1 → IVec S16 32) a x).toNat < S28672.size a := fun v190 k0_hw5 => k0_hw5

def k0_chk6 (v193 : IVec S16 32) : Prop :=
  (∀ a x, ((![v193] : Fin 1 → IVec S16 32) a x).toNat < S28672.size a)
theorem k0_idx6_inb : ∀ (v193 : IVec S16 32) (k0_hw6 : k0_chk6 v193), ∀ a x, ((![v193] : Fin 1 → IVec S16 32) a x).toNat < S28672.size a := fun v193 k0_hw6 => k0_hw6

def k0_chk7 (v199 : IVec S16 32) : Prop :=
  (∀ a x, ((![v199] : Fin 1 → IVec S16 32) a x).toNat < S28672.size a)
theorem k0_idx7_inb : ∀ (v199 : IVec S16 32) (k0_hw7 : k0_chk7 v199), ∀ a x, ((![v199] : Fin 1 → IVec S16 32) a x).toNat < S28672.size a := fun v199 k0_hw7 => k0_hw7

def k0_chk8 (v202 : IVec S16 32) : Prop :=
  (∀ a x, ((![v202] : Fin 1 → IVec S16 32) a x).toNat < S28672.size a)
theorem k0_idx8_inb : ∀ (v202 : IVec S16 32) (k0_hw8 : k0_chk8 v202), ∀ a x, ((![v202] : Fin 1 → IVec S16 32) a x).toNat < S28672.size a := fun v202 k0_hw8 => k0_hw8

def k0_chk9 (v208 : IVec S16 32) : Prop :=
  (∀ a x, ((![v208] : Fin 1 → IVec S16 32) a x).toNat < S28672.size a)
theorem k0_idx9_inb : ∀ (v208 : IVec S16 32) (k0_hw9 : k0_chk9 v208), ∀ a x, ((![v208] : Fin 1 → IVec S16 32) a x).toNat < S28672.size a := fun v208 k0_hw9 => k0_hw9

def k0_chk10 (v211 : IVec S16 32) : Prop :=
  (∀ a x, ((![v211] : Fin 1 → IVec S16 32) a x).toNat < S28672.size a)
theorem k0_idx10_inb : ∀ (v211 : IVec S16 32) (k0_hw10 : k0_chk10 v211), ∀ a x, ((![v211] : Fin 1 → IVec S16 32) a x).toNat < S28672.size a := fun v211 k0_hw10 => k0_hw10

def k0_chk11 (v217 : IVec S16 32) : Prop :=
  (∀ a x, ((![v217] : Fin 1 → IVec S16 32) a x).toNat < S28672.size a)
theorem k0_idx11_inb : ∀ (v217 : IVec S16 32) (k0_hw11 : k0_chk11 v217), ∀ a x, ((![v217] : Fin 1 → IVec S16 32) a x).toNat < S28672.size a := fun v217 k0_hw11 => k0_hw11

def k0_chk12 (v220 : IVec S16 32) : Prop :=
  (∀ a x, ((![v220] : Fin 1 → IVec S16 32) a x).toNat < S28672.size a)
theorem k0_idx12_inb : ∀ (v220 : IVec S16 32) (k0_hw12 : k0_chk12 v220), ∀ a x, ((![v220] : Fin 1 → IVec S16 32) a x).toNat < S28672.size a := fun v220 k0_hw12 => k0_hw12

def k0_chk13 (v226 : IVec S16 32) : Prop :=
  (∀ a x, ((![v226] : Fin 1 → IVec S16 32) a x).toNat < S28672.size a)
theorem k0_idx13_inb : ∀ (v226 : IVec S16 32) (k0_hw13 : k0_chk13 v226), ∀ a x, ((![v226] : Fin 1 → IVec S16 32) a x).toNat < S28672.size a := fun v226 k0_hw13 => k0_hw13

def k0_chk14 (v229 : IVec S16 32) : Prop :=
  (∀ a x, ((![v229] : Fin 1 → IVec S16 32) a x).toNat < S28672.size a)
theorem k0_idx14_inb : ∀ (v229 : IVec S16 32) (k0_hw14 : k0_chk14 v229), ∀ a x, ((![v229] : Fin 1 → IVec S16 32) a x).toNat < S28672.size a := fun v229 k0_hw14 => k0_hw14

def k0_chk15 (v235 : IVec S16 32) : Prop :=
  (∀ a x, ((![v235] : Fin 1 → IVec S16 32) a x).toNat < S28672.size a)
theorem k0_idx15_inb : ∀ (v235 : IVec S16 32) (k0_hw15 : k0_chk15 v235), ∀ a x, ((![v235] : Fin 1 → IVec S16 32) a x).toNat < S28672.size a := fun v235 k0_hw15 => k0_hw15

def k0_chk16 (v238 : IVec S16 32) : Prop :=
  (∀ a x, ((![v238] : Fin 1 → IVec S16 32) a x).toNat < S28672.size a)
theorem k0_idx16_inb : ∀ (v238 : IVec S16 32) (k0_hw16 : k0_chk16 v238), ∀ a x, ((![v238] : Fin 1 → IVec S16 32) a x).toNat < S28672.size a := fun v238 k0_hw16 => k0_hw16

def k0_chk17 (v244 : IVec S16 32) : Prop :=
  (∀ a x, ((![v244] : Fin 1 → IVec S16 32) a x).toNat < S28672.size a)
theorem k0_idx17_inb : ∀ (v244 : IVec S16 32) (k0_hw17 : k0_chk17 v244), ∀ a x, ((![v244] : Fin 1 → IVec S16 32) a x).toNat < S28672.size a := fun v244 k0_hw17 => k0_hw17

def k0_chk18 (v247 : IVec S16 32) : Prop :=
  (∀ a x, ((![v247] : Fin 1 → IVec S16 32) a x).toNat < S28672.size a)
theorem k0_idx18_inb : ∀ (v247 : IVec S16 32) (k0_hw18 : k0_chk18 v247), ∀ a x, ((![v247] : Fin 1 → IVec S16 32) a x).toNat < S28672.size a := fun v247 k0_hw18 => k0_hw18
def k0_off12 (k0_t2 : Fin k0_t2_loop.trips) (k0_t3 : Fin k0_t3_loop.trips) : Fin 1 → Nat :=
  let c0_i32_75 : BitVec 32 := 0#32
  let c0_i32_70 : BitVec 32 := 0#32
  let c1_i32_72 : BitVec 32 := 1#32
  let arg14 : BitVec 32 := Scf.iv c0_i32_70 c1_i32_72 k0_t3
  let c1_i32_74 : BitVec 32 := 1#32
  let v169 : BitVec 32 := Scalar.muli arg14 c1_i32_74
  let v170 : BitVec 32 := Scalar.addi c0_i32_75 v169
  let c256_i32_76 : BitVec 32 := 256#32
  let v260 : BitVec 32 := Scalar.muli v170 c256_i32_76
  let c0_i32_33 : BitVec 32 := 0#32
  let c1_i32_35 : BitVec 32 := 1#32
  let arg13 : BitVec 32 := Scf.iv c0_i32_33 c1_i32_35 k0_t2
  let c16_i32_37 : BitVec 32 := 16#32
  let v68 : BitVec 32 := Scalar.muli arg13 c16_i32_37
  let v261 : BitVec 32 := Scalar.addi v260 v68
  let v262 : Index := Scalar.indexCast v261
  ![v262.toNat]
def k0_off13 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v3 : BitVec 32 := Scalar.muli v1 c6_i32_2
  let c0_i32_0 : BitVec 32 := 0#32
  let c1_i32 : BitVec 32 := 1#32
  let arg12 : BitVec 32 := Scf.iv c0_i32_0 c1_i32 k0_t1
  let v4 : BitVec 32 := Scalar.addi v3 arg12
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c96_i32 : BitVec 32 := 96#32
  let c0_i32_5 : BitVec 32 := 0#32
  let v11 : BitVec 1 := Scalar.cmpi .sgt c96_i32 c0_i32_5
  let v12 : BitVec 32 := Scalar.extui v11
  let c0_i32_6 : BitVec 32 := 0#32
  let v13 : BitVec 1 := Scalar.cmpi .slt c96_i32 c0_i32_6
  let v14 : BitVec 32 := Scalar.extui v13
  let v15 : BitVec 32 := Scalar.subi v12 v14
  let v16 : BitVec 1 := Scalar.cmpi .ne v10 v15
  let v17 : BitVec 32 := Scalar.remsi v4 c96_i32
  let c0_i32_7 : BitVec 32 := 0#32
  let v18 : BitVec 1 := Scalar.cmpi .ne v17 c0_i32_7
  let v19 : BitVec 1 := Scalar.andi v16 v18
  let v5 : BitVec 32 := Scalar.divsi v4 c96_i32
  let c1_i32_8 : BitVec 32 := 1#32
  let v20 : BitVec 32 := Scalar.subi v5 c1_i32_8
  let v21 : BitVec 32 := Scalar.select v19 v20 v5
  let c96_i32_9 : BitVec 32 := 96#32
  let c0_i32_10 : BitVec 32 := 0#32
  let v22 : BitVec 1 := Scalar.cmpi .eq c96_i32_9 c0_i32_10
  let c1_i32_11 : BitVec 32 := 1#32
  let v23 : BitVec 32 := Scalar.select v22 c1_i32_11 c96_i32_9
  let v24 : BitVec 32 := Scalar.remsi v4 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c8_i32 : BitVec 32 := 8#32
  let c0_i32_17 : BitVec 32 := 0#32
  let v38 : BitVec 1 := Scalar.cmpi .sgt c8_i32 c0_i32_17
  let v39 : BitVec 32 := Scalar.extui v38
  let c0_i32_18 : BitVec 32 := 0#32
  let v40 : BitVec 1 := Scalar.cmpi .slt c8_i32 c0_i32_18
  let v41 : BitVec 32 := Scalar.extui v40
  let v42 : BitVec 32 := Scalar.subi v39 v41
  let v43 : BitVec 1 := Scalar.cmpi .ne v37 v42
  let v44 : BitVec 32 := Scalar.remsi v31 c8_i32
  let c0_i32_19 : BitVec 32 := 0#32
  let v45 : BitVec 1 := Scalar.cmpi .ne v44 c0_i32_19
  let v46 : BitVec 1 := Scalar.andi v43 v45
  let v32 : BitVec 32 := Scalar.divsi v31 c8_i32
  let c1_i32_20 : BitVec 32 := 1#32
  let v47 : BitVec 32 := Scalar.subi v32 c1_i32_20
  let v48 : BitVec 32 := Scalar.select v46 v47 v32
  let c8_i32_21 : BitVec 32 := 8#32
  let c0_i32_22 : BitVec 32 := 0#32
  let v49 : BitVec 1 := Scalar.cmpi .eq c8_i32_21 c0_i32_22
  let c1_i32_23 : BitVec 32 := 1#32
  let v50 : BitVec 32 := Scalar.select v49 c1_i32_23 c8_i32_21
  let v51 : BitVec 32 := Scalar.remsi v31 v50
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let c0_i32_24 : BitVec 32 := 0#32
  let v52 : BitVec 1 := Scalar.cmpi .ne v51 c0_i32_24
  let v56 : BitVec 1 := Scalar.andi v55 v52
  let v57 : BitVec 32 := Scalar.addi v51 v50
  let v58 : BitVec 32 := Scalar.select v56 v57 v51
  let c0_i32_37_r4 : BitVec 32 := 0#32
  ![v21.toNat, v48.toNat, v58.toNat, 0]
abbrev grid1 : Pipeline.Grid := ⟨3, ![2, 8, 12], ![false, false, false]⟩

def cc1_transform_0 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x1x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S64x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1x256x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== MixRefIdeal.lean ====
abbrev S2x2048x768 : Shape := ⟨3, ![2, 2048, 768]⟩
abbrev S2x2048x192 : Shape := ⟨3, ![2, 2048, 192]⟩
abbrev S768x768 : Shape := ⟨2, ![768, 768]⟩
abbrev S2x2048x12x16 : Shape := ⟨4, ![2, 2048, 12, 16]⟩
abbrev S2x2048x12x9 : Shape := ⟨4, ![2, 2048, 12, 9]⟩
abbrev S2x12x2048x9 : Shape := ⟨4, ![2, 12, 2048, 9]⟩
abbrev S_ : Shape := ⟨0, ![]⟩
abbrev S2048 : Shape := ⟨1, ![2048]⟩
abbrev S1x1x2048x1 : Shape := ⟨4, ![1, 1, 2048, 1]⟩
abbrev S2x2240x768 : Shape := ⟨3, ![2, 2240, 768]⟩
abbrev S2x2240x12x64 : Shape := ⟨4, ![2, 2240, 12, 64]⟩
abbrev S2x12x2240x64 : Shape := ⟨4, ![2, 12, 2240, 64]⟩
abbrev S2x12x2048x9x1 : Shape := ⟨5, ![2, 12, 2048, 9, 1]⟩
abbrev S2x12x2048x9x64 : Shape := ⟨5, ![2, 12, 2048, 9, 64]⟩
abbrev S2x12x2048x64 : Shape := ⟨4, ![2, 12, 2048, 64]⟩
abbrev S2x2048x12x64 : Shape := ⟨4, ![2, 2048, 12, 64]⟩

abbrev nBuf : Space → Nat
  | .hbm => 95
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x192, .f32⟩
  | .hbm, ⟨2, _⟩ => ⟨S2x2048x192, .f32⟩
  | .hbm, ⟨3, _⟩ => ⟨S2x2048x192, .i32⟩
  | .hbm, ⟨4, _⟩ => ⟨S768x768, .f32⟩
  | .hbm, ⟨5, _⟩ => ⟨S2x2048x12x16, .f32⟩
  | .hbm, ⟨6, _⟩ => ⟨S2x2048x12x9, .f32⟩
  | .hbm, ⟨7, _⟩ => ⟨S2x12x2048x9, .f32⟩
  | .hbm, ⟨8, _⟩ => ⟨S2x2048x12x16, .f32⟩
  | .hbm, ⟨9, _⟩ => ⟨S2x2048x12x9, .f32⟩
  | .hbm, ⟨10, _⟩ => ⟨S2x12x2048x9, .f32⟩
  | .hbm, ⟨11, _⟩ => ⟨S_, .i32⟩
  | .hbm, ⟨12, _⟩ => ⟨S_, .i32⟩
  | .hbm, ⟨13, _⟩ => ⟨S2x2048x192, .i32⟩
  | .hbm, ⟨14, _⟩ => ⟨S2x2048x192, .i32⟩
  | .hbm, ⟨15, _⟩ => ⟨S2x2048x192, .i32⟩
  | .hbm, ⟨16, _⟩ => ⟨S_, .i32⟩
  | .hbm, ⟨17, _⟩ => ⟨S2x2048x192, .i32⟩
  | .hbm, ⟨18, _⟩ => ⟨S2x2048x192, .i1⟩
  | .hbm, ⟨19, _⟩ => ⟨S2x2048x192, .i32⟩
  | .hbm, ⟨20, _⟩ => ⟨S2x2048x192, .i32⟩
  | .hbm, ⟨21, _⟩ => ⟨S_, .i32⟩
  | .hbm, ⟨22, _⟩ => ⟨S2x2048x192, .i32⟩
  | .hbm, ⟨23, _⟩ => ⟨S2x2048x192, .i1⟩
  | .hbm, ⟨24, _⟩ => ⟨S2x2048x192, .i1⟩
  | .hbm, ⟨25, _⟩ => ⟨S_, .i32⟩
  | .hbm, ⟨26, _⟩ => ⟨S2x2048x192, .i32⟩
  | .hbm, ⟨27, _⟩ => ⟨S2x2048x192, .i32⟩
  | .hbm, ⟨28, _⟩ => ⟨S2x2048x192, .i32⟩
  | .hbm, ⟨29, _⟩ => ⟨S2x2048x12x16, .i32⟩
  | .hbm, ⟨30, _⟩ => ⟨S2x2048x12x9, .i32⟩
  | .hbm, ⟨31, _⟩ => ⟨S2x12x2048x9, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S1x1x2048x1, .i32⟩
  | .hbm, ⟨55, _⟩ => ⟨S2x12x2048x9, .i32⟩
  | .hbm, ⟨56, _⟩ => ⟨S2x12x2048x9, .i32⟩
  | .hbm, ⟨57, _⟩ => ⟨S_, .i32⟩
  | .hbm, ⟨58, _⟩ => ⟨S_, .f32⟩
  | .hbm, ⟨59, _⟩ => ⟨S2x2240x768, .f32⟩
  | .hbm, ⟨60, _⟩ => ⟨S2x2240x12x64, .f32⟩
  | .hbm, ⟨61, _⟩ => ⟨S2x12x2240x64, .f32⟩
  | .hbm, ⟨62, _⟩ => ⟨S_, .i32⟩
  | .hbm, ⟨63, _⟩ => ⟨S2x12x2048x9, .i32⟩
  | .hbm, ⟨64, _⟩ => ⟨S2x12x2048x9, .i1⟩
  | .hbm, ⟨65, _⟩ => ⟨S_, .i32⟩
  | .hbm, ⟨66, _⟩ => ⟨S2x12x2048x9, .i32⟩
  | .hbm, ⟨67, _⟩ => ⟨S2x12x2048x9, .i32⟩
  | .hbm, ⟨68, _⟩ => ⟨S2x12x2048x9, .i32⟩
  | .hbm, ⟨69, _⟩ => ⟨S2x12x2048x9x1, .i32⟩
  | .hbm, ⟨70, _⟩ => ⟨S2x12x2048x9x64, .f32⟩
  | .hbm, ⟨71, _⟩ => ⟨S2x12x2048x9x1, .f32⟩
  | .hbm, ⟨72, _⟩ => ⟨S2x12x2048x9x64, .f32⟩
  | .hbm, ⟨73, _⟩ => ⟨S2x12x2048x9x64, .f32⟩
  | .hbm, ⟨74, _⟩ => ⟨S_, .i32⟩
  | .hbm, ⟨75, _⟩ => ⟨S2x12x2048x9, .i32⟩
  | .hbm, ⟨76, _⟩ => ⟨S2x12x2048x9, .i32⟩
  | .hbm, ⟨77, _⟩ => ⟨S_, .i32⟩
  | .hbm, ⟨78, _⟩ => ⟨S2x12x2048x9, .i32⟩
  | .hbm, ⟨79, _⟩ => ⟨S2x12x2048x9, .i1⟩
  | .hbm, ⟨80, _⟩ => ⟨S_, .i32⟩
  | .hbm, ⟨81, _⟩ => ⟨S2x12x2048x9, .i32⟩
  | .hbm, ⟨82, _⟩ => ⟨S2x12x2048x9, .i32⟩
  | .hbm, ⟨83, _⟩ => ⟨S2x12x2048x9, .i32⟩
  | .hbm, ⟨84, _⟩ => ⟨S2x12x2048x9x1, .i32⟩
  | .hbm, ⟨85, _⟩ => ⟨S2x12x2048x9x64, .f32⟩
  | .hbm, ⟨86, _⟩ => ⟨S2x12x2048x9x1, .f32⟩
  | .hbm, ⟨87, _⟩ => ⟨S2x12x2048x9x64, .f32⟩
  | .hbm, ⟨88, _⟩ => ⟨S2x12x2048x9x64, .f32⟩
  | .hbm, ⟨89, _⟩ => ⟨S2x12x2048x9x64, .f32⟩
  | .hbm, ⟨90, _⟩ => ⟨S_, .f32⟩
  | .hbm, ⟨91, _⟩ => ⟨S2x12x2048x64, .f32⟩
  | .hbm, ⟨92, _⟩ => ⟨S2x2048x12x64, .f32⟩
  | .hbm, ⟨93, _⟩ => ⟨S2x2048x768, .f32⟩
  | .hbm, ⟨94, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_c_2 : Ref sig .tc := ⟨.hbm, 57, rfl⟩
abbrev main_call2_v0 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_c_3 : Ref sig .tc := ⟨.hbm, 62, rfl⟩
abbrev main_v20 : Ref sig .tc := ⟨.hbm, 63, rfl⟩
abbrev main_v21 : Ref sig .tc := ⟨.hbm, 64, rfl⟩
abbrev main_c_4 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_5 : Ref sig .tc := ⟨.hbm, 74, rfl⟩
abbrev main_v30 : Ref sig .tc := ⟨.hbm, 75, rfl⟩
abbrev main_v31 : Ref sig .tc := ⟨.hbm, 76, rfl⟩
abbrev main_c_6 : Ref sig .tc := ⟨.hbm, 77, rfl⟩
abbrev main_v32 : Ref sig .tc := ⟨.hbm, 78, rfl⟩
abbrev main_v33 : Ref sig .tc := ⟨.hbm, 79, rfl⟩
abbrev main_c_7 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩

abbrev nD : Nat := 1
abbrev τ : Topo := Topo.v7x

variable {F : FTy → Type} [FloatOps F]
-- ==== Weights.lean ====
abbrev S2x2048x768 : Shape := ⟨3, ![2, 2048, 768]⟩
abbrev S24x768 : Shape := ⟨2, ![24, 768]⟩
abbrev S24 : Shape := ⟨1, ![24]⟩
abbrev S384x768 : Shape := ⟨2, ![384, 768]⟩
abbrev S384 : Shape := ⟨1, ![384]⟩
abbrev S1x768 : Shape := ⟨2, ![1, 768]⟩
abbrev S1 : Shape := ⟨1, ![1]⟩
abbrev S_ : Shape := ⟨0, ![]⟩
abbrev S768x128 : Shape := ⟨2, ![768, 128]⟩
abbrev S768x24 : Shape := ⟨2, ![768, 24]⟩
abbrev S128 : Shape := ⟨1, ![128]⟩
abbrev S768x1 : Shape := ⟨2, ![768, 1]⟩
abbrev S768x384 : Shape := ⟨2, ![768, 384]⟩
abbrev S2x2048x192 : Shape := ⟨3, ![2, 2048, 192]⟩
abbrev S1x256x768 : Shape := ⟨3, ![1, 256, 768]⟩
abbrev S1x256x192 : Shape := ⟨3, ![1, 256, 192]⟩
abbrev S256x768 : Shape := ⟨2, ![256, 768]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S256x12 : Shape := ⟨2, ![256, 12]⟩
abbrev S256x384 : Shape := ⟨2, ![256, 384]⟩
abbrev S1x384 : Shape := ⟨2, ![1, 384]⟩
abbrev S1x1 : Shape := ⟨2, ![1, 1]⟩
abbrev S256x32 : Shape := ⟨2, ![256, 32]⟩
abbrev S256x192 : Shape := ⟨2, ![256, 192]⟩

abbrev nBuf : Space → Nat
  | .hbm => 46
  | .vmem => 17
  | .smem => 0
  | _ => 0

abbrev bufTy : (tb : Table) → Fin (tcTables nBuf tb) → BufTy
  | .hbm, ⟨0, _⟩ => ⟨S2x2048x768, .f32⟩
  | .hbm, ⟨1, _⟩ => ⟨S24x768, .f32⟩
  | .hbm, ⟨2, _⟩ => ⟨S24, .f32⟩
  | .hbm, ⟨3, _⟩ => ⟨S24, .f32⟩
  | .hbm, ⟨4, _⟩ => ⟨S384x768, .f32⟩
  | .hbm, ⟨5, _⟩ => ⟨S384, .f32⟩
  | .hbm, ⟨6, _⟩ => ⟨S384, .f32⟩
  | .hbm, ⟨7, _⟩ => ⟨S1x768, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S768x128, .f32⟩
  | .hbm, ⟨12, _⟩ => ⟨S768x24, .f32⟩
  | .hbm, ⟨13, _⟩ => ⟨S_, .i32⟩
  | .hbm, ⟨14, _⟩ => ⟨S1, .i32⟩
  | .hbm, ⟨15, _⟩ => ⟨S768x128, .f32⟩
  | .hbm, ⟨16, _⟩ => ⟨S_, .f32⟩
  | .hbm, ⟨17, _⟩ => ⟨S128, .f32⟩
  | .hbm, ⟨18, _⟩ => ⟨S_, .i32⟩
  | .hbm, ⟨19, _⟩ => ⟨S1, .i32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S_, .i32⟩
  | .hbm, ⟨24, _⟩ => ⟨S1, .i32⟩
  | .hbm, ⟨25, _⟩ => ⟨S128, .f32⟩
  | .hbm, ⟨26, _⟩ => ⟨S_, .f32⟩
  | .hbm, ⟨27, _⟩ => ⟨S768x128, .f32⟩
  | .hbm, ⟨28, _⟩ => ⟨S768x1, .f32⟩
  | .hbm, ⟨29, _⟩ => ⟨S_, .i32⟩
  | .hbm, ⟨30, _⟩ => ⟨S1, .i32⟩
  | .hbm, ⟨31, _⟩ => ⟨S768x128, .f32⟩
  | .hbm, ⟨32, _⟩ => ⟨S_, .f32⟩
  | .hbm, ⟨33, _⟩ => ⟨S128, .f32⟩
  | .hbm, ⟨34, _⟩ => ⟨S_, .i32⟩
  | .hbm, ⟨35, _⟩ => ⟨S1, .i32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S_, .i32⟩
  | .hbm, ⟨40, _⟩ => ⟨S1, .i32⟩
  | .hbm, ⟨41, _⟩ => ⟨S128, .f32⟩
  | .hbm, ⟨42, _⟩ => ⟨S768x384, .f32⟩
  | .hbm, ⟨43, _⟩ => ⟨S2x2048x192, .f32⟩
  | .hbm, ⟨44, _⟩ => ⟨S2x2048x192, .f32⟩
  | .hbm, ⟨45, _⟩ => ⟨S2x2048x192, .i32⟩
  | .local _ .vmem, ⟨0, _⟩ => ⟨S1x256x768, .f32⟩
  | .local _ .vmem, ⟨1, _⟩ => ⟨S1x256x768, .f32⟩
  | .local _ .vmem, ⟨2, _⟩ => ⟨S768x128, .f32⟩
  | .local _ .vmem, ⟨3, _⟩ => ⟨S128, .f32⟩
  | .local _ .vmem, ⟨4, _⟩ => ⟨S128, .f32⟩
  | .local _ .vmem, ⟨5, _⟩ => ⟨S768x384, .f32⟩
  | .local _ .vmem, ⟨6, _⟩ => ⟨S384, .f32⟩
  | .local _ .vmem, ⟨7, _⟩ => ⟨S384, .f32⟩
  | .local _ .vmem, ⟨8, _⟩ => ⟨S768x128, .f32⟩
  | .local _ .vmem, ⟨9, _⟩ => ⟨S128, .f32⟩
  | .local _ .vmem, ⟨10, _⟩ => ⟨S128, .f32⟩
  | .local _ .vmem, ⟨11, _⟩ => ⟨S1x256x192, .f32⟩
  | .local _ .vmem, ⟨12, _⟩ => ⟨S1x256x192, .f32⟩
  | .local _ .vmem, ⟨13, _⟩ => ⟨S1x256x192, .f32⟩
  | .local _ .vmem, ⟨14, _⟩ => ⟨S1x256x192, .f32⟩
  | .local _ .vmem, ⟨15, _⟩ => ⟨S1x256x192, .i32⟩
  | .local _ .vmem, ⟨16, _⟩ => ⟨S1x256x192, .i32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_c_5 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_c_7 : Ref sig .tc := ⟨.hbm, 34, rfl⟩
abbrev main_v15 : Ref sig .tc := ⟨.hbm, 35, rfl⟩
abbrev main_v16 : Ref sig .tc := ⟨.hbm, 36, rfl⟩
abbrev main_cst_8 : Ref sig .tc := ⟨.hbm, 37, rfl⟩
abbrev main_v17 : Ref sig .tc := ⟨.hbm, 38, rfl⟩
abbrev main_c_9 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev main_v21_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x192 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== WeightsRefIdeal.lean ====
abbrev S2x2048x768 : Shape := ⟨3, ![2, 2048, 768]⟩
abbrev S24x768 : Shape := ⟨2, ![24, 768]⟩
abbrev S24 : Shape := ⟨1, ![24]⟩
abbrev S384x768 : Shape := ⟨2, ![384, 768]⟩
abbrev S384 : Shape := ⟨1, ![384]⟩
abbrev S1x768 : Shape := ⟨2, ![1, 768]⟩
abbrev S1 : Shape := ⟨1, ![1]⟩
abbrev S9 : Shape := ⟨1, ![9]⟩
abbrev S_ : Shape := ⟨0, ![]⟩
abbrev S768x24 : Shape := ⟨2, ![768, 24]⟩
abbrev S2x2048x24 : Shape := ⟨3, ![2, 2048, 24]⟩
abbrev S1x1x24 : Shape := ⟨3, ![1, 1, 24]⟩
abbrev S2x2048 : Shape := ⟨2, ![2, 2048]⟩
abbrev S2x2048x1 : Shape := ⟨3, ![2, 2048, 1]⟩
abbrev S2x2048x2x12 : Shape := ⟨4, ![2, 2048, 2, 12]⟩
abbrev S2x2048x1x12 : Shape := ⟨4, ![2, 2048, 1, 12]⟩
abbrev S2x2048x12 : Shape := ⟨3, ![2, 2048, 12]⟩
abbrev S2048 : Shape := ⟨1, ![2048]⟩
abbrev S2x2048x12x1 : Shape := ⟨4, ![2, 2048, 12, 1]⟩
abbrev S1x1x1x9 : Shape := ⟨4, ![1, 1, 1, 9]⟩
abbrev S2x2048x12x9 : Shape := ⟨4, ![2, 2048, 12, 9]⟩
abbrev S1x2048x1x1 : Shape := ⟨4, ![1, 2048, 1, 1]⟩
abbrev S768x384 : Shape := ⟨2, ![768, 384]⟩
abbrev S2x2048x384 : Shape := ⟨3, ![2, 2048, 384]⟩
abbrev S1x1x384 : Shape := ⟨3, ![1, 1, 384]⟩
abbrev S2x2048x12x32 : Shape := ⟨4, ![2, 2048, 12, 32]⟩
abbrev S768x1 : Shape := ⟨2, ![768, 1]⟩
abbrev S1x1x1 : Shape := ⟨3, ![1, 1, 1]⟩
abbrev S2x2048x1x1 : Shape := ⟨4, ![2, 2048, 1, 1]⟩
abbrev S2x2048x12x9x1 : Shape := ⟨5, ![2, 2048, 12, 9, 1]⟩
abbrev S1x1x1x1x1 : Shape := ⟨5, ![1, 1, 1, 1, 1]⟩
abbrev S2x2048x12x16 : Shape := ⟨4, ![2, 2048, 12, 16]⟩
abbrev S2x2048x192 : Shape := ⟨3, ![2, 2048, 192]⟩

abbrev nBuf : Space → Nat
  | .hbm => 314
  | .vmem => 0
  | .smem => 0
  | _ => 0

abbrev hbmTy0_0 (i : Nat) : BufTy := match i % 128 with
  | 0 => ⟨S2x2048x768, .f32⟩
  | 1 => ⟨S24x768, .f32⟩
  | 2 => ⟨S24, .f32⟩
  | 3 => ⟨S24, .f32⟩
  | 4 => ⟨S384x768, .f32⟩
  | 5 => ⟨S384, .f32⟩
  | 6 => ⟨S384, .f32⟩
  | 7 => ⟨S1x768, .f32⟩
  | 8 => ⟨S1, .f32⟩
  | 9 => ⟨S1, .f32⟩
  | 10 => ⟨S9, .f32⟩
  | 11 => ⟨S_, .f32⟩
  | 12 => ⟨S9, .f32⟩
  | 13 => ⟨S9, .f32⟩
  | 14 => ⟨S768x24, .f32⟩
  | 15 => ⟨S2x2048x24, .f32⟩
  | 16 => ⟨S1x1x24, .f32⟩
  | 17 => ⟨S2x2048x24, .f32⟩
  | 18 => ⟨S2x2048x24, .f32⟩
  | 19 => ⟨S2x2048x24, .f32⟩
  | 20 => ⟨S_, .f32⟩
  | 21 => ⟨S2x2048, .f32⟩
  | 22 => ⟨S2x2048x1, .f32⟩
  | 23 => ⟨S_, .f32⟩
  | 24 => ⟨S2x2048x1, .f32⟩
  | 25 => ⟨S2x2048x1, .f32⟩
  | 26 => ⟨S_, .f32⟩
  | 27 => ⟨S2x2048x1, .f32⟩
  | 28 => ⟨S2x2048x1, .f32⟩
  | 29 => ⟨S2x2048x1, .f32⟩
  | 30 => ⟨S2x2048x24, .f32⟩
  | 31 => ⟨S2x2048x24, .f32⟩
  | 32 => ⟨S1x1x24, .f32⟩
  | 33 => ⟨S2x2048x24, .f32⟩
  | 34 => ⟨S2x2048x24, .f32⟩
  | 35 => ⟨S2x2048x24, .f32⟩
  | 36 => ⟨S2x2048x24, .f32⟩
  | 37 => ⟨S_, .f32⟩
  | 38 => ⟨S2x2048x24, .f32⟩
  | 39 => ⟨S2x2048x24, .f32⟩
  | 40 => ⟨S_, .f32⟩
  | 41 => ⟨S2x2048x24, .f32⟩
  | 42 => ⟨S2x2048x24, .f32⟩
  | 43 => ⟨S2x2048x24, .f32⟩
  | 44 => ⟨S2x2048x2x12, .f32⟩
  | 45 => ⟨S2x2048x1x12, .f32⟩
  | 46 => ⟨S2x2048x12, .f32⟩
  | 47 => ⟨S2x2048x12, .f32⟩
  | 48 => ⟨S2x2048x12, .f32⟩
  | 49 => ⟨S_, .f32⟩
  | 50 => ⟨S2x2048x12, .f32⟩
  | 51 => ⟨S2x2048x12, .f32⟩
  | 52 => ⟨S_, .f32⟩
  | 53 => ⟨S2x2048x12, .f32⟩
  | 54 => ⟨S2x2048x12, .f32⟩
  | 55 => ⟨S_, .f32⟩
  | 56 => ⟨S2x2048x12, .f32⟩
  | 57 => ⟨S2x2048x12, .f32⟩
  | 58 => ⟨S_, .f32⟩
  | 59 => ⟨S2x2048x12, .f32⟩
  | 60 => ⟨S2x2048x12, .f32⟩
  | 61 => ⟨S2x2048x1x12, .f32⟩
  | 62 => ⟨S2x2048x12, .f32⟩
  | 63 => ⟨S2x2048x12, .f32⟩
  | 64 => ⟨S_, .f32⟩
  | 65 => ⟨S2x2048x12, .f32⟩
  | 66 => ⟨S2x2048x12, .f32⟩
  | 67 => ⟨S2048, .f32⟩
  | 68 => ⟨S2x2048x12x1, .f32⟩
  | 69 => ⟨S1x1x1x9, .f32⟩
  | 70 => ⟨S2x2048x12x9, .f32⟩
  | 71 => ⟨S2x2048x12x9, .f32⟩
  | 72 => ⟨S2x2048x12x9, .f32⟩
  | 73 => ⟨S1x2048x1x1, .f32⟩
  | 74 => ⟨S2x2048x12x9, .f32⟩
  | 75 => ⟨S2x2048x12x9, .f32⟩
  | 76 => ⟨S2x2048x12x1, .f32⟩
  | 77 => ⟨S2x2048x12x9, .f32⟩
  | 78 => ⟨S2x2048x12x9, .f32⟩
  | 79 => ⟨S_, .f32⟩
  | 80 => ⟨S2x2048x12x9, .f32⟩
  | 81 => ⟨S2x2048x12x9, .i1⟩
  | 82 => ⟨S_, .f32⟩
  | 83 => ⟨S2x2048x12x9, .f32⟩
  | 84 => ⟨S2x2048x12x9, .i1⟩
  | 85 => ⟨S2x2048x12x9, .i1⟩
  | 86 => ⟨S2x2048x12x9, .f32⟩
  | 87 => ⟨S_, .f32⟩
  | 88 => ⟨S_, .f32⟩
  | 89 => ⟨S_, .f32⟩
  | 90 => ⟨S2x2048x12x9, .f32⟩
  | 91 => ⟨S2x2048x12x9, .f32⟩
  | 92 => ⟨S_, .f32⟩
  | 93 => ⟨S2x2048x12x9, .f32⟩
  | 94 => ⟨S2x2048x12x9, .f32⟩
  | 95 => ⟨S2x2048x12x9, .f32⟩
  | 96 => ⟨S2x2048x12x9, .i32⟩
  | 97 => ⟨S_, .i32⟩
  | 98 => ⟨S_, .i32⟩
  | 99 => ⟨S_, .i32⟩
  | 100 => ⟨S2x2048x12x9, .i32⟩
  | 101 => ⟨S2x2048x12x9, .i32⟩
  | 102 => ⟨S_, .i32⟩
  | 103 => ⟨S2x2048x12x9, .i32⟩
  | 104 => ⟨S2x2048x12x9, .i32⟩
  | 105 => ⟨S2x2048x12x9, .f32⟩
  | 106 => ⟨S2x2048x12x9, .f32⟩
  | 107 => ⟨S768x384, .f32⟩
  | 108 => ⟨S2x2048x384, .f32⟩
  | 109 => ⟨S1x1x384, .f32⟩
  | 110 => ⟨S2x2048x384, .f32⟩
  | 111 => ⟨S2x2048x384, .f32⟩
  | 112 => ⟨S2x2048x384, .f32⟩
  | 113 => ⟨S_, .f32⟩
  | 114 => ⟨S2x2048, .f32⟩
  | 115 => ⟨S2x2048x1, .f32⟩
  | 116 => ⟨S_, .f32⟩
  | 117 => ⟨S2x2048x1, .f32⟩
  | 118 => ⟨S2x2048x1, .f32⟩
  | 119 => ⟨S_, .f32⟩
  | 120 => ⟨S2x2048x1, .f32⟩
  | 121 => ⟨S2x2048x1, .f32⟩
  | 122 => ⟨S2x2048x1, .f32⟩
  | 123 => ⟨S2x2048x384, .f32⟩
  | 124 => ⟨S2x2048x384, .f32⟩
  | 125 => ⟨S1x1x384, .f32⟩
  | 126 => ⟨S2x2048x384, .f32⟩
  | 127 => ⟨S2x2048x384, .f32⟩
  | _ => ⟨S2x2048x768, .f32⟩

abbrev hbmTy0_1 (i : Nat) : BufTy := match i % 128 with
  | 0 => ⟨S2x2048x384, .f32⟩
  | 1 => ⟨S2x2048x384, .f32⟩
  | 2 => ⟨S_, .f32⟩
  | 3 => ⟨S2x2048x384, .f32⟩
  | 4 => ⟨S2x2048x384, .f32⟩
  | 5 => ⟨S_, .f32⟩
  | 6 => ⟨S2x2048x384, .f32⟩
  | 7 => ⟨S2x2048x384, .f32⟩
  | 8 => ⟨S2x2048x384, .f32⟩
  | 9 => ⟨S2x2048x12x32, .f32⟩
  | 10 => ⟨S768x1, .f32⟩
  | 11 => ⟨S2x2048x1, .f32⟩
  | 12 => ⟨S1x1x1, .f32⟩
  | 13 => ⟨S2x2048x1, .f32⟩
  | 14 => ⟨S2x2048x1, .f32⟩
  | 15 => ⟨S2x2048x1, .f32⟩
  | 16 => ⟨S_, .f32⟩
  | 17 => ⟨S2x2048, .f32⟩
  | 18 => ⟨S2x2048x1, .f32⟩
  | 19 => ⟨S_, .f32⟩
  | 20 => ⟨S2x2048x1, .f32⟩
  | 21 => ⟨S2x2048x1, .f32⟩
  | 22 => ⟨S_, .f32⟩
  | 23 => ⟨S2x2048x1, .f32⟩
  | 24 => ⟨S2x2048x1, .f32⟩
  | 25 => ⟨S2x2048x1, .f32⟩
  | 26 => ⟨S2x2048x1, .f32⟩
  | 27 => ⟨S1x1x1, .f32⟩
  | 28 => ⟨S2x2048x1, .f32⟩
  | 29 => ⟨S2x2048x1, .f32⟩
  | 30 => ⟨S2x2048x1, .f32⟩
  | 31 => ⟨S2x2048x1, .f32⟩
  | 32 => ⟨S_, .f32⟩
  | 33 => ⟨S2x2048x1, .f32⟩
  | 34 => ⟨S2x2048x1, .f32⟩
  | 35 => ⟨S_, .f32⟩
  | 36 => ⟨S2x2048x1, .f32⟩
  | 37 => ⟨S2x2048x1, .f32⟩
  | 38 => ⟨S_, .f32⟩
  | 39 => ⟨S2x2048x1, .f32⟩
  | 40 => ⟨S2x2048x1, .f32⟩
  | 41 => ⟨S_, .f32⟩
  | 42 => ⟨S2x2048x1, .f32⟩
  | 43 => ⟨S2x2048x1, .f32⟩
  | 44 => ⟨S2x2048x12x9, .f32⟩
  | 45 => ⟨S_, .f32⟩
  | 46 => ⟨S2x2048x12x9, .f32⟩
  | 47 => ⟨S2x2048x12x9, .f32⟩
  | 48 => ⟨S_, .f32⟩
  | 49 => ⟨S2x2048x12x9, .f32⟩
  | 50 => ⟨S2x2048x12x9, .f32⟩
  | 51 => ⟨S2x2048x1x1, .f32⟩
  | 52 => ⟨S2x2048x12x9, .f32⟩
  | 53 => ⟨S2x2048x12x9, .f32⟩
  | 54 => ⟨S_, .f32⟩
  | 55 => ⟨S2x2048x12x9, .f32⟩
  | 56 => ⟨S2x2048x12x9, .f32⟩
  | 57 => ⟨S2x2048x12x9, .f32⟩
  | 58 => ⟨S_, .f32⟩
  | 59 => ⟨S2x2048x12x9, .f32⟩
  | 60 => ⟨S2x2048x12x9, .f32⟩
  | 61 => ⟨S_, .f32⟩
  | 62 => ⟨S_, .f32⟩
  | 63 => ⟨S_, .f32⟩
  | 64 => ⟨S2x2048x12x9, .f32⟩
  | 65 => ⟨S2x2048x12x9, .f32⟩
  | 66 => ⟨S_, .f32⟩
  | 67 => ⟨S2x2048x12x9, .f32⟩
  | 68 => ⟨S2x2048x12x9, .f32⟩
  | 69 => ⟨S_, .f32⟩
  | 70 => ⟨S2x2048x12x9, .f32⟩
  | 71 => ⟨S2x2048x12x9, .f32⟩
  | 72 => ⟨S2x2048x12x9, .i32⟩
  | 73 => ⟨S_, .i32⟩
  | 74 => ⟨S_, .i32⟩
  | 75 => ⟨S_, .i32⟩
  | 76 => ⟨S2x2048x12x9, .i32⟩
  | 77 => ⟨S2x2048x12x9, .i32⟩
  | 78 => ⟨S_, .i32⟩
  | 79 => ⟨S2x2048x12x9, .i32⟩
  | 80 => ⟨S2x2048x12x9, .i32⟩
  | 81 => ⟨S2x2048x12x9, .f32⟩
  | 82 => ⟨S2x2048x12x9, .f32⟩
  | 83 => ⟨S_, .i32⟩
  | 84 => ⟨S2x2048x12x9, .i32⟩
  | 85 => ⟨S2x2048x12x9, .i1⟩
  | 86 => ⟨S_, .i32⟩
  | 87 => ⟨S2x2048x12x9, .i32⟩
  | 88 => ⟨S2x2048x12x9, .i32⟩
  | 89 => ⟨S2x2048x12x9, .i32⟩
  | 90 => ⟨S2x2048x12x9x1, .i32⟩
  | 91 => ⟨S1, .i32⟩
  | 92 => ⟨S_, .i32⟩
  | 93 => ⟨S2x2048x12x9x1, .i32⟩
  | 94 => ⟨S2x2048x12x9x1, .i1⟩
  | 95 => ⟨S1x1x1x1x1, .i32⟩
  | 96 => ⟨S2x2048x12x9x1, .i32⟩
  | 97 => ⟨S2x2048x12x9x1, .i1⟩
  | 98 => ⟨S2x2048x12x9x1, .i1⟩
  | 99 => ⟨S_, .i1⟩
  | 100 => ⟨S2x2048x12x9, .i1⟩
  | 101 => ⟨S2x2048x12x9, .f32⟩
  | 102 => ⟨S_, .f32⟩
  | 103 => ⟨S2x2048x12x9, .f32⟩
  | 104 => ⟨S2x2048x12x9, .f32⟩
  | 105 => ⟨S_, .i32⟩
  | 106 => ⟨S2x2048x12x9, .i32⟩
  | 107 => ⟨S2x2048x12x9, .i32⟩
  | 108 => ⟨S_, .i32⟩
  | 109 => ⟨S2x2048x12x9, .i32⟩
  | 110 => ⟨S2x2048x12x9, .i1⟩
  | 111 => ⟨S_, .i32⟩
  | 112 => ⟨S2x2048x12x9, .i32⟩
  | 113 => ⟨S2x2048x12x9, .i32⟩
  | 114 => ⟨S2x2048x12x9, .i32⟩
  | 115 => ⟨S2x2048x12x9x1, .i32⟩
  | 116 => ⟨S1, .i32⟩
  | 117 => ⟨S_, .i32⟩
  | 118 => ⟨S2x2048x12x9x1, .i32⟩
  | 119 => ⟨S2x2048x12x9x1, .i1⟩
  | 120 => ⟨S1x1x1x1x1, .i32⟩
  | 121 => ⟨S2x2048x12x9x1, .i32⟩
  | 122 => ⟨S2x2048x12x9x1, .i1⟩
  | 123 => ⟨S2x2048x12x9x1, .i1⟩
  | 124 => ⟨S_, .i1⟩
  | 125 => ⟨S2x2048x12x9, .i1⟩
  | 126 => ⟨S2x2048x12x9, .f32⟩
  | 127 => ⟨S_, .f32⟩
  | _ => ⟨S2x2048x768, .f32⟩

abbrev hbmTy0_2 (i : Nat) : BufTy := match i % 128 with
  | 0 => ⟨S2x2048x12x9, .f32⟩
  | 1 => ⟨S2x2048x12x9, .f32⟩
  | 2 => ⟨S_, .f32⟩
  | 3 => ⟨S2x2048x12x9, .f32⟩
  | 4 => ⟨S2x2048x12x9, .f32⟩
  | 5 => ⟨S2x2048x12x9, .f32⟩
  | 6 => ⟨S2x2048x12x9, .f32⟩
  | 7 => ⟨S2x2048x12x9, .f32⟩
  | 8 => ⟨S2x2048x12x9, .f32⟩
  | 9 => ⟨S2x2048x12x9, .f32⟩
  | 10 => ⟨S2048, .i32⟩
  | 11 => ⟨S_, .i32⟩
  | 12 => ⟨S_, .i32⟩
  | 13 => ⟨S2048, .i32⟩
  | 14 => ⟨S2048, .i32⟩
  | 15 => ⟨S2048, .i32⟩
  | 16 => ⟨S_, .i32⟩
  | 17 => ⟨S2048, .i32⟩
  | 18 => ⟨S2048, .i1⟩
  | 19 => ⟨S2048, .i32⟩
  | 20 => ⟨S2048, .i32⟩
  | 21 => ⟨S_, .i32⟩
  | 22 => ⟨S2048, .i32⟩
  | 23 => ⟨S2048, .i1⟩
  | 24 => ⟨S2048, .i1⟩
  | 25 => ⟨S_, .i32⟩
  | 26 => ⟨S2048, .i32⟩
  | 27 => ⟨S2048, .i32⟩
  | 28 => ⟨S2048, .i32⟩
  | 29 => ⟨S_, .i32⟩
  | 30 => ⟨S2048, .i32⟩
  | 31 => ⟨S2048, .i32⟩
  | 32 => ⟨S_, .i32⟩
  | 33 => ⟨S2048, .i32⟩
  | 34 => ⟨S2048, .i32⟩
  | 35 => ⟨S1x2048x1x1, .i32⟩
  | 36 => ⟨S2x2048x12x9, .i32⟩
  | 37 => ⟨S2x2048x12x9, .i32⟩
  | 38 => ⟨S_, .f32⟩
  | 39 => ⟨S2x2048x12x9, .f32⟩
  | 40 => ⟨S2x2048x12x9, .f32⟩
  | 41 => ⟨S2x2048x12x9, .f32⟩
  | 42 => ⟨S_, .i32⟩
  | 43 => ⟨S_, .f32⟩
  | 44 => ⟨S2x2048x12x16, .f32⟩
  | 45 => ⟨S2x2048x192, .f32⟩
  | 46 => ⟨S2x2048x12x9, .f32⟩
  | 47 => ⟨S_, .i32⟩
  | 48 => ⟨S_, .f32⟩
  | 49 => ⟨S2x2048x12x16, .f32⟩
  | 50 => ⟨S2x2048x192, .f32⟩
  | 51 => ⟨S_, .i32⟩
  | 52 => ⟨S2x2048x12x9, .i32⟩
  | 53 => ⟨S2x2048x12x9, .i32⟩
  | 54 => ⟨S_, .i32⟩
  | 55 => ⟨S_, .i32⟩
  | 56 => ⟨S2x2048x12x16, .i32⟩
  | 57 => ⟨S2x2048x192, .i32⟩
  | _ => ⟨S2x2048x768, .f32⟩

abbrev hbmTy (i : Nat) : BufTy := match i / 128 with
  | 0 => hbmTy0_0 i
  | 1 => hbmTy0_1 i
  | 2 => hbmTy0_2 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_cst_13 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c : Ref sig .tc := ⟨.hbm, 97, rfl⟩
abbrev main_c_14 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_15 : Ref sig .tc := ⟨.hbm, 113, rfl⟩
abbrev main_v76 : Ref sig .tc := ⟨.hbm, 114, rfl⟩
abbrev main_v77 : Ref sig .tc := ⟨.hbm, 115, rfl⟩
abbrev main_cst_16 : Ref sig .tc := ⟨.hbm, 116, rfl⟩
abbrev main_v78 : Ref sig .tc := ⟨.hbm, 117, rfl⟩
abbrev main_v79 : Ref sig .tc := ⟨.hbm, 118, rfl⟩
abbrev main_cst_17 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_18 : Ref sig .tc := ⟨.hbm, 130, rfl⟩
abbrev main_v90 : Ref sig .tc := ⟨.hbm, 131, rfl⟩
abbrev main_v91 : Ref sig .tc := ⟨.hbm, 132, rfl⟩
abbrev main_cst_19 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_20 : Ref sig .tc := ⟨.hbm, 144, rfl⟩
abbrev main_v102 : Ref sig .tc := ⟨.hbm, 145, rfl⟩
abbrev main_v103 : Ref sig .tc := ⟨.hbm, 146, rfl⟩
abbrev main_cst_21 : Ref sig .tc := ⟨.hbm, 147, rfl⟩
abbrev main_v104 : Ref sig .tc := ⟨.hbm, 148, rfl⟩
abbrev main_v105 : Ref sig .tc := ⟨.hbm, 149, rfl⟩
abbrev main_cst_22 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_23 : Ref sig .tc := ⟨.hbm, 160, rfl⟩
abbrev main_v115 : Ref sig .tc := ⟨.hbm, 161, rfl⟩
abbrev main_v116 : Ref sig .tc := ⟨.hbm, 162, rfl⟩
abbrev main_cst_24 : Ref sig .tc := ⟨.hbm, 163, rfl⟩
abbrev main_v117 : Ref sig .tc := ⟨.hbm, 164, rfl⟩
abbrev main_v118 : Ref sig .tc := ⟨.hbm, 165, rfl⟩
abbrev main_cst_25 : Ref sig .tc := ⟨.hbm, 166, rfl⟩
abbrev main_v119 : Ref sig .tc := ⟨.hbm, 167, rfl⟩
abbrev main_v120 : Ref sig .tc := ⟨.hbm, 168, rfl⟩
abbrev main_cst_26 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_27 : Ref sig .tc := ⟨.hbm, 173, rfl⟩
abbrev main_v124 : Ref sig .tc := ⟨.hbm, 174, rfl⟩
abbrev main_v125 : Ref sig .tc := ⟨.hbm, 175, rfl⟩
abbrev main_cst_28 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_29 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_30 : Ref sig .tc := ⟨.hbm, 186, rfl⟩
abbrev main_v134 : Ref sig .tc := ⟨.hbm, 187, rfl⟩
abbrev main_v135 : Ref sig .tc := ⟨.hbm, 188, rfl⟩
abbrev main_cst_31 : Ref sig .tc := ⟨.hbm, 189, rfl⟩
abbrev main_cst_32 : Ref sig .tc := ⟨.hbm, 190, rfl⟩
abbrev main_call2_v0 : Ref sig .tc := ⟨.hbm, 191, rfl⟩
abbrev main_call2_v1 : Ref sig .tc := ⟨.hbm, 192, rfl⟩
abbrev main_call2_v2 : Ref sig .tc := ⟨.hbm, 193, rfl⟩
abbrev main_call2_v3 : Ref sig .tc := ⟨.hbm, 194, rfl⟩
abbrev main_call2_v4 : Ref sig .tc := ⟨.hbm, 195, rfl⟩
abbrev main_v136 : Ref sig .tc := ⟨.hbm, 196, rfl⟩
abbrev main_cst_33 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_c_34 : Ref sig .tc := ⟨.hbm, 201, rfl⟩
abbrev main_c_35 : Ref sig .tc := ⟨.hbm, 202, rfl⟩
abbrev main_call3_v0 : Ref sig .tc := ⟨.hbm, 203, rfl⟩
abbrev main_call3_v1 : Ref sig .tc := ⟨.hbm, 204, rfl⟩
abbrev main_call3_v2 : Ref sig .tc := ⟨.hbm, 205, rfl⟩
abbrev main_call3_v3 : Ref sig .tc := ⟨.hbm, 206, rfl⟩
abbrev main_call3_v4 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_call4_c : Ref sig .tc := ⟨.hbm, 211, rfl⟩
abbrev main_call4_v0 : Ref sig .tc := ⟨.hbm, 212, rfl⟩
abbrev main_call4_v1 : Ref sig .tc := ⟨.hbm, 213, rfl⟩
abbrev main_call4_c_0 : Ref sig .tc := ⟨.hbm, 214, rfl⟩
abbrev main_call4_v2 : Ref sig .tc := ⟨.hbm, 215, rfl⟩
abbrev main_call4_v3 : Ref sig .tc := ⟨.hbm, 216, rfl⟩
abbrev main_call4_v4 : Ref sig .tc := ⟨.hbm, 217, rfl⟩
abbrev main_call4_v5 : Ref sig .tc := ⟨.hbm, 218, rfl⟩
abbrev main_call4_c_1 : Ref sig .tc := ⟨.hbm, 219, rfl⟩
abbrev main_call4_c_2 : Ref sig .tc := ⟨.hbm, 220, rfl⟩
abbrev main_call4_v6 : Ref sig .tc := ⟨.hbm, 221, rfl⟩
abbrev main_call4_v7 : Ref sig .tc := ⟨.hbm, 222, rfl⟩
abbrev main_call4_v8 : Ref sig .tc := ⟨.hbm, 223, rfl⟩
abbrev main_call4_v9 : Ref sig .tc := ⟨.hbm, 224, rfl⟩
abbrev main_call4_v10 : Ref sig .tc := ⟨.hbm, 225, rfl⟩
abbrev main_call4_v11 : Ref sig .tc := ⟨.hbm, 226, rfl⟩
abbrev main_call4_c_3 : Ref sig .tc := ⟨.hbm, 227, rfl⟩
abbrev main_call4_v12 : Ref sig .tc := ⟨.hbm, 228, rfl⟩
abbrev main_call4_v13 : Ref sig .tc := ⟨.hbm, 229, rfl⟩
abbrev main_call4_cst : Ref sig .tc := ⟨.hbm, 230, rfl⟩
abbrev main_call4_v14 : Ref sig .tc := ⟨.hbm, 231, rfl⟩
abbrev main_v143 : Ref sig .tc := ⟨.hbm, 232, rfl⟩
abbrev main_c_36 : Ref sig .tc := ⟨.hbm, 233, rfl⟩
abbrev main_v144 : Ref sig .tc := ⟨.hbm, 234, rfl⟩
abbrev main_v145 : Ref sig .tc := ⟨.hbm, 235, rfl⟩
abbrev main_call5_c : Ref sig .tc := ⟨.hbm, 236, rfl⟩
abbrev main_call5_v0 : Ref sig .tc := ⟨.hbm, 237, rfl⟩
abbrev main_call5_v1 : Ref sig .tc := ⟨.hbm, 238, rfl⟩
abbrev main_call5_c_0 : Ref sig .tc := ⟨.hbm, 239, rfl⟩
abbrev main_call5_v2 : Ref sig .tc := ⟨.hbm, 240, rfl⟩
abbrev main_call5_v3 : Ref sig .tc := ⟨.hbm, 241, rfl⟩
abbrev main_call5_v4 : Ref sig .tc := ⟨.hbm, 242, rfl⟩
abbrev main_call5_v5 : Ref sig .tc := ⟨.hbm, 243, rfl⟩
abbrev main_call5_c_1 : Ref sig .tc := ⟨.hbm, 244, rfl⟩
abbrev main_call5_c_2 : Ref sig .tc := ⟨.hbm, 245, rfl⟩
abbrev main_call5_v6 : Ref sig .tc := ⟨.hbm, 246, rfl⟩
abbrev main_call5_v7 : Ref sig .tc := ⟨.hbm, 247, rfl⟩
abbrev main_call5_v8 : Ref sig .tc := ⟨.hbm, 248, rfl⟩
abbrev main_call5_v9 : Ref sig .tc := ⟨.hbm, 249, rfl⟩
abbrev main_call5_v10 : Ref sig .tc := ⟨.hbm, 250, rfl⟩
abbrev main_call5_v11 : Ref sig .tc := ⟨.hbm, 251, rfl⟩
abbrev main_call5_c_3 : Ref sig .tc := ⟨.hbm, 252, rfl⟩
abbrev main_call5_v12 : Ref sig .tc := ⟨.hbm, 253, rfl⟩
abbrev main_call5_v13 : Ref sig .tc := ⟨.hbm, 254, rfl⟩
abbrev main_call5_cst : Ref sig .tc := ⟨.hbm, 255, rfl⟩
abbrev main_call5_v14 : Ref sig .tc := ⟨.hbm, 256, rfl⟩
abbrev main_v146 : Ref sig .tc := ⟨.hbm, 257, rfl⟩
abbrev main_cst_37 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_c_38 : Ref sig .tc := ⟨.hbm, 267, rfl⟩
abbrev main_call6_v0 : Ref sig .tc := ⟨.hbm, 268, rfl⟩
abbrev main_call6_v1 : Ref sig .tc := ⟨.hbm, 269, rfl⟩
abbrev main_call6_v2 : Ref sig .tc := ⟨.hbm, 270, rfl⟩
abbrev main_call6_v3 : Ref sig .tc := ⟨.hbm, 271, rfl⟩
abbrev main_call6_v4 : Ref sig .tc := ⟨.hbm, 272, rfl⟩
abbrev main_call6_v5 : Ref sig .tc := ⟨.hbm, 273, rfl⟩
abbrev main_call6_v6 : Ref sig .tc := ⟨.hbm, 274, rfl⟩
abbrev main_call6_v7 : Ref sig .tc := ⟨.hbm, 275, rfl⟩
abbrev main_call6_v8 : Ref sig .tc := ⟨.hbm, 276, rfl⟩
abbrev main_call6_c : Ref sig .tc := ⟨.hbm, 277, rfl⟩
abbrev main_call6_v9 : Ref sig .tc := ⟨.hbm, 278, rfl⟩
abbrev main_call6_v10 : Ref sig .tc := ⟨.hbm, 279, rfl⟩
abbrev main_call6_v11 : Ref sig .tc := ⟨.hbm, 280, rfl⟩
abbrev main_call6_c_0 : Ref sig .tc := ⟨.hbm, 281, rfl⟩
abbrev main_call6_v12 : Ref sig .tc := ⟨.hbm, 282, rfl⟩
abbrev main_call6_v13 : Ref sig .tc := ⟨.hbm, 283, rfl⟩
abbrev main_v155 : Ref sig .tc := ⟨.hbm, 284, rfl⟩
abbrev main_c_39 : Ref sig .tc := ⟨.hbm, 285, rfl⟩
abbrev main_v156 : Ref sig .tc := ⟨.hbm, 286, rfl⟩
abbrev main_v157 : Ref sig .tc := ⟨.hbm, 287, rfl⟩
abbrev main_c_40 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_cst_41 : Ref sig .tc := ⟨.hbm, 294, rfl⟩
abbrev main_v163 : Ref sig .tc := ⟨.hbm, 295, rfl⟩
abbrev main_v164 : Ref sig .tc := ⟨.hbm, 296, rfl⟩
abbrev main_v165 : Ref sig .tc := ⟨.hbm, 297, rfl⟩
abbrev main_c_42 : Ref sig .tc := ⟨.hbm, 298, rfl⟩
abbrev main_call7_v0 : Ref sig .tc := ⟨.hbm, 299, rfl⟩
abbrev main_v166 : Ref sig .tc := ⟨.hbm, 300, rfl⟩
abbrev main_v167 : Ref sig .tc := ⟨.hbm, 301, rfl⟩
abbrev main_v168 : Ref sig .tc := ⟨.hbm, 302, rfl⟩
abbrev main_c_43 : Ref sig .tc := ⟨.hbm, 303, rfl⟩
abbrev main_call8_v0 : Ref sig .tc := ⟨.hbm, 304, rfl⟩
abbrev main_v169 : Ref sig .tc := ⟨.hbm, 305, rfl⟩
abbrev main_v170 : Ref sig .tc := ⟨.hbm, 306, rfl⟩
abbrev main_c_44 : Ref sig .tc := ⟨.hbm, 307, rfl⟩
abbrev main_v171 : Ref sig .tc := ⟨.hbm, 308, rfl⟩
abbrev main_v172 : Ref sig .tc := ⟨.hbm, 309, rfl⟩
abbrev main_c_45 : Ref sig .tc := ⟨.hbm, 310, rfl⟩
abbrev main_call9_v0 : Ref sig .tc := ⟨.hbm, 311, rfl⟩
abbrev main_v173 : Ref sig .tc := ⟨.hbm, 312, rfl⟩
abbrev main_v174 : Ref sig .tc := ⟨.hbm, 313, rfl⟩

abbrev nD : Nat := 1
abbrev τ : Topo := Topo.v7x

variable {F : FTy → Type} [FloatOps F]
-- ==== Proof.Vals.lean ====
/-
  What one vector subcore computes, as plain functions: a tap (two weighted reads of the window), the sum of nine
  taps in the order the body adds them, and the block of sums a task writes out.
-/
module

public import proofs.«01_k».proof.Defs
public import Idealize.ShloMosaic.Lib.SparseCore.Ops
public import Idealize.ShloMosaic.Lib.ValueIdxCore
public import Idealize.ShloMosaic.Lib.ValueIdxCoords
public import proofs.«01_k».proof.Proof.Gen.MixIdeal
public import proofs.«01_k».proof.Proof.Gen.MixIdeal.Skeleton

@[expose] public section

set_option maxRecDepth 16384

noncomputable section

namespace Cert.Proof.Mix

open Cert.MixIdeal Cert.MixIdeal.Gen
open Idealize.ShloMosaic
open Idealize.ShloMosaic.ValueIdx

variable {F : FTy → Type} [FloatOps F] {α : Type}

/-- Position `n` of the window, as an index of its buffer. -/
def ixW (n : Nat) : S28672.Idx := ix1 ⟨n % 28672, Nat.mod_lt _ (by norm_num)⟩
/-- Row `j`, column `c` of a weight block. -/
def ixJ (j c : Nat) : S16x256.Idx := ix2 ⟨j % 16, Nat.mod_lt _ (by norm_num)⟩ ⟨c % 256, Nat.mod_lt _ (by norm_num)⟩

/-- Sixteen columns of row `j`, from column `16 g`. -/
def rowAt (b : S16x256.Idx → α) (j g : Nat) : S16.Idx → α := fun x => b (ixJ j (16 * g + (x 0).val))

/-- The window read at a vector of positions, each moved by `n`. -/
def rd (w : S28672.Idx → α) (v : S16.Idx → BitVec 32) (n : Nat) : S16.Idx → α := fun x => w (ixW ((v x).toNat + n))

/-- One tap. -/
def tap (w : S28672.Idx → Elt F .f32) (a c : S16x256.Idx → Elt F .f32) (f : S16x256.Idx → BitVec 32) (col d j : Nat) : Elt F .f32 :=
  FloatOps.addf (φ := .f32) (FloatOps.mulf (φ := .f32) (a (ixJ j col)) (w (ixW ((f (ixJ j col)).toNat + d))))
    (FloatOps.mulf (φ := .f32) (c (ixJ j col)) (w (ixW ((f (ixJ j col)).toNat + (64 + d)))))

/-- Nine values added as the body adds them. -/
def tree9 (t : Nat → Elt F .f32) : Elt F .f32 :=
  FloatOps.addf (φ := .f32)
    (FloatOps.addf (φ := .f32)
      (FloatOps.addf (φ := .f32) (FloatOps.addf (φ := .f32) (t 0) (t 1)) (FloatOps.addf (φ := .f32) (t 2) (t 3)))
      (FloatOps.addf (φ := .f32) (FloatOps.addf (φ := .f32) (t 4) (t 5)) (FloatOps.addf (φ := .f32) (t 6) (t 7))))
    (t 8)

/-- The block of sums a task leaves: entry `256 d + col`. -/
def outV (w : S28672.Idx → Elt F .f32) (a c : S16x256.Idx → Elt F .f32) (f : S16x256.Idx → BitVec 32) : S16384.Idx → Elt F .f32 :=
  fun n => tree9 (tap w a c f ((n 0).val % 256) ((n 0).val / 256))

/-- The block while trip `(g, d)` is next: the sums where the trips before have stored, `o` elsewhere. -/
def outP (w : S28672.Idx → Elt F .f32) (a c : S16x256.Idx → Elt F .f32) (f : S16x256.Idx → BitVec 32) (o : S16384.Idx → Elt F .f32)
    (g d : Nat) : S16384.Idx → Elt F .f32 :=
  fun n => if (n 0).val % 256 < 16 * g ∨ ((n 0).val % 256 < 16 * (g + 1) ∧ (n 0).val / 256 < d) then outV w a c f n else o n

/-- What the indices of a weight block must satisfy for every tap to lie in the window. -/
def InWin (f : S16x256.Idx → BitVec 32) : Prop := ∀ j c, j < 9 → c < 256 → (f (ixJ j c)).toNat + 127 < 28672

theorem trip3 (k : Fin k0_t3_loop.trips) : k.val < 64 := Nat.lt_of_lt_of_le k.isLt k0_t3_abs.2.1
theorem trip2 (k : Fin k0_t2_loop.trips) : k.val < 16 := Nat.lt_of_lt_of_le k.isLt k0_t2_abs.2.1

theorem word3 : ∀ k : Fin k0_t3_loop.trips,
    Scalar.addi 0#32 (Scalar.muli (Scf.iv 0#32 1#32 k) 1#32) = BitVec.ofNat 32 k.val := by decide +kernel

theorem add_toNat (v : BitVec 32) (n : Nat) (h : v.toNat + n < 28672) : (IntOp.addi v (BitVec.ofNat 32 n)).toNat = v.toNat + n := by
  show (v + BitVec.ofNat 32 n).toNat = _
  rw [BitVec.toNat_add, BitVec.toNat_ofNat, Nat.add_mod_mod, Nat.mod_eq_of_lt (by omega)]

theorem inb_of (v : IVec S16 32) (h : ∀ x, (v x).toNat < 28672) : ∀ a x, ((![v] : Fin 1 → IVec S16 32) a x).toNat < S28672.size a := by
  intro a x
  obtain rfl : a = 0 := Subsingleton.elim _ _
  exact h x

theorem loadIdx_rd (w : S28672.Idx → Elt F .f32) (v I : IVec S16 32) (n : Nat) (hv : ∀ x, (v x).toNat = (I x).toNat + n)
    (h : ∀ a x, ((![v] : Fin 1 → IVec S16 32) a x).toNat < S28672.size a) :
    (loadIdx w ![v] h : S16.Idx → Elt F .f32) = rd w I n := by
  funext x
  refine congrArg w ?_
  funext a
  obtain rfl : a = 0 := Subsingleton.elim _ _
  apply Fin.ext
  have h0 := h 0 x
  show (v x).toNat = ((I x).toNat + n) % 28672
  have h1 : (v x).toNat < 28672 := h0
  rw [← hv x, Nat.mod_eq_of_lt h1]

end Cert.Proof.Mix

end
-- ==== Proof.Step.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.MixIdeal
public import proofs.«01_k».proof.Proof.Gen.MixIdeal.Skeleton
public import proofs.«01_k».proof.Proof.Vals

@[expose] public section

set_option maxRecDepth 16384

noncomputable section

namespace Cert.Proof.Mix

open Cert.MixIdeal Cert.MixIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH := URounds (GSem nD τ sig) ℕ
abbrev UU := UH × (UR sig nD τ × Counters)
local notation "𝕄" => MT nD τ sig (HIx 1) (Elt F) ℕ UU ℕ

/-- The vector subcore a grid point names. -/
abbrev cV (L : grid0.Coords) : Fin τ.nSC := (L 0).castLE hcore0
abbrev jV (L : grid0.Coords) : Fin τ.nSub := (L 1).castLE hsub0

abbrev xV : Memref sig .scVector .hbm S2x12x143360 .f32 := Memref.whole main_v6_scv
abbrev aV : Memref sig .scVector .hbm S2x192x2048 .f32 := Memref.whole main_v0_scv
abbrev cW : Memref sig .scVector .hbm S2x192x2048 .f32 := Memref.whole main_v1_scv
abbrev iV : Memref sig .scVector .hbm S2x192x2048 .i32 := Memref.whole main_v2_scv
abbrev oV : Memref sig .scVector .hbm S2x12x8x16384 .f32 := Memref.whole main_v7_scv
abbrev sX : Memref sig .scVector .vmem S28672 .f32 := Memref.whole cc0_scratch0
abbrev sA : Memref sig .scVector .vmem S16x256 .f32 := Memref.whole cc0_scratch1
abbrev sC : Memref sig .scVector .vmem S16x256 .f32 := Memref.whole cc0_scratch2
abbrev sI : Memref sig .scVector .vmem S16x256 .i32 := Memref.whole cc0_scratch3
abbrev sO : Memref sig .scVector .vmem S16384 .f32 := Memref.whole cc0_scratch4

variable [FloatOps F]

theorem store_outP (g : Fin k0_t2_loop.trips) (k : Fin k0_t3_loop.trips)
    (w : S28672.Idx → Elt F .f32) (a c : S16x256.Idx → Elt F .f32) (f : S16x256.Idx → BitVec 32) (o : S16384.Idx → Elt F .f32)
    (p : S16.Idx → Elt F .f32) (hp : ∀ x : S16.Idx, p x = tree9 (tap w a c f (16 * g.val + (x 0).val) k.val)) :
    ((sO).access (Rect.unit (s := S16384) (k0_off12 g k) S16.size (k0_off12_inb g k))).write (Elt F) (outP w a c f o g.val k.val) p Finset.univ
      = outP w a c f o g.val (k.val + 1) := by
  have hg := trip2 g
  have hk := trip3 k
  have hoff : k0_off12 g k = ![256 * k.val + 16 * g.val] := k0_off12_eq g k
  refine funext fun (n : S16384.Idx) => ?_
  by_cases hn : (n 0).val % 256 / 16 = g.val ∧ (n 0).val / 256 = k.val
  · have hlt : (n 0).val % 16 < 16 := Nat.mod_lt _ (by norm_num)
    have hnx : ((sO).access (Rect.unit (s := S16384) (k0_off12 g k) S16.size (k0_off12_inb g k))).emb (ix1 (n := 16) ⟨(n 0).val % 16, hlt⟩ : S16.Idx) = n := by
      refine funext fun (b : Fin 1) => ?_
      obtain rfl : b = 0 := Subsingleton.elim _ _
      apply Fin.ext
      show k0_off12 g k 0 + 1 * ((n 0).val % 16) = (n 0).val
      have h0 : k0_off12 g k 0 = 256 * k.val + 16 * g.val := congrFun hoff 0
      omega
    have hw := View.write_emb_of_mem (Val := Elt F) (v := (sO).access (Rect.unit (s := S16384) (k0_off12 g k) S16.size (k0_off12_inb g k)))
      (outP w a c f o g.val k.val) p (Finset.mem_univ (ix1 (n := 16) ⟨(n 0).val % 16, hlt⟩ : S16.Idx))
    rw [hnx] at hw
    refine hw.trans ?_
    show p _ = _
    rw [hp]
    unfold outP
    rw [if_pos (by omega)]
    unfold outV
    have e1 : 16 * g.val + (n 0).val % 16 = (n 0).val % 256 := by omega
    rw [hn.2]
    exact congrArg (fun q => tree9 (tap w a c f q k.val)) e1
  · have hmem : n ∉ ((sO).access (Rect.unit (s := S16384) (k0_off12 g k) S16.size (k0_off12_inb g k))).setOn Finset.univ := by
      intro hh
      have hset : ((sO).access (Rect.unit (s := S16384) (k0_off12 g k) S16.size (k0_off12_inb g k))).setOn Finset.univ
          = (Rect.unit (s := S16384) (k0_off12 g k) S16.size (k0_off12_inb g k)).set := View.set_slice_whole _ _
      rw [hset] at hh
      have h1 := (Rect.mem_set_unit.mp hh) 0
      have h2 : k0_off12 g k 0 = 256 * k.val + 16 * g.val := congrFun hoff 0
      have h0 : k0_off12 g k 0 ≤ (n 0).val ∧ (n 0).val < k0_off12 g k 0 + 16 := h1
      omega
    refine (View.write_of_not_mem _ _ _ hmem).trans ?_
    unfold outP
    congr 1
    apply propext
    omega

theorem loadIdx_rdX (w : S28672.Idx → Elt F .f32) (v I : IVec S16 32) (n : Nat) (hv : ∀ x, (v x).toNat = (I x).toNat + n)
    (h : ∀ a x, ((![v] : Fin 1 → IVec S16 32) a x).toNat < S28672.size a) :
    (loadIdx (View.read (Elt F) ((sX).access (Rect.whole S28672)) w) ![v] h : S16.Idx → Elt F .f32) = rd w I n :=
  (congrArg (fun z => (loadIdx (F := F) (e := .f32) (s := S28672) z ![v] h : S16.Idx → Elt F .f32)) (Memref.read_access_whole (Elt F) cc0_scratch0 w)).trans (loadIdx_rd w v I n hv h)

section Tile

variable (d : Dev nD) (L : grid0.Coords)

/-- Thread and buffers of the tile. -/
abbrev thr : Thread nD τ := V d (cV L) (jV L)

theorem row_lt {f : S16x256.Idx → BitVec 32} (hf : InWin f) (g : Fin k0_t2_loop.trips) (j : Nat) (hj : j < 9) (x : S16.Idx) :
    (rowAt f j g.val x).toNat + 127 < 28672 := by
  have hx : (x 0).val < 16 := (x 0).isLt
  have hg := trip2 g
  exact hf j _ hj (by omega)

theorem lo_val {f : S16x256.Idx → BitVec 32} (hf : InWin f) (g : Fin k0_t2_loop.trips) (k : Fin k0_t3_loop.trips) (j : Nat) (hj : j < 9) (x : S16.Idx) :
    (IntOp.addi (rowAt f j g.val x) (Scalar.addi 0#32 (Scalar.muli (Scf.iv 0#32 1#32 k) 1#32))).toNat = (rowAt f j g.val x).toNat + k.val := by
  have := row_lt hf g j hj x
  have := trip3 k
  rw [word3, add_toNat _ _ (by omega)]

theorem hi_val {f : S16x256.Idx → BitVec 32} (hf : InWin f) (g : Fin k0_t2_loop.trips) (k : Fin k0_t3_loop.trips) (j : Nat) (hj : j < 9) (x : S16.Idx) :
    (IntOp.addi (IntOp.addi (rowAt f j g.val x) 64#32) (Scalar.addi 0#32 (Scalar.muli (Scf.iv 0#32 1#32 k) 1#32))).toNat = (rowAt f j g.val x).toNat + (64 + k.val) := by
  have := row_lt hf g j hj x
  have := trip3 k
  have h : (IntOp.addi (rowAt f j g.val x) 64#32).toNat = (rowAt f j g.val x).toNat + 64 := add_toNat _ 64 (by omega)
  rw [word3, add_toNat _ _ (by omega), h, Nat.add_assoc]

set_option maxHeartbeats 4000000 in
theorem step3 (g : Fin k0_t2_loop.trips) (k : Fin k0_t3_loop.trips)
    (w : S28672.Idx → Elt F .f32) (a c : S16x256.Idx → Elt F .f32) (f : S16x256.Idx → BitVec 32) (o : S16384.Idx → Elt F .f32)
    (hf : InWin f) (J5 J6 J7 J8 : Vec F S1x16 .i32)
    (h5 : k0_pay1 (F := F) J5 = rowAt f 5 g.val) (h6 : k0_pay2 (F := F) J6 = rowAt f 6 g.val) (h7 : k0_pay3 (F := F) J7 = rowAt f 7 g.val) (h8 : k0_pay4 (F := F) J8 = rowAt f 8 g.val) :
    iprop(((sX).view.loc (V d (cV L) (jV L)) ↦{fullShare} w) ∗ ((sO).view.loc (V d (cV L) (jV L)) ↦{fullShare} outP w a c f o g.val k.val))
      ⊢ (wp frame (wpE (defs₀ (F := F)) 𝒱₀ (V d (cV L) (jV L)) none) Set.univ
          (k0_t3_body L xV (Memref.isWhole_whole _) aV (Memref.isWhole_whole _) cW (Memref.isWhole_whole _) iV (Memref.isWhole_whole _) oV (Memref.isWhole_whole _)
            sX (Memref.isWhole_whole _) sA (Memref.isWhole_whole _) sC (Memref.isWhole_whole _) sI (Memref.isWhole_whole _) sO (Memref.isWhole_whole _)
            cc0_scoped0 cc0_scoped1 cc0_scoped2 cc0_scoped3 cc0_scoped4 g
            (rowAt a 0 g.val) (rowAt a 1 g.val) (rowAt a 2 g.val) (rowAt a 3 g.val) (rowAt a 4 g.val) (rowAt a 5 g.val) (rowAt a 6 g.val) (rowAt a 7 g.val) (rowAt a 8 g.val)
            (rowAt c 0 g.val) (rowAt c 1 g.val) (rowAt c 2 g.val) (rowAt c 3 g.val) (rowAt c 4 g.val) (rowAt c 5 g.val) (rowAt c 6 g.val) (rowAt c 7 g.val) (rowAt c 8 g.val)
            (rowAt f 0 g.val) (rowAt f 1 g.val) (rowAt f 2 g.val) (rowAt f 3 g.val) (rowAt f 4 g.val) J5 J6 J7 J8 k ())
          fun _ => iprop(((sX).view.loc (V d (cV L) (jV L)) ↦{fullShare} w) ∗ ((sO).view.loc (V d (cV L) (jV L)) ↦{fullShare} outP w a c f o g.val (k.val + 1))) : sProp 𝕄) := by
  have e1 : ∀ x, (k0_pay20 (F := F) (rowAt f 0 g.val) 0#32 1#32 k x).toNat = (rowAt f 0 g.val x).toNat + k.val := lo_val hf g k 0 (by norm_num)
  have e3 : ∀ x, (k0_pay23 (F := F) (rowAt f 1 g.val) 0#32 1#32 k x).toNat = (rowAt f 1 g.val x).toNat + k.val := lo_val hf g k 1 (by norm_num)
  have e5 : ∀ x, (k0_pay26 (F := F) (rowAt f 2 g.val) 0#32 1#32 k x).toNat = (rowAt f 2 g.val x).toNat + k.val := lo_val hf g k 2 (by norm_num)
  have e7 : ∀ x, (k0_pay29 (F := F) (rowAt f 3 g.val) 0#32 1#32 k x).toNat = (rowAt f 3 g.val x).toNat + k.val := lo_val hf g k 3 (by norm_num)
  have e9 : ∀ x, (k0_pay32 (F := F) (rowAt f 4 g.val) 0#32 1#32 k x).toNat = (rowAt f 4 g.val x).toNat + k.val := lo_val hf g k 4 (by norm_num)
  have e2 : ∀ x, (k0_pay21 (k0_pay5 (F := F) (rowAt f 0 g.val)) 0#32 1#32 k x).toNat = (rowAt f 0 g.val x).toNat + (64 + k.val) := hi_val hf g k 0 (by norm_num)
  have e4 : ∀ x, (k0_pay24 (k0_pay6 (F := F) (rowAt f 1 g.val)) 0#32 1#32 k x).toNat = (rowAt f 1 g.val x).toNat + (64 + k.val) := hi_val hf g k 1 (by norm_num)
  have e6 : ∀ x, (k0_pay27 (k0_pay7 (F := F) (rowAt f 2 g.val)) 0#32 1#32 k x).toNat = (rowAt f 2 g.val x).toNat + (64 + k.val) := hi_val hf g k 2 (by norm_num)
  have e8 : ∀ x, (k0_pay30 (k0_pay8 (F := F) (rowAt f 3 g.val)) 0#32 1#32 k x).toNat = (rowAt f 3 g.val x).toNat + (64 + k.val) := hi_val hf g k 3 (by norm_num)
  have e10 : ∀ x, (k0_pay33 (k0_pay9 (F := F) (rowAt f 4 g.val)) 0#32 1#32 k x).toNat = (rowAt f 4 g.val x).toNat + (64 + k.val) := hi_val hf g k 4 (by norm_num)
  have e11 : ∀ x, (k0_pay10 (F := F) J5 (Scalar.addi 0#32 (Scalar.muli (Scf.iv 0#32 1#32 k) 1#32)) x).toNat = (rowAt f 5 g.val x).toNat + k.val := fun x => by
    show (IntOp.addi (k0_pay1 (F := F) J5 x) _).toNat = _
    rw [h5]; exact lo_val hf g k 5 (by norm_num) x
  have e12 : ∀ x, (k0_pay11 (F := F) J5 (Scalar.addi 0#32 (Scalar.muli (Scf.iv 0#32 1#32 k) 1#32)) x).toNat = (rowAt f 5 g.val x).toNat + (64 + k.val) := fun x => by
    show (IntOp.addi (IntOp.addi (k0_pay1 (F := F) J5 x) _) _).toNat = _
    rw [h5]; exact hi_val hf g k 5 (by norm_num) x
  have e13 : ∀ x, (k0_pay12 (F := F) J6 (Scalar.addi 0#32 (Scalar.muli (Scf.iv 0#32 1#32 k) 1#32)) x).toNat = (rowAt f 6 g.val x).toNat + k.val := fun x => by
    show (IntOp.addi (k0_pay2 (F := F) J6 x) _).toNat = _
    rw [h6]; exact lo_val hf g k 6 (by norm_num) x
  have e14 : ∀ x, (k0_pay13 (F := F) J6 (Scalar.addi 0#32 (Scalar.muli (Scf.iv 0#32 1#32 k) 1#32)) x).toNat = (rowAt f 6 g.val x).toNat + (64 + k.val) := fun x => by
    show (IntOp.addi (IntOp.addi (k0_pay2 (F := F) J6 x) _) _).toNat = _
    rw [h6]; exact hi_val hf g k 6 (by norm_num) x
  have e15 : ∀ x, (k0_pay14 (F := F) J7 (Scalar.addi 0#32 (Scalar.muli (Scf.iv 0#32 1#32 k) 1#32)) x).toNat = (rowAt f 7 g.val x).toNat + k.val := fun x => by
    show (IntOp.addi (k0_pay3 (F := F) J7 x) _).toNat = _
    rw [h7]; exact lo_val hf g k 7 (by norm_num) x
  have e16 : ∀ x, (k0_pay15 (F := F) J7 (Scalar.addi 0#32 (Scalar.muli (Scf.iv 0#32 1#32 k) 1#32)) x).toNat = (rowAt f 7 g.val x).toNat + (64 + k.val) := fun x => by
    show (IntOp.addi (IntOp.addi (k0_pay3 (F := F) J7 x) _) _).toNat = _
    rw [h7]; exact hi_val hf g k 7 (by norm_num) x
  have e17 : ∀ x, (k0_pay16 (F := F) J8 (Scalar.addi 0#32 (Scalar.muli (Scf.iv 0#32 1#32 k) 1#32)) x).toNat = (rowAt f 8 g.val x).toNat + k.val := fun x => by
    show (IntOp.addi (k0_pay4 (F := F) J8 x) _).toNat = _
    rw [h8]; exact lo_val hf g k 8 (by norm_num) x
  have e18 : ∀ x, (k0_pay17 (F := F) J8 (Scalar.addi 0#32 (Scalar.muli (Scf.iv 0#32 1#32 k) 1#32)) x).toNat = (rowAt f 8 g.val x).toNat + (64 + k.val) := fun x => by
    show (IntOp.addi (IntOp.addi (k0_pay4 (F := F) J8 x) _) _).toNat = _
    rw [h8]; exact hi_val hf g k 8 (by norm_num) x
  have c1 : k0_chk1 _ := inb_of _ (fun x => by rw [e1 x]; have := row_lt hf g 0 (by norm_num) x; have := trip3 k; omega)
  have c2 : k0_chk2 _ := inb_of _ (fun x => by rw [e2 x]; have := row_lt hf g 0 (by norm_num) x; have := trip3 k; omega)
  have c3 : k0_chk3 _ := inb_of _ (fun x => by rw [e3 x]; have := row_lt hf g 1 (by norm_num) x; have := trip3 k; omega)
  have c4 : k0_chk4 _ := inb_of _ (fun x => by rw [e4 x]; have := row_lt hf g 1 (by norm_num) x; have := trip3 k; omega)
  have c5 : k0_chk5 _ := inb_of _ (fun x => by rw [e5 x]; have := row_lt hf g 2 (by norm_num) x; have := trip3 k; omega)
  have c6 : k0_chk6 _ := inb_of _ (fun x => by rw [e6 x]; have := row_lt hf g 2 (by norm_num) x; have := trip3 k; omega)
  have c7 : k0_chk7 _ := inb_of _ (fun x => by rw [e7 x]; have := row_lt hf g 3 (by norm_num) x; have := trip3 k; omega)
  have c8 : k0_chk8 _ := inb_of _ (fun x => by rw [e8 x]; have := row_lt hf g 3 (by norm_num) x; have := trip3 k; omega)
  have c9 : k0_chk9 _ := inb_of _ (fun x => by rw [e9 x]; have := row_lt hf g 4 (by norm_num) x; have := trip3 k; omega)
  have c10 : k0_chk10 _ := inb_of _ (fun x => by rw [e10 x]; have := row_lt hf g 4 (by norm_num) x; have := trip3 k; omega)
  have c11 : k0_chk11 _ := inb_of _ (fun x => by rw [e11 x]; have := row_lt hf g 5 (by norm_num) x; have := trip3 k; omega)
  have c12 : k0_chk12 _ := inb_of _ (fun x => by rw [e12 x]; have := row_lt hf g 5 (by norm_num) x; have := trip3 k; omega)
  have c13 : k0_chk13 _ := inb_of _ (fun x => by rw [e13 x]; have := row_lt hf g 6 (by norm_num) x; have := trip3 k; omega)
  have c14 : k0_chk14 _ := inb_of _ (fun x => by rw [e14 x]; have := row_lt hf g 6 (by norm_num) x; have := trip3 k; omega)
  have c15 : k0_chk15 _ := inb_of _ (fun x => by rw [e15 x]; have := row_lt hf g 7 (by norm_num) x; have := trip3 k; omega)
  have c16 : k0_chk16 _ := inb_of _ (fun x => by rw [e16 x]; have := row_lt hf g 7 (by norm_num) x; have := trip3 k; omega)
  have c17 : k0_chk17 _ := inb_of _ (fun x => by rw [e17 x]; have := row_lt hf g 8 (by norm_num) x; have := trip3 k; omega)
  have c18 : k0_chk18 _ := inb_of _ (fun x => by rw [e18 x]; have := row_lt hf g 8 (by norm_num) x; have := trip3 k; omega)
  unfold k0_t3_body
  simp only [k0_part1_eq_skeleton]; unfold k0_part1_skel
  simp only [SparseCore.vectorLoadIdx]
  iintro ⟨Hx, Ho⟩
  simp only [Prog.lift, Prog.bind_op, Prog.bind_ret, Prog.pure_eq_ret]
  rw [wp_assume_of _ _ _ _ c1]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c2]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c3]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c4]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c5]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c6]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c7]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c8]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c9]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c10]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c11]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c12]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c13]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c14]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c15]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c16]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c17]
  iapply (wp_load_rect 𝒱₀ (V d (cV L) (jV L)) none Set.univ (m := sX) (r := Rect.whole S28672) (S := Finset.univ) (q := fullShare) (f := w) (Finset.subset_univ _)) $$ Hx; iintro Hx
  rw [wp_assume_of _ _ _ _ c18]
  iapply (wp_load_rect 𝒱₀ (V d (cV L) (jV L)) none Set.univ (m := sX) (r := Rect.whole S28672) (S := Finset.univ) (q := fullShare) (f := w) (Finset.subset_univ _)) $$ Hx; iintro Hx
  iapply (wp_load 𝒱₀ (V d (cV L) (jV L)) none Set.univ (m := sO) (S := Finset.univ) (Finset.subset_univ _)) $$ Ho; iintro Ho
  rw [loadIdx_rdX w _ (rowAt f 0 g.val) k.val e1,
    loadIdx_rdX w _ (rowAt f 0 g.val) (64 + k.val) e2,
    loadIdx_rdX w _ (rowAt f 1 g.val) k.val e3,
    loadIdx_rdX w _ (rowAt f 1 g.val) (64 + k.val) e4,
    loadIdx_rdX w _ (rowAt f 2 g.val) k.val e5,
    loadIdx_rdX w _ (rowAt f 2 g.val) (64 + k.val) e6,
    loadIdx_rdX w _ (rowAt f 3 g.val) k.val e7,
    loadIdx_rdX w _ (rowAt f 3 g.val) (64 + k.val) e8,
    loadIdx_rdX w _ (rowAt f 4 g.val) k.val e9,
    loadIdx_rdX w _ (rowAt f 4 g.val) (64 + k.val) e10,
    loadIdx_rdX w _ (rowAt f 5 g.val) k.val e11,
    loadIdx_rdX w _ (rowAt f 5 g.val) (64 + k.val) e12,
    loadIdx_rdX w _ (rowAt f 6 g.val) k.val e13,
    loadIdx_rdX w _ (rowAt f 6 g.val) (64 + k.val) e14,
    loadIdx_rdX w _ (rowAt f 7 g.val) k.val e15,
    loadIdx_rdX w _ (rowAt f 7 g.val) (64 + k.val) e16,
    loadIdx_rdX w _ (rowAt f 8 g.val) k.val e17,
    loadIdx_rdX w _ (rowAt f 8 g.val) (64 + k.val) e18]
  iapply (wp_store 𝒱₀ (V d (cV L) (jV L)) none Set.univ (m := sO) (r := Rect.unit (s := S16384) (k0_off12 g k) S16.size (k0_off12_inb g k)) (Mk := Finset.univ) (S := Finset.univ) (f := outP w a c f o g.val k.val) (Finset.subset_univ _)) $$ Ho; iintro Ho
  rw [wp_ret]; imodintro
  isplitl [Hx]; · iexact Hx
  rw [store_outP g k w a c f o]
  · iexact Ho
  · intro x; rfl

end Tile

end Cert.Proof.Mix

end
-- ==== Proof.Group.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.MixIdeal
public import proofs.«01_k».proof.Proof.Gen.MixIdeal.Skeleton
public import proofs.«01_k».proof.Proof.Step

@[expose] public section

set_option maxRecDepth 16384

noncomputable section

namespace Cert.Proof.Mix

open Cert.MixIdeal Cert.MixIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

section Tile

variable (d : Dev nD) (L : grid0.Coords)

/-- The four fetched blocks and the block of sums, whole, at the contents named. -/
def held5 (w : S28672.Idx → Elt F .f32) (a c : S16x256.Idx → Elt F .f32) (f : S16x256.Idx → BitVec 32) (o : S16384.Idx → Elt F .f32) : sProp 𝕄 :=
  iprop(((sX).view.loc (V d (cV L) (jV L)) ↦{fullShare} w) ∗ ((sA).view.loc (V d (cV L) (jV L)) ↦{fullShare} a)
    ∗ ((sC).view.loc (V d (cV L) (jV L)) ↦{fullShare} c) ∗ ((sI).view.loc (V d (cV L) (jV L)) ↦{fullShare} f)
    ∗ ((sO).view.loc (V d (cV L) (jV L)) ↦{fullShare} o))

/-- One row of sixteen, loaded from a weight block and flattened. -/
theorem row_read {α : Type} (b : S16x256.Idx → α) (j g : Nat) (hj : j < 16) (hg : g < 16) (off : Fin 2 → Nat) (hoff : off = ![j, 16 * g])
    (inb : ∀ a, off a + S1x16.size a ≤ S16x256.size a) :
    (fun x : S16.Idx => b ((Rect.unit (s := S16x256) off S1x16.size inb).idx ((Shape.reshapeEquiv shapeCasts_S1x16_S16) x))) = rowAt b j g := by
  subst hoff
  refine funext fun x => congrArg b ?_
  have hx : (x 0).val < 16 := (x 0).isLt
  rw [Shape.reshapeEquiv_eq_of_rowMajor (s := S1x16) (s' := S16) shapeCasts_S1x16_S16 (x := x)
    (y := (ix2 (0 : Fin 1) (x 0) : S1x16.Idx)) (by
      rw [Shape.rowMajor_val_two, Shape.rowMajor_val_one]; show 0 * 16 + (x 0).val = (x 0).val; omega)]
  refine funext fun (q : Fin 2) => Fin.ext ?_
  match q with
  | 0 => show j + 1 * 0 = j % 16; omega
  | 1 => show 16 * g + 1 * (x 0).val = (16 * g + (x 0).val) % 256; omega

theorem outP_next (w : S28672.Idx → Elt F .f32) (a c : S16x256.Idx → Elt F .f32) (f : S16x256.Idx → BitVec 32) (o : S16384.Idx → Elt F .f32) (g : Nat) :
    outP w a c f o g 64 = outP w a c f o (g + 1) 0 := by
  refine funext fun (n : S16384.Idx) => ?_
  have hn : (n 0).val < 16384 := (n 0).isLt
  unfold outP
  congr 1
  apply propext
  omega

set_option maxHeartbeats 4000000 in
theorem step2 (g : Fin k0_t2_loop.trips)
    (w : S28672.Idx → Elt F .f32) (a c : S16x256.Idx → Elt F .f32) (f : S16x256.Idx → BitVec 32) (o : S16384.Idx → Elt F .f32)
    (hf : InWin f) :
    held5 d L w a c f (outP w a c f o g.val 0)
      ⊢ (wp frame (wpE (defs₀ (F := F)) 𝒱₀ (V d (cV L) (jV L)) none) Set.univ
          (k0_t2_body L xV (Memref.isWhole_whole _) aV (Memref.isWhole_whole _) cW (Memref.isWhole_whole _) iV (Memref.isWhole_whole _) oV (Memref.isWhole_whole _)
            sX (Memref.isWhole_whole _) sA (Memref.isWhole_whole _) sC (Memref.isWhole_whole _) sI (Memref.isWhole_whole _) sO (Memref.isWhole_whole _)
            cc0_scoped0 cc0_scoped1 cc0_scoped2 cc0_scoped3 cc0_scoped4 g ())
          fun _ => held5 d L w a c f (outP w a c f o (g.val + 1) 0) : sProp 𝕄) := by
  have hg := trip2 g
  have hA : ∀ (j : Nat) (off : Fin 2 → Nat) (hoff : off = ![j, 16 * g.val]) (inb : ∀ a, off a + S1x16.size a ≤ S16x256.size a) (hj : j < 16),
      (shapeCast S16 ((sA).view.readAt (Elt F) (Rect.unit (s := S16x256) off S1x16.size inb).toLoadRect a : Vec F S1x16 .f32) shapeCasts_S1x16_S16 : S16.Idx → Elt F .f32) = rowAt a j g.val :=
    fun j off hoff inb hj => row_read a j g.val hj hg off hoff inb
  have hC : ∀ (j : Nat) (off : Fin 2 → Nat) (hoff : off = ![j, 16 * g.val]) (inb : ∀ a, off a + S1x16.size a ≤ S16x256.size a) (hj : j < 16),
      (shapeCast S16 ((sC).view.readAt (Elt F) (Rect.unit (s := S16x256) off S1x16.size inb).toLoadRect c : Vec F S1x16 .f32) shapeCasts_S1x16_S16 : S16.Idx → Elt F .f32) = rowAt c j g.val :=
    fun j off hoff inb hj => row_read c j g.val hj hg off hoff inb
  have hI : ∀ (j : Nat) (off : Fin 2 → Nat) (hoff : off = ![j, 16 * g.val]) (inb : ∀ a, off a + S1x16.size a ≤ S16x256.size a) (hj : j < 16),
      (shapeCast S16 ((sI).view.readAt (Elt F) (Rect.unit (s := S16x256) off S1x16.size inb).toLoadRect f : Vec F S1x16 .i32) shapeCasts_S1x16_S16 : S16.Idx → BitVec 32) = rowAt f j g.val :=
    fun j off hoff inb hj => row_read f j g.val hj hg off hoff inb
  unfold k0_t2_body
  simp only [k0_part2_eq_skeleton, k0_part3_eq_skeleton]; unfold k0_part2_skel k0_part3_skel
  unfold held5
  iintro ⟨Hx, Ha, Hc, Hi, Ho⟩
  simp only [Prog.lift, Prog.bind_op, Prog.bind_ret, Prog.pure_eq_ret]
  iterate 9 (iapply (wp_load 𝒱₀ (V d (cV L) (jV L)) none Set.univ (m := sA) (S := Finset.univ) (Finset.subset_univ _)) $$ Ha; iintro Ha)
  iterate 9 (iapply (wp_load 𝒱₀ (V d (cV L) (jV L)) none Set.univ (m := sC) (S := Finset.univ) (Finset.subset_univ _)) $$ Hc; iintro Hc)
  iterate 9 (iapply (wp_load 𝒱₀ (V d (cV L) (jV L)) none Set.univ (m := sI) (S := Finset.univ) (Finset.subset_univ _)) $$ Hi; iintro Hi)
  simp only [k0_pay35, k0_pay36, k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57]
  rw [hA 0 _ (k0_off3_eq g) _ (by norm_num), hA 1 _ (k0_off4_eq g) _ (by norm_num), hA 2 _ (k0_off5_eq g) _ (by norm_num), hA 3 _ (k0_off6_eq g) _ (by norm_num),
    hA 4 _ (k0_off7_eq g) _ (by norm_num), hA 5 _ (k0_off8_eq g) _ (by norm_num), hA 6 _ (k0_off9_eq g) _ (by norm_num), hA 7 _ (k0_off10_eq g) _ (by norm_num), hA 8 _ (k0_off11_eq g) _ (by norm_num),
    hC 0 _ (k0_off3_eq g) _ (by norm_num), hC 1 _ (k0_off4_eq g) _ (by norm_num), hC 2 _ (k0_off5_eq g) _ (by norm_num), hC 3 _ (k0_off6_eq g) _ (by norm_num),
    hC 4 _ (k0_off7_eq g) _ (by norm_num), hC 5 _ (k0_off8_eq g) _ (by norm_num), hC 6 _ (k0_off9_eq g) _ (by norm_num), hC 7 _ (k0_off10_eq g) _ (by norm_num), hC 8 _ (k0_off11_eq g) _ (by norm_num),
    hI 0 _ (k0_off3_eq g) _ (by norm_num), hI 1 _ (k0_off4_eq g) _ (by norm_num), hI 2 _ (k0_off5_eq g) _ (by norm_num), hI 3 _ (k0_off6_eq g) _ (by norm_num), hI 4 _ (k0_off7_eq g) _ (by norm_num)]
  sl_for (fun k _ => iprop(((sX).view.loc (V d (cV L) (jV L)) ↦{fullShare} w) ∗ ((sO).view.loc (V d (cV L) (jV L)) ↦{fullShare} outP w a c f o g.val k))) $$ [Hx Ho]
  case region =>
    intro k _
    exact step3 d L g k w a c f o hf _ _ _ _ (hI 5 _ (k0_off8_eq g) _ (by norm_num)) (hI 6 _ (k0_off9_eq g) _ (by norm_num)) (hI 7 _ (k0_off10_eq g) _ (by norm_num))
      (hI 8 _ (k0_off11_eq g) _ (by norm_num))
  · isplitl [Hx]; · iexact Hx
    iexact Ho
  iintro %_ ⟨Hx, Ho⟩
  sl_exec
  rw [← outP_next, wp_ret]
  imodintro
  isplitl [Hx]; · iexact Hx
  isplitl [Ha]; · iexact Ha
  isplitl [Hc]; · iexact Hc
  isplitl [Hi]; · iexact Hi
  iexact Ho

end Tile

end Cert.Proof.Mix

end
-- ==== Proof.Win.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.MixIdeal
public import proofs.«01_k».proof.Proof.Gen.MixIdeal.Skeleton
public import proofs.«01_k».proof.Proof.Vals

@[expose] public section

set_option maxRecDepth 16384

noncomputable section

namespace Cert.Proof.Mix

open Cert.MixIdeal Cert.MixIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## Which block a trip takes

    The call has 192 trips in all, numbered `n`: 32 subcores, six trips each. Trip `n` is batch `n / 96`, head `n % 96 / 8`,
    block of columns `n % 8`. -/

theorem off1_eq : ∀ (i : grid0.Coords) (t : Fin k0_t1_loop.trips),
    k0_off1 i t = ![((2 * (i 1).val + (i 0).val) * 6 + t.val) / 96, ((2 * (i 1).val + (i 0).val) * 6 + t.val) % 96 / 8, 16384 * (((2 * (i 1).val + (i 0).val) * 6 + t.val) % 8)] := by
  decide +kernel

theorem off2_eq : ∀ (i : grid0.Coords) (t : Fin k0_t1_loop.trips),
    k0_off2 i t = ![((2 * (i 1).val + (i 0).val) * 6 + t.val) / 96, 16 * (((2 * (i 1).val + (i 0).val) * 6 + t.val) % 96 / 8), 256 * (((2 * (i 1).val + (i 0).val) * 6 + t.val) % 8)] := by
  decide +kernel

theorem off13_eq : ∀ (i : grid0.Coords) (t : Fin k0_t1_loop.trips),
    k0_off13 i t = ![((2 * (i 1).val + (i 0).val) * 6 + t.val) / 96, ((2 * (i 1).val + (i 0).val) * 6 + t.val) % 96 / 8, ((2 * (i 1).val + (i 0).val) * 6 + t.val) % 8, 0] := by
  decide +kernel

theorem trips1 : k0_t1_loop.trips = 6 := by decide +kernel

/-- The window of one head's row that trip `n` fetches. -/
def winOf {α : Type} (X : S2x12x143360.Idx → α) (n : Nat) : S28672.Idx → α := fun x =>
  X (ix3 (⟨n / 96 % 2, Nat.mod_lt _ (by decide)⟩ : Fin 2) (⟨n % 96 / 8, by omega⟩ : Fin 12) (⟨16384 * (n % 8) + (x 0).val, by have h : (x 0).val < 28672 := (x 0).isLt; omega⟩ : Fin 143360))

/-- The block of a weight (or offset) array that trip `n` fetches. -/
def blkOf {α : Type} (A : S2x192x2048.Idx → α) (n : Nat) : S16x256.Idx → α := fun x =>
  A (ix3 (⟨n / 96 % 2, Nat.mod_lt _ (by decide)⟩ : Fin 2) (⟨16 * (n % 96 / 8) + (x 0).val, by have h : (x 0).val < 16 := (x 0).isLt; omega⟩ : Fin 192)
    (⟨256 * (n % 8) + (x 1).val, by have h : (x 1).val < 256 := (x 1).isLt; omega⟩ : Fin 2048))

/-- The number of the trip that writes an element of the result. -/
def num (z : S2x12x8x16384.Idx) : Nat := 96 * (z 0).val + 8 * (z 1).val + (z 2).val

theorem num_lt (z : S2x12x8x16384.Idx) : num z < 192 := by
  have h0 : (z 0).val < 2 := (z 0).isLt
  have h1 : (z 1).val < 12 := (z 1).isLt
  have h2 : (z 2).val < 8 := (z 2).isLt
  unfold num; omega

variable {F : FTy → Type} [FloatOps F]

/-- What the call leaves in the result. -/
def outAll (X : S2x12x143360.Idx → Elt F .f32) (A C : S2x192x2048.Idx → Elt F .f32) (I : S2x192x2048.Idx → BitVec 32) : S2x12x8x16384.Idx → Elt F .f32 :=
  fun z => outV (winOf X (num z)) (blkOf A (num z)) (blkOf C (num z)) (blkOf I (num z)) (ix1 (z 3))

/-- The result when the trips numbered below `n` are done. -/
def doneF (X : S2x12x143360.Idx → Elt F .f32) (A C : S2x192x2048.Idx → Elt F .f32) (I : S2x192x2048.Idx → BitVec 32) (o : S2x12x8x16384.Idx → Elt F .f32) (n : Nat) :
    S2x12x8x16384.Idx → Elt F .f32 := fun z => if num z < n then outAll X A C I z else o z

/-- The elements subcore `w` (of 32) writes. -/
def tileSet (w : Nat) : Finset S2x12x8x16384.Idx := Finset.univ.filter fun z => num z / 6 = w

/-- Every word offset is inside its window, in every block. -/
def InAll (I : S2x192x2048.Idx → BitVec 32) : Prop := ∀ n, n < 192 → InWin (blkOf I n)

omit [FloatOps F] in
theorem outP_zero [FloatOps F] (w : S28672.Idx → Elt F .f32) (a c : S16x256.Idx → Elt F .f32) (f : S16x256.Idx → BitVec 32) (o : S16384.Idx → Elt F .f32) :
    outP w a c f o 0 0 = o := by
  refine funext fun (n : S16384.Idx) => ?_
  unfold outP
  rw [if_neg (by omega)]

theorem outP_all (w : S28672.Idx → Elt F .f32) (a c : S16x256.Idx → Elt F .f32) (f : S16x256.Idx → BitVec 32) (o : S16384.Idx → Elt F .f32) :
    outP w a c f o 16 0 = outV w a c f := by
  refine funext fun (n : S16384.Idx) => ?_
  unfold outP
  rw [if_pos (by omega)]

end Cert.Proof.Mix

end
-- ==== Proof.Task.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.MixIdeal
public import proofs.«01_k».proof.Proof.Gen.MixIdeal.Skeleton
public import proofs.«01_k».proof.Proof.Group
public import proofs.«01_k».proof.Proof.Win

@[expose] public section

set_option maxRecDepth 16384

noncomputable section

namespace Cert.Proof.Mix

open Cert.MixIdeal Cert.MixIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

section Tile

variable (d : Dev nD) (L : grid0.Coords)

/-- The subcore's number among the 32. -/
def wid (L : grid0.Coords) : Nat := 2 * (L 1).val + (L 0).val

/-- The windows a trip moves, as the body addresses them. -/
abbrev xWin (t : Fin k0_t1_loop.trips) : Memref sig .scVector .hbm S28672 .f32 :=
  ((xV).slice (Rect.unit (s := S2x12x143360) (k0_off1 L t) S1x1x28672.size (k0_off1_inb L t)) (fun _ => rfl)).squeeze S28672 squeezes_S1x1x28672_S28672
abbrev aWin (t : Fin k0_t1_loop.trips) : Memref sig .scVector .hbm S16x256 .f32 :=
  ((aV).slice (Rect.unit (s := S2x192x2048) (k0_off2 L t) S1x16x256.size (k0_off2_inb L t)) (fun _ => rfl)).squeeze S16x256 squeezes_S1x16x256_S16x256
abbrev cWin (t : Fin k0_t1_loop.trips) : Memref sig .scVector .hbm S16x256 .f32 :=
  ((cW).slice (Rect.unit (s := S2x192x2048) (k0_off2 L t) S1x16x256.size (k0_off2_inb L t)) (fun _ => rfl)).squeeze S16x256 squeezes_S1x16x256_S16x256
abbrev iWin (t : Fin k0_t1_loop.trips) : Memref sig .scVector .hbm S16x256 .i32 :=
  ((iV).slice (Rect.unit (s := S2x192x2048) (k0_off2 L t) S1x16x256.size (k0_off2_inb L t)) (fun _ => rfl)).squeeze S16x256 squeezes_S1x16x256_S16x256
abbrev oWin (t : Fin k0_t1_loop.trips) : Memref sig .scVector .hbm S16384 .f32 :=
  ((oV).slice (Rect.unit (s := S2x12x8x16384) (k0_off13 L t) S1x1x1x16384.size (k0_off13_inb L t)) (fun _ => rfl)).squeeze S16384 squeezes_S1x1x1x16384_S16384

theorem num_bound (t : Fin k0_t1_loop.trips) : wid L * 6 + t.val < 192 := by
  have h0 : (L 0).val < 2 := (L 0).isLt
  have h1 : (L 1).val < 16 := (L 1).isLt
  have ht := Fin.isLt t
  have e := trips1
  unfold wid; omega

omit [FloatOps F] in
theorem read_xWin (t : Fin k0_t1_loop.trips) (X : S2x12x143360.Idx → Elt F .f32) :
    (xWin L t).view.read (Elt F) X = winOf X (wid L * 6 + t.val) := by
  refine funext fun (x : S28672.Idx) => congrArg X ?_
  have hb := num_bound L t
  have hx : (x 0).val < 28672 := (x 0).isLt
  show (Rect.unit (s := S2x12x143360) (k0_off1 L t) S1x1x28672.size (k0_off1_inb L t)).idx ((Shape.reshapeEquiv _) x) = _
  rw [Shape.reshapeEquiv_eq_of_rowMajor (s := S1x1x28672) (s' := S28672) _ (x := x) (y := (ix3 (0 : Fin 1) (0 : Fin 1) (x 0) : S1x1x28672.Idx)) (by
    rw [Shape.rowMajor_val_three, Shape.rowMajor_val_one]; show (0 * 1 + 0) * 28672 + (x 0).val = (x 0).val; omega)]
  have e := off1_eq L t
  refine funext fun (q : Fin 3) => Fin.ext ?_
  match q with
  | 0 => show k0_off1 L t 0 + 1 * 0 = (wid L * 6 + t.val) / 96 % 2; rw [congrFun e 0]; show (wid L * 6 + t.val) / 96 + 1 * 0 = _; omega
  | 1 => show k0_off1 L t 1 + 1 * 0 = (wid L * 6 + t.val) % 96 / 8; rw [congrFun e 1]; show (wid L * 6 + t.val) % 96 / 8 + 1 * 0 = _; omega
  | 2 => show k0_off1 L t 2 + 1 * (x 0).val = 16384 * ((wid L * 6 + t.val) % 8) + (x 0).val; rw [congrFun e 2]; show 16384 * ((wid L * 6 + t.val) % 8) + 1 * (x 0).val = _; omega

theorem idx_blk (t : Fin k0_t1_loop.trips) (x : S16x256.Idx) :
    (Rect.unit (s := S2x192x2048) (k0_off2 L t) S1x16x256.size (k0_off2_inb L t)).idx ((Shape.reshapeEquiv squeezes_S1x16x256_S16x256.numel_eq) x)
      = ix3 (⟨(wid L * 6 + t.val) / 96 % 2, Nat.mod_lt _ (by decide)⟩ : Fin 2) (⟨16 * ((wid L * 6 + t.val) % 96 / 8) + (x 0).val, by have h : (x 0).val < 16 := (x 0).isLt; omega⟩ : Fin 192)
    (⟨256 * ((wid L * 6 + t.val) % 8) + (x 1).val, by have h : (x 1).val < 256 := (x 1).isLt; omega⟩ : Fin 2048) := by
  have hb := num_bound L t
  rw [Shape.reshapeEquiv_eq_of_rowMajor (s := S1x16x256) (s' := S16x256) _ (x := x) (y := (ix3 (0 : Fin 1) (x 0) (x 1) : S1x16x256.Idx)) (by
    rw [Shape.rowMajor_val_three, Shape.rowMajor_val_two]; show (0 * 16 + (x 0).val) * 256 + (x 1).val = (x 0).val * 256 + (x 1).val; omega)]
  have e := off2_eq L t
  refine funext fun (q : Fin 3) => Fin.ext ?_
  match q with
  | 0 => show k0_off2 L t 0 + 1 * 0 = (wid L * 6 + t.val) / 96 % 2; rw [congrFun e 0]; show (wid L * 6 + t.val) / 96 + 1 * 0 = _; omega
  | 1 => show k0_off2 L t 1 + 1 * (x 0).val = 16 * ((wid L * 6 + t.val) % 96 / 8) + (x 0).val; rw [congrFun e 1]; show 16 * ((wid L * 6 + t.val) % 96 / 8) + 1 * (x 0).val = _; omega
  | 2 => show k0_off2 L t 2 + 1 * (x 1).val = 256 * ((wid L * 6 + t.val) % 8) + (x 1).val; rw [congrFun e 2]; show 256 * ((wid L * 6 + t.val) % 8) + 1 * (x 1).val = _; omega

omit [FloatOps F] in
theorem read_aWin (t : Fin k0_t1_loop.trips) (A : S2x192x2048.Idx → Elt F .f32) :
    (aWin L t).view.read (Elt F) A = blkOf A (wid L * 6 + t.val) := funext fun x => congrArg A (idx_blk L t x)
omit [FloatOps F] in
theorem read_cWin (t : Fin k0_t1_loop.trips) (A : S2x192x2048.Idx → Elt F .f32) :
    (cWin L t).view.read (Elt F) A = blkOf A (wid L * 6 + t.val) := funext fun x => congrArg A (idx_blk L t x)
omit [FloatOps F] in
theorem read_iWin (t : Fin k0_t1_loop.trips) (A : S2x192x2048.Idx → BitVec 32) :
    (iWin L t).view.read (Elt F) A = blkOf A (wid L * 6 + t.val) := funext fun x => congrArg A (idx_blk L t x)

theorem emb_oWin (t : Fin k0_t1_loop.trips) (x : S16384.Idx) :
    (oWin L t).view.emb x = (ix4 (⟨(wid L * 6 + t.val) / 96 % 2, Nat.mod_lt _ (by decide)⟩ : Fin 2) (⟨(wid L * 6 + t.val) % 96 / 8, by omega⟩ : Fin 12)
      (⟨(wid L * 6 + t.val) % 8, by omega⟩ : Fin 8) (x 0) : S2x12x8x16384.Idx) := by
  have hb := num_bound L t
  show (Rect.unit (s := S2x12x8x16384) (k0_off13 L t) S1x1x1x16384.size (k0_off13_inb L t)).idx ((Shape.reshapeEquiv squeezes_S1x1x1x16384_S16384.numel_eq) x) = _
  rw [Shape.reshapeEquiv_eq_of_rowMajor (s := S1x1x1x16384) (s' := S16384) _ (x := x) (y := (ix4 (0 : Fin 1) (0 : Fin 1) (0 : Fin 1) (x 0) : S1x1x1x16384.Idx)) (by
    rw [Shape.rowMajor_val_four, Shape.rowMajor_val_one]; show ((0 * 1 + 0) * 1 + 0) * 16384 + (x 0).val = (x 0).val; omega)]
  have e := off13_eq L t
  refine funext fun (q : Fin 4) => Fin.ext ?_
  match q with
  | 0 => show k0_off13 L t 0 + 1 * 0 = (wid L * 6 + t.val) / 96 % 2; rw [congrFun e 0]; show (wid L * 6 + t.val) / 96 + 1 * 0 = _; omega
  | 1 => show k0_off13 L t 1 + 1 * 0 = (wid L * 6 + t.val) % 96 / 8; rw [congrFun e 1]; show (wid L * 6 + t.val) % 96 / 8 + 1 * 0 = _; omega
  | 2 => show k0_off13 L t 2 + 1 * 0 = (wid L * 6 + t.val) % 8; rw [congrFun e 2]; show (wid L * 6 + t.val) % 8 + 1 * 0 = _; omega
  | 3 => show k0_off13 L t 3 + 1 * (x 0).val = (x 0).val; rw [congrFun e 3]; show 0 + 1 * (x 0).val = _; omega

theorem num_emb (t : Fin k0_t1_loop.trips) (x : S16384.Idx) : num ((oWin L t).view.emb x : S2x12x8x16384.Idx) = wid L * 6 + t.val := by
  have hb := num_bound L t
  rw [emb_oWin]
  show 96 * ((wid L * 6 + t.val) / 96 % 2) + 8 * ((wid L * 6 + t.val) % 96 / 8) + (wid L * 6 + t.val) % 8 = _
  omega

theorem oWin_sub (t : Fin k0_t1_loop.trips) : (oWin L t).view.set ⊆ tileSet (wid L) := by
  intro z hz
  obtain ⟨x, -, rfl⟩ := Finset.mem_map.mp hz
  have e := num_emb L t x
  have ht := Fin.isLt t
  have e1 := trips1
  refine Finset.mem_filter.mpr ⟨Finset.mem_univ _, ?_⟩
  show num ((oWin L t).view.emb x : S2x12x8x16384.Idx) / 6 = wid L
  rw [e]; omega

/-- A trip's write-out puts its block of the result in place and leaves the rest. -/
theorem write_oWin (t : Fin k0_t1_loop.trips) (X : S2x12x143360.Idx → Elt F .f32) (A C : S2x192x2048.Idx → Elt F .f32) (I : S2x192x2048.Idx → BitVec 32)
    (o : S2x12x8x16384.Idx → Elt F .f32) :
    (oWin L t).view.write (Elt F) (doneF X A C I o (wid L * 6 + t.val))
      (outV (winOf X (wid L * 6 + t.val)) (blkOf A (wid L * 6 + t.val)) (blkOf C (wid L * 6 + t.val)) (blkOf I (wid L * 6 + t.val))) Finset.univ
      = doneF X A C I o (wid L * 6 + (t.val + 1)) := by
  have hb := num_bound L t
  refine funext fun (z : S2x12x8x16384.Idx) => ?_
  by_cases hz : num z = wid L * 6 + t.val
  · have h0 : (z 0).val < 2 := (z 0).isLt
    have h1 : (z 1).val < 12 := (z 1).isLt
    have h2 : (z 2).val < 8 := (z 2).isLt
    have hz' := hz
    unfold num at hz'
    have hemb : (oWin L t).view.emb (ix1 (z 3) : S16384.Idx) = z := by
      rw [emb_oWin]
      refine funext fun (q : Fin 4) => Fin.ext ?_
      match q with
      | 0 => show (wid L * 6 + t.val) / 96 % 2 = (z 0).val; omega
      | 1 => show (wid L * 6 + t.val) % 96 / 8 = (z 1).val; omega
      | 2 => show (wid L * 6 + t.val) % 8 = (z 2).val; omega
      | 3 => rfl
    have hw := View.write_emb_of_mem (v := (oWin L t).view) (doneF X A C I o (wid L * 6 + t.val))
      (outV (winOf X (wid L * 6 + t.val)) (blkOf A (wid L * 6 + t.val)) (blkOf C (wid L * 6 + t.val)) (blkOf I (wid L * 6 + t.val))) (Finset.mem_univ (ix1 (z 3) : S16384.Idx))
    rw [hemb] at hw
    refine hw.trans ?_
    show outV _ _ _ _ _ = if num z < _ then _ else _
    rw [if_pos (by omega)]
    unfold outAll
    rw [hz]
  · rw [View.write_of_not_mem]
    · show (if num z < _ then _ else _) = if num z < _ then _ else _
      congr 1
      apply propext
      omega
    · intro hm
      rw [View.setOn_univ] at hm
      obtain ⟨x, -, hx⟩ := Finset.mem_map.mp hm
      exact hz (by rw [← hx]; exact num_emb L t x)

/-- One write through the whole of a view is the plain write. -/
theorem writes_one {sp : Space} {s : Shape} {e : EltTy} (v : View sig .scVector sp s e) (f : v.ty.Contents (Elt F)) (w : s.Idx → Elt F e) :
    v.writes (Elt F) f [⟨Rect.whole s, w⟩] = v.write (Elt F) f w Finset.univ := by
  rw [View.writes_singleton]
  have he : ∀ x, (v.slice (Rect.whole s)).emb x = v.emb x := fun x => congrArg v.emb (funext fun a => Fin.ext (by
    show 0 + 1 * (x a).val = (x a).val
    omega))
  refine funext fun i => ?_
  by_cases hi : i ∈ v.set
  · obtain ⟨x, -, rfl⟩ := Finset.mem_map.mp hi
    rw [View.write_emb_of_mem _ _ (Finset.mem_univ _), ← he x]
    exact View.write_emb_of_mem _ _ (Finset.mem_univ _)
  · rw [View.write_of_not_mem (v := v) _ _ _ (by rwa [View.setOn_univ]), View.write_of_not_mem]
    rw [View.setOn_univ]
    intro hm
    obtain ⟨x, -, rfl⟩ := Finset.mem_map.mp hm
    exact hi (Finset.mem_map.mpr ⟨x, Finset.mem_univ _, (he x).symm⟩)

/-- What a subcore holds between trips: shares of the four arrays it reads, its part of the result with the trips so far done, its scratch blocks,
    its transfer counters at zero, and what it owes. -/
def inv1 (q : PosShare TreeShare) (X : S2x12x143360.Idx → Elt F .f32) (A C : S2x192x2048.Idx → Elt F .f32) (I : S2x192x2048.Idx → BitVec 32)
    (o : S2x12x8x16384.Idx → Elt F .f32) (O : CellTallies nD τ sig (HIx 1)) (W : Waits sig (HIx 1)) (k : Nat) (_ : PUnit) : sProp 𝕄 :=
  iprop(Transfers.MayWaits (V d (cV L) (jV L)) (default : HIx 1) O
    ∗ ((xV).view.loc (V d (cV L) (jV L)) ↦{q} X) ∗ ((aV).view.loc (V d (cV L) (jV L)) ↦{q} A)
    ∗ ((cW).view.loc (V d (cV L) (jV L)) ↦{q} C) ∗ ((iV).view.loc (V d (cV L) (jV L)) ↦{q} I)
    ∗ ((oV).view.loc (V d (cV L) (jV L)) ↦[tileSet (wid L)]{fullShare} doneF X A C I o (wid L * 6 + k))
    ∗ (∃ f, (sX).view.loc (V d (cV L) (jV L)) ↦{fullShare} f) ∗ (∃ f, (sA).view.loc (V d (cV L) (jV L)) ↦{fullShare} f)
    ∗ (∃ f, (sC).view.loc (V d (cV L) (jV L)) ↦{fullShare} f) ∗ (∃ f, (sI).view.loc (V d (cV L) (jV L)) ↦{fullShare} f)
    ∗ (∃ f, (sO).view.loc (V d (cV L) (jV L)) ↦{fullShare} f)
    ∗ semVal (V d (cV L) (jV L), SemLoc.dma cc0_scoped0.sem) 0 ∗ semVal (V d (cV L) (jV L), SemLoc.dma cc0_scoped1.sem) 0
    ∗ semVal (V d (cV L) (jV L), SemLoc.dma cc0_scoped2.sem) 0 ∗ semVal (V d (cV L) (jV L), SemLoc.dma cc0_scoped3.sem) 0
    ∗ semVal (V d (cV L) (jV L), SemLoc.dma cc0_scoped4.sem) 0
    ∗ ∃ W', ⌜∀ p ∈ W', p ∈ W ∨ p.2 = none⌝ ∗ owes (V d (cV L) (jV L)) O W')

set_option maxHeartbeats 8000000 in
theorem step1 (q : PosShare TreeShare) (X : S2x12x143360.Idx → Elt F .f32) (A C : S2x192x2048.Idx → Elt F .f32) (I : S2x192x2048.Idx → BitVec 32)
    (o : S2x12x8x16384.Idx → Elt F .f32) (O : CellTallies nD τ sig (HIx 1)) (W : Waits sig (HIx 1)) (hI : InAll I) (v1 : BitVec 32) (t : Fin k0_t1_loop.trips) :
    inv1 d L q X A C I o O W t.val ⟨⟩
      ⊢ (wp frame (wpE (defs₀ (F := F)) 𝒱₀ (V d (cV L) (jV L)) none) Set.univ
          (k0_t1_body L xV (Memref.isWhole_whole _) aV (Memref.isWhole_whole _) cW (Memref.isWhole_whole _) iV (Memref.isWhole_whole _) oV (Memref.isWhole_whole _)
            sX (Memref.isWhole_whole _) sA (Memref.isWhole_whole _) sC (Memref.isWhole_whole _) sI (Memref.isWhole_whole _) sO (Memref.isWhole_whole _)
            cc0_scoped0 cc0_scoped1 cc0_scoped2 cc0_scoped3 cc0_scoped4 v1 t ())
          fun _ => inv1 d L q X A C I o O W (t.val + 1) ⟨⟩ : sProp 𝕄) := by
  unfold k0_t1_body
  simp only [k0_part4_eq_skeleton, k0_part5_eq_skeleton]; unfold k0_part4_skel k0_part5_skel
  unfold inv1
  iintro ⟨Hmw, Hx, Ha, Hc, Hi, Ho, ⟨%f1, H1⟩, ⟨%f2, H2⟩, ⟨%f3, H3⟩, ⟨%f4, H4⟩, ⟨%f5, H5⟩, HS0, HS1, HS2, HS3, HS4, %W', %hW', HO⟩
  sl_exec (disch := first | exact View.amount_pos _ _ (show 0 < S28672.numel by decide) | exact View.amount_pos _ _ (show 0 < S16x256.numel by decide) | exact View.amount_pos _ _ (show 0 < S16384.numel by decide))
  have e1 : View.write (Elt F) (sX).view f1 (step1.sl.dma0 L X t) Finset.univ = winOf X (wid L * 6 + t.val) := (View.write_whole_univ _ _ _).trans (read_xWin L t X)
  have e2 : View.write (Elt F) (sA).view f2 (step1.sl.dma0_1 L A t) Finset.univ = blkOf A (wid L * 6 + t.val) := (View.write_whole_univ _ _ _).trans (read_aWin L t A)
  have e3 : View.write (Elt F) (sC).view f3 (step1.sl.dma0_2 L C t) Finset.univ = blkOf C (wid L * 6 + t.val) := (View.write_whole_univ _ _ _).trans (read_cWin L t C)
  have e4 : View.write (Elt F) (sI).view f4 (step1.sl.dma0_3 L I t) Finset.univ = blkOf I (wid L * 6 + t.val) := (View.write_whole_univ _ _ _).trans (read_iWin L t I)
  rw [e1, e2, e3, e4]
  sl_for (fun k _ => held5 d L (winOf X (wid L * 6 + t.val)) (blkOf A (wid L * 6 + t.val)) (blkOf C (wid L * 6 + t.val)) (blkOf I (wid L * 6 + t.val))
    (outP (winOf X (wid L * 6 + t.val)) (blkOf A (wid L * 6 + t.val)) (blkOf C (wid L * 6 + t.val)) (blkOf I (wid L * 6 + t.val)) f5 k 0)) $$ [H1 H2 H3 H4 H5]
  case region =>
    intro g _
    exact step2 d L g _ _ _ _ _ (hI _ (num_bound L t))
  · unfold held5
    rw [outP_zero]
    isplitl [H1]; · iexact H1
    isplitl [H2]; · iexact H2
    isplitl [H3]; · iexact H3
    isplitl [H4]; · iexact H4
    iexact H5
  iintro %_ HI
  rw [show Scf.trips k0_t2_loop.lb k0_t2_loop.ub k0_t2_loop.st = 16 by decide +kernel, outP_all]
  unfold held5
  icases HI with ⟨H1, H2, H3, H4, H5⟩
  ihave Ho' := (pointsTo_split_subset (oWin_sub L t)).1 $$ Ho
  icases Ho' with ⟨Ho, Hrest⟩
  ihave Hd := (show ((oV).view.loc (V d (cV L) (jV L)) ↦[(oWin L t).view.set]{fullShare} doneF X A C I o (wid L * 6 + t.val) : sProp 𝕄)
    ⊢ ((oWin L t).view.loc (V d (cV L) (jV L)) ↦[(oWin L t).view.set]{fullShare} doneF X A C I o (wid L * 6 + t.val)) from .rfl) $$ Ho
  sl_exec (disch := exact View.amount_pos _ _ (show 0 < S16384.numel by decide))
  have e5 : View.writes (oWin L t).view (Elt F) (doneF X A C I o (wid L * 6 + t.val)) [⟨Rect.whole S16384, step1.sl.dma0_4 L X A C I t⟩]
      = doneF X A C I o (wid L * 6 + (t.val + 1)) := (writes_one _ _ _).trans (write_oWin L t X A C I o)
  rw [e5]
  have e6 : ((oV).view.loc (V d (cV L) (jV L)) ↦[tileSet (wid L) \ (oWin L t).view.set]{fullShare} doneF X A C I o (wid L * 6 + t.val) : sProp 𝕄)
      = ((oV).view.loc (V d (cV L) (jV L)) ↦[tileSet (wid L) \ (oWin L t).view.set]{fullShare} doneF X A C I o (wid L * 6 + (t.val + 1))) :=
    (pointsTo_rest_write (v := (oWin L t).view) (V d (cV L) (jV L)) (S := tileSet (wid L)) (doneF X A C I o (wid L * 6 + t.val))
      (outV (winOf X (wid L * 6 + t.val)) (blkOf A (wid L * 6 + t.val)) (blkOf C (wid L * 6 + t.val)) (blkOf I (wid L * 6 + t.val)))).trans
      (by rw [write_oWin])
  ihave Hrest := (Entails.of_eq e6) $$ Hrest
  have hj : iprop(((oWin L t).view.loc (V d (cV L) (jV L)) ↦[(oWin L t).view.set]{fullShare} doneF X A C I o (wid L * 6 + (t.val + 1)))
      ∗ ((oV).view.loc (V d (cV L) (jV L)) ↦[tileSet (wid L) \ (oWin L t).view.set]{fullShare} doneF X A C I o (wid L * 6 + (t.val + 1))))
      ⊢ ((oV).view.loc (V d (cV L) (jV L)) ↦[tileSet (wid L)]{fullShare} doneF X A C I o (wid L * 6 + (t.val + 1)) : sProp 𝕄) :=
    (pointsTo_split_subset (oWin_sub L t)).2
  ihave Ho := hj $$ [Hd Hrest]
  · isplitl [Hd]; · iexact Hd
    iexact Hrest
  rw [wp_ret]; imodintro
  isplitl [Hmw]; · iexact Hmw
  isplitl [Hx]; · iexact Hx
  isplitl [Ha]; · iexact Ha
  isplitl [Hc]; · iexact Hc
  isplitl [Hi]; · iexact Hi
  isplitl [Ho]; · iexact Ho
  isplitl [H1]; · iexists _; iexact H1
  isplitl [H2]; · iexists _; iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iexists _; isplitr
  swap; · iexact HO
  ipureintro; intro p hp
  simp only [Finset.mem_insert] at hp
  rcases hp with rfl | rfl | rfl | rfl | rfl | hp
  · exact .inr rfl
  · exact .inr rfl
  · exact .inr rfl
  · exact .inr rfl
  · exact .inr rfl
  · exact hW' p hp

/-! ## The whole task of a subcore -/

/-- A subcore's five transfer counters. -/
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)
abbrev cell4 (d : Dev nD) (c : Fin τ.nSC) (i : Fin τ.nSub) : GSem nD τ sig := (V d c i, .dma cc0_scoped4.sem)

omit [FloatOps F] in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ semVal (cell4 d (cV L) (jV L)) 0
          ∗ bigSep ((((((ownCells (V d (cV L) (jV L))).erase (cell0 d (cV L) (jV L))).erase (cell1 d (cV L) (jV L))).erase (cell2 d (cV L) (jV L))).erase
              (cell3 d (cV L) (jV L))).erase (cell4 d (cV L) (jV L))) fun g => semVal g 0) := by
  have own : ∀ s : DmaSem sig, (SemLoc.dma s : SemLoc sig).isScoped .scVector = true → ((V d (cV L) (jV L), SemLoc.dma s) : GSem nD τ sig) ∈ ownCells (V d (cV L) (jV L)) :=
    fun s hs => mem_ownCells.mpr ⟨rfl, hs⟩
  have ne : ∀ s s' : DmaSem sig, s ≠ s' → ((V d (cV L) (jV L), SemLoc.dma s) : GSem nD τ sig) ≠ (V d (cV L) (jV L), SemLoc.dma s') :=
    fun s s' h e => h (SemLoc.dma.inj (Prod.mk.inj e).2)
  unfold SparseCore.Cfg.ownSems0
  rw [SparseCore.bigSep_erase' (own cc0_scoped0.sem (by decide)),
    SparseCore.bigSep_erase' (Finset.mem_erase.mpr ⟨ne cc0_scoped1.sem cc0_scoped0.sem (by decide), own cc0_scoped1.sem (by decide)⟩),
    SparseCore.bigSep_erase' (Finset.mem_erase.mpr ⟨ne cc0_scoped2.sem cc0_scoped1.sem (by decide), Finset.mem_erase.mpr ⟨ne cc0_scoped2.sem cc0_scoped0.sem (by decide),
      own cc0_scoped2.sem (by decide)⟩⟩),
    SparseCore.bigSep_erase' (Finset.mem_erase.mpr ⟨ne cc0_scoped3.sem cc0_scoped2.sem (by decide), Finset.mem_erase.mpr ⟨ne cc0_scoped3.sem cc0_scoped1.sem (by decide),
      Finset.mem_erase.mpr ⟨ne cc0_scoped3.sem cc0_scoped0.sem (by decide), own cc0_scoped3.sem (by decide)⟩⟩⟩),
    SparseCore.bigSep_erase' (Finset.mem_erase.mpr ⟨ne cc0_scoped4.sem cc0_scoped3.sem (by decide), Finset.mem_erase.mpr ⟨ne cc0_scoped4.sem cc0_scoped2.sem (by decide),
      Finset.mem_erase.mpr ⟨ne cc0_scoped4.sem cc0_scoped1.sem (by decide), Finset.mem_erase.mpr ⟨ne cc0_scoped4.sem cc0_scoped0.sem (by decide),
        own cc0_scoped4.sem (by decide)⟩⟩⟩⟩)]

omit [FloatOps F] in
/-- The subcore's own buffers are its five blocks, at some contents, and the rest. -/
theorem ownBufs_V :
    (ownBufs (V d (cV L) (jV L)) : sProp 𝕄)
      = iprop((∃ f, (sX).view.loc (V d (cV L) (jV L)) ↦{fullShare} f) ∗ (∃ f, (sA).view.loc (V d (cV L) (jV L)) ↦{fullShare} f)
          ∗ (∃ f, (sC).view.loc (V d (cV L) (jV L)) ↦{fullShare} f) ∗ (∃ f, (sI).view.loc (V d (cV L) (jV L)) ↦{fullShare} f)
          ∗ (∃ f, (sO).view.loc (V d (cV L) (jV L)) ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  have own : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b hb => SparseCore.Cfg.mem_ownRefs_of_owner hb
  have ne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide), Finset.mem_erase.mpr ⟨ne cc0_scratch2 cc0_scratch0 (by decide), own cc0_scratch2 rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), own cc0_scratch3 rfl⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide), own cc0_scratch4 rfl⟩⟩⟩⟩)]

/-- What a subcore is handed and hands back: a share of each array the kernel reads, and its part of the result. -/
def part (q : PosShare TreeShare) (X : S2x12x143360.Idx → Elt F .f32) (A C : S2x192x2048.Idx → Elt F .f32) (I : S2x192x2048.Idx → BitVec 32)
    (g : S2x12x8x16384.Idx → Elt F .f32) : sProp 𝕄 :=
  iprop(((xV).view.loc (V d (cV L) (jV L)) ↦{q} X) ∗ ((aV).view.loc (V d (cV L) (jV L)) ↦{q} A)
    ∗ ((cW).view.loc (V d (cV L) (jV L)) ↦{q} C) ∗ ((iV).view.loc (V d (cV L) (jV L)) ↦{q} I)
    ∗ ((oV).view.loc (V d (cV L) (jV L)) ↦[tileSet (wid L)]{fullShare} g))

set_option maxHeartbeats 4000000 in
theorem tile_body (hF : (K (F := F)).Facts) (q : PosShare TreeShare) (X : S2x12x143360.Idx → Elt F .f32) (A C : S2x192x2048.Idx → Elt F .f32) (I : S2x192x2048.Idx → BitVec 32)
    (o : S2x12x8x16384.Idx → Elt F .f32) (hI : InAll I) (O : CellTallies nD τ sig (HIx 1)) (W : Waits sig (HIx 1)) (hO : ∀ g, O g none = 0) :
    iprop(levAts (K (F := F)).L (K (F := F)).lev ∗ emp ∗ part d L q X A C I o
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__b_body L xV (Memref.isWhole_whole _) aV (Memref.isWhole_whole _) cW (Memref.isWhole_whole _) iV (Memref.isWhole_whole _) oV (Memref.isWhole_whole _)
            sX (Memref.isWhole_whole _) sA (Memref.isWhole_whole _) sC (Memref.isWhole_whole _) sI (Memref.isWhole_whole _) sO (Memref.isWhole_whole _)
            cc0_scoped0 cc0_scoped1 cc0_scoped2 cc0_scoped3 cc0_scoped4)
          fun _ => iprop(part d L q X A C I (outAll X A C I)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  unfold part
  iintro ⟨#Hlv, -, ⟨Hx, Ha, Hc, Hi, Ho⟩, ⟨H1, H2, H3, H4, H5, Hbufs⟩, ⟨HS0, HS1, HS2, HS3, HS4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  simp only [cc0__b_body_eq_skeleton]; unfold cc0__b_body_skel
  have e0 : ((oV).view.loc (V d (cV L) (jV L)) ↦[tileSet (wid L)]{fullShare} o : sProp 𝕄)
      = ((oV).view.loc (V d (cV L) (jV L)) ↦[tileSet (wid L)]{fullShare} doneF X A C I o (wid L * 6 + 0)) := pointsTo_congr fun z hz => by
    have h := (Finset.mem_filter.mp hz).2
    show o z = if num z < _ then _ else _
    rw [if_neg (by omega)]
  have e1 : ((oV).view.loc (V d (cV L) (jV L)) ↦[tileSet (wid L)]{fullShare} outAll X A C I : sProp 𝕄)
      = ((oV).view.loc (V d (cV L) (jV L)) ↦[tileSet (wid L)]{fullShare} doneF X A C I o (wid L * 6 + 6)) := pointsTo_congr fun z hz => by
    have h := (Finset.mem_filter.mp hz).2
    show _ = if num z < _ then _ else _
    rw [if_pos (by omega)]
  ihave Ho := (Entails.of_eq e0) $$ Ho
  dsimp only
  sl_for (inv1 d L q X A C I o O W) $$ [Hmw Hx Ha Hc Hi Ho H1 H2 H3 H4 H5 HS0 HS1 HS2 HS3 HS4 HO]
  case region =>
    intro t _
    exact step1 d L q X A C I o O W hI _ t
  · unfold inv1
    isplitl [Hmw]; · iexact Hmw
    isplitl [Hx]; · iexact Hx
    isplitl [Ha]; · iexact Ha
    isplitl [Hc]; · iexact Hc
    isplitl [Hi]; · iexact Hi
    isplitl [Ho]; · iexact Ho
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    iexists W; isplitr
    · ipureintro; exact fun p hp => .inl hp
    iexact HO
  iintro %_ HI
  rw [show Scf.trips k0_t1_loop.lb k0_t1_loop.ub k0_t1_loop.st = 6 by decide +kernel]
  unfold inv1
  icases HI with ⟨-, Hx, Ha, Hc, Hi, Ho, H1, H2, H3, H4, H5, HS0, HS1, HS2, HS3, HS4, %W', %hW', HO⟩
  sl_exec
  rw [wp_ret]; imodintro
  ihave Ho := (Entails.of_eq e1.symm) $$ Ho
  isplitl [Hx Ha Hc Hi Ho]
  · isplitl [Hx]; · iexact Hx
    isplitl [Ha]; · iexact Ha
    isplitl [Hc]; · iexact Hc
    isplitl [Hi]; · iexact Hi
    iexact Ho
  isplitl [H1 H2 H3 H4 H5 Hbufs]
  · isplitl [H1]; · iexact H1
    isplitl [H2]; · iexact H2
    isplitl [H3]; · iexact H3
    isplitl [H4]; · iexact H4
    isplitl [H5]; · iexact H5
    iexact Hbufs
  isplitl [HS0 HS1 HS2 HS3 HS4 Hsems]
  · isplitl [HS0]; · iexact HS0
    isplitl [HS1]; · iexact HS1
    isplitl [HS2]; · iexact HS2
    isplitl [HS3]; · iexact HS3
    isplitl [HS4]; · iexact HS4
    iexact Hsems
  iexists W'; isplitr
  · ipureintro; exact fun p hp => (hW' p hp).imp_right .inl
  iexact HO

end Tile

end Cert.Proof.Mix

end
-- ==== Proof.Launch.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.MixIdeal
public import proofs.«01_k».proof.Proof.Gen.MixIdeal.Skeleton
public import Idealize.ShloMosaic.Lib.Pipeline.Regions
public import proofs.«01_k».proof.Proof.Gen.MixIdeal.Launch
public import proofs.«01_k».proof.Proof.Task

@[expose] public section

set_option maxRecDepth 16384

noncomputable section

namespace Cert.Proof.Mix

open Cert.MixIdeal Cert.MixIdeal.Gen

open Idealize.ShloMosaic
open Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## What each SparseCore and each subcore is handed -/

abbrev EH : Emb UH 𝕄 := embL

abbrev xLoc (d : Dev nD) : Loc nD τ sig := (SparseCore.T d).loc main_v6
abbrev aLoc (d : Dev nD) : Loc nD τ sig := (SparseCore.T d).loc main_v0
abbrev cLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v7

variable (X : (d : Dev nD) → Buf (Elt F) (xLoc d)) (A : (d : Dev nD) → Buf (Elt F) (aLoc d)) (C : (d : Dev nD) → Buf (Elt F) (cLoc d))
  (I : (d : Dev nD) → Buf (Elt F) (iLoc d)) (o : (d : Dev nD) → Buf (Elt F) (oLoc d))

/-- The four arrays read, each at the share `q`, and the part `R` of the result at `g`. -/
def pc (d : Dev nD) (q : PosShare TreeShare) (R : Finset (Idx (oLoc d))) (g : Buf (Elt F) (oLoc d)) : sProp 𝕄 :=
  iprop((xLoc d ↦{q} X d) ∗ (aLoc d ↦{q} A d) ∗ (cLoc d ↦{q} C d) ∗ (iLoc d ↦{q} I d) ∗ (oLoc d ↦[R]{fullShare} g))

/-- Cutting the shares in `n` and the part of the result along disjoint pieces. -/
theorem pc_split (d : Dev nD) (q : PosShare TreeShare) {n : ℕ} (hn : 0 < n) (R : Finset S2x12x8x16384.Idx) (Rj : Fin n → Finset S2x12x8x16384.Idx)
    (hd : ∀ i ∈ (Finset.univ : Finset (Fin n)), ∀ j ∈ (Finset.univ : Finset (Fin n)), i ≠ j → Disjoint (Rj i) (Rj j))
    (hR : (Finset.univ : Finset (Fin n)).biUnion Rj = R) (g : S2x12x8x16384.Idx → Elt F .f32) :
    pc X A C I d q R g = bigSep Finset.univ fun j : Fin n => pc X A C I d (pieceOf q n hn j) (Rj j) g := by
  unfold pc
  rw [bigSep_sep', bigSep_sep', bigSep_sep', bigSep_sep', ← pointsTo_biUnion Finset.univ (ℓ := oLoc d) Rj hd, hR,
    ← pointsTo_piecesOf (ℓ := xLoc d) Finset.univ (X d) hn q, ← pointsTo_piecesOf (ℓ := aLoc d) Finset.univ (A d) hn q,
    ← pointsTo_piecesOf (ℓ := cLoc d) Finset.univ (C d) hn q, ← pointsTo_piecesOf (ℓ := iLoc d) Finset.univ (I d) hn q]

/-- The result elements SparseCore `c` computes: those of its sixteen subcores. -/
def coreSet (c : Fin 2) : Finset S2x12x8x16384.Idx := Finset.univ.filter fun z => num z / 6 % 2 = c.val

abbrev coreShare (c : Fin 2) : PosShare TreeShare := pieceOf fullShare 2 (by decide) c
abbrev tileShare (c : Fin 2) (i : Fin 16) : PosShare TreeShare := pieceOf (coreShare c) 16 (by decide) i

omit [FloatOps F] in
theorem coreSet_disjoint : ∀ i ∈ (Finset.univ : Finset (Fin 2)), ∀ j ∈ (Finset.univ : Finset (Fin 2)), i ≠ j → Disjoint (coreSet i) (coreSet j) := by
  intro i _ j _ h
  refine Finset.disjoint_left.2 fun z hi hj => h (Fin.ext ?_)
  exact (Finset.mem_filter.1 hi).2.symm.trans (Finset.mem_filter.1 hj).2

omit [FloatOps F] in
theorem coreSet_cover : (Finset.univ : Finset (Fin 2)).biUnion coreSet = Finset.univ := by
  refine Finset.eq_univ_of_forall fun z => Finset.mem_biUnion.2 ⟨⟨num z / 6 % 2, Nat.mod_lt _ (by norm_num)⟩, Finset.mem_univ _, ?_⟩
  exact Finset.mem_filter.2 ⟨Finset.mem_univ _, rfl⟩

omit [FloatOps F] in
theorem tileSet_disjoint (c : Fin 2) : ∀ i ∈ (Finset.univ : Finset (Fin 16)), ∀ j ∈ (Finset.univ : Finset (Fin 16)), i ≠ j →
    Disjoint (tileSet (2 * i.val + c.val)) (tileSet (2 * j.val + c.val)) := by
  intro i _ j _ h
  refine Finset.disjoint_left.2 fun z hi hj => h (Fin.ext ?_)
  have h1 := (Finset.mem_filter.1 hi).2
  have h2 := (Finset.mem_filter.1 hj).2
  omega

omit [FloatOps F] in
theorem tileSet_cover (c : Fin 2) : (Finset.univ : Finset (Fin 16)).biUnion (fun i => tileSet (2 * i.val + c.val)) = coreSet c := by
  refine Finset.ext fun z => ?_
  have hz := num_lt z
  have hc := c.isLt
  rw [Finset.mem_biUnion]
  constructor
  · rintro ⟨i, -, hi⟩
    have h1 := (Finset.mem_filter.1 hi).2
    exact Finset.mem_filter.2 ⟨Finset.mem_univ _, by omega⟩
  · intro h
    have h1 := (Finset.mem_filter.1 h).2
    exact ⟨⟨num z / 6 / 2, by omega⟩, Finset.mem_univ _, Finset.mem_filter.2 ⟨Finset.mem_univ _, by show num z / 6 = 2 * (num z / 6 / 2) + c.val; omega⟩⟩

/-- The result of the call. -/
abbrev outD (d : Dev nD) : S2x12x8x16384.Idx → Elt F .f32 := outAll (X d) (A d) (C d) (I d)

theorem nCore_zero : (K (F := F)).nCore 0 = 2 := rfl

/-- The call's payloads: the operands in shares, each result element to the subcore that computes it, and back with the result. -/
def P : (K (F := F)).Pay (nD := nD) (Val := Elt F) (Name := ℕ) (U := UU) where
  st q d c := match q with | 0 => pc X A C I d (coreShare (Fin.cast nCore_zero c)) (coreSet (Fin.cast nCore_zero c)) (o d)
  dn q d c := match q with | 0 => pc X A C I d (coreShare (Fin.cast nCore_zero c)) (coreSet (Fin.cast nCore_zero c)) (outD X A C I d)
  go q d c i := match q with | 0 => pc X A C I d (tileShare (Fin.cast nCore_zero c) (Fin.cast nSub_zero i)) (tileSet (2 * i.val + c.val)) (o d)
  td q d c i := match q with | 0 => pc X A C I d (tileShare (Fin.cast nCore_zero c) (Fin.cast nSub_zero i)) (tileSet (2 * i.val + c.val)) (outD X A C I d)
  x := fun _ _ => iprop(emp)

instance pc_storable (d : Dev nD) (q : PosShare TreeShare) (R : Finset S2x12x8x16384.Idx) (g : S2x12x8x16384.Idx → Elt F .f32) :
    BI.Storable (upEmb : UEmb _ 𝕄) (pc X A C I d q R g) := by unfold pc; infer_instance

instance P_storable : (P (F := F) X A C I o).IsStorable where
  st q d c := match q with | 0 => pc_storable X A C I d _ _ _
  dn q d c := match q with | 0 => pc_storable X A C I d _ _ _
  go q d c i := match q with | 0 => pc_storable X A C I d _ _ _
  td q d c i := match q with | 0 => pc_storable X A C I d _ _ _

/-! ## The subcores' obligation -/

/-- The grid point of subcore `s` of SparseCore `c`. -/
def gridPt (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0__b_body (gridPt c s) xV (Memref.isWhole_whole _) aV (Memref.isWhole_whole _) cW (Memref.isWhole_whole _) iV (Memref.isWhole_whole _) oV (Memref.isWhole_whole _)
            sX (Memref.isWhole_whole _) sA (Memref.isWhole_whole _) sC (Memref.isWhole_whole _) sI (Memref.isWhole_whole _) sO (Memref.isWhole_whole _)
            cc0_scoped0 cc0_scoped1 cc0_scoped2 cc0_scoped3 cc0_scoped4) ⟨⟩ c s := rfl

theorem tileObl (hI : ∀ d, InAll (I d)) : (K (F := F)).TileObl (D (F := F)) 𝒱 (P X A C I o) v₀ 0 := by
  intro d c i O W hO _ _
  simp only [show (P X A C I o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, _root_.and_self, ↓reduceDIte]
  exact tile_body d (gridPt ⟨_, hci.1⟩ ⟨_, hci.2⟩) facts (tileShare (Fin.cast nCore_zero c) (Fin.cast nSub_zero i)) (X d) (A d) (C d) (I d) (o d) (hI d) O W hO

/-! ## The operands split among the subcores, and the results joined -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P X A C I o) 0 := by
  intro d c
  have hs (g : S2x12x8x16384.Idx → Elt F .f32) : pc X A C I d (coreShare (Fin.cast nCore_zero c)) (coreSet (Fin.cast nCore_zero c)) g
      = bigSep Finset.univ fun i : Fin ((K (F := F)).nSub 0) => pc X A C I d (tileShare (Fin.cast nCore_zero c) (Fin.cast nSub_zero i)) (tileSet (2 * i.val + c.val)) g :=
    (pc_split X A C I d _ (by decide) _ _ (tileSet_disjoint (Fin.cast nCore_zero c)) (tileSet_cover (Fin.cast nCore_zero c)) g).trans
      (bigSep_tasks (fun i => pc X A C I d (tileShare (Fin.cast nCore_zero c) i) (tileSet (2 * i.val + (Fin.cast (nCore_zero (F := F)) c).val)) g)).symm
  show pc X A C I d (coreShare (Fin.cast nCore_zero c)) (coreSet (Fin.cast nCore_zero c)) (o d) ⊢ |={Set.univ}=> iprop(
      (bigSep Finset.univ fun i : Fin ((K (F := F)).nSub 0) => pc X A C I d (tileShare (Fin.cast nCore_zero c) (Fin.cast nSub_zero i)) (tileSet (2 * i.val + c.val)) (o d))
      ∗ ((bigSep Finset.univ fun i : Fin ((K (F := F)).nSub 0) => pc X A C I d (tileShare (Fin.cast nCore_zero c) (Fin.cast nSub_zero i)) (tileSet (2 * i.val + c.val)) (outD X A C I d))
          -∗ pc X A C I d (coreShare (Fin.cast nCore_zero c)) (coreSet (Fin.cast nCore_zero c)) (outD X A C I d)))
  rw [← hs, ← hs]
  iintro H; imodintro
  isplitl [H]; · iexact H
  iintro H; iexact H

/-- All the operands and the whole result array are the two SparseCores' shares together. -/
theorem cores_eq (d : Dev nD) (g : S2x12x8x16384.Idx → Elt F .f32) :
    pc X A C I d fullShare Finset.univ g
      = bigSep Finset.univ fun c : Fin ((K (F := F)).nCore 0) => pc X A C I d (coreShare (Fin.cast nCore_zero c)) (coreSet (Fin.cast nCore_zero c)) g :=
  (pc_split X A C I d fullShare (by decide) _ _ coreSet_disjoint coreSet_cover g).trans
    (bigSep_congr fun _ _ => rfl)

/-! ## The launch's ghost state: the handshakes' rounds and the output product's pipeline -/

/-- The pipeline library's component. -/
abbrev EP : Emb (UR sig nD τ) 𝕄 := (Emb.inl : Emb (UR sig nD τ) (UR sig nD τ × Counters)).trans embR

instance EP_landsIn : (EP (F := F)).LandsIn (upEmb : UEmb _ 𝕄) := by unfold EP; infer_instance

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the TensorCore of `d` is dealt for the output product's pipeline. -/
abbrev G (d : Dev nD) : sProp 𝕄 :=
  iprop((bigSep Finset.univ fun p : Fin 1 => Pipeline.cellsGhost cfgs (EP (F := F)) p d) ∗ (bigSep Finset.univ fun p : Fin 1 => Pipeline.toksInit cfgs (EP (F := F)) p d))

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P X A C I o).x q thr) := by
  unfold u₀
  iintro Hu
  ihave H := (ownU_pair (initOf (K (F := F)).hsCells (K (F := F)).hsToks) _) $$ Hu
  icases H with ⟨HH, Hr⟩
  ihave Hr' := (own_pair_emb (embR : Emb (UR sig nD τ × Counters) 𝕄) _ (1 : Counters)) $$ Hr
  icases Hr' with ⟨HP, -⟩
  imod (Pipeline.fund_ghost cfgs (EP (F := F)) cellOf_inj) $$ HP with ⟨Hg, Ht⟩
  imodintro
  isplitl [HH]; · iexact HH
  isplitl [Hg Ht]
  · rw [bigSep_sep']
    isplitl [Hg]; · iexact Hg
    iexact Ht
  have he : (bigSep Finset.univ fun thr : Thread nD τ => bigSep Finset.univ fun q : Fin 1 => (P X A C I o).x q thr) = (iprop(emp) : sProp 𝕄) :=
    (bigSep_congr fun _ _ => bigSep_univ_of_subsingleton (0 : Fin 1)).trans (bigSep_emp_const Finset.univ)
  iapply (Entails.of_eq he.symm)
  iempintro

end Cert.Proof.Mix

end
-- ==== Proof.Prod.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.MixIdeal
public import proofs.«01_k».proof.Proof.Gen.MixIdeal.Skeleton
public import Idealize.ShloMosaic.Lib.Pipeline.Regions
public import proofs.«01_k».proof.Proof.Gen.MixIdeal.Launch
public import Idealize.ShloMosaic.Lib.Pipeline.RegionsLoop
public import Idealize.ShloMosaic.Lib.Pipeline.FrameBody
public import Idealize.ShloMosaic.Lib.VecWindow
public import Idealize.ShloMosaic.Lib.WordCmp
public import proofs.«01_k».proof.Proof.Gen.MixIdeal.Points
public import proofs.«01_k».proof.Proof.Task

@[expose] public section

set_option maxRecDepth 16384

noncomputable section

namespace Cert.Proof.Mix

open Cert.MixIdeal Cert.MixIdeal.Gen

open Idealize.ShloMosaic
open Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Pipeline (Dat Cfg Window BodyObligation cellOf)

variable {F : FTy → Type}

local notation "𝕄" => MT nD τ sig (HIx 1) (Elt F) ℕ UU ℕ

variable [FloatOps F]

/-! ## The output product's body -/

/-- The head coordinate is the first: the body then starts its sum from zero. -/
abbrev isHead (i : grid1.Coords) : Prop := (Scalar.cmpi .ne (Scalar.extui (Scalar.cmpi .eq (BitVec.ofNat 32 (i 2).val) 0#32)) 0#32) = 1#1

theorem isHead_iff (t : Fin cfg1.N) : isHead (grid1.coords t) ↔ t.val % 12 = 0 := by
  have ht : t.val < 192 := Nat.lt_of_lt_of_eq t.isLt N_1
  have e : (grid1.coords t 2).val = t.val / 1 % 12 := Pipeline.Grid.coords_val t 2 (by decide) rfl
  simp only [isHead, e]
  word_cmp

set_option maxHeartbeats 1000000 in
/-- A first head: the result's block becomes the zero block with this head's product added. -/
theorem body_head (c : Dev nD) (i : grid1.Coords) (M3 : Memref sig .tc .vmem S1x1x1x64x256 .f32) (h3 : M3.IsWhole) (M4 : Memref sig .tc .vmem S64x768 .f32) (h4 : M4.IsWhole)
    (M5 : Memref sig .tc .vmem S1x256x768 .f32) (h5 : M5.IsWhole) (hc : isHead i) (x : Vec F S1x1x1x64x256 .f32) (w : Vec F S64x768 .f32) (Q : PUnit → sProp 𝕄) :
    iprop(owns (c : Thread nD τ) M3 fullShare x ∗ owns (c : Thread nD τ) M4 fullShare w ∗ (∃ d, owns (c : Thread nD τ) M5 fullShare d)
        ∗ (iprop(owns (c : Thread nD τ) M3 fullShare x ∗ owns (c : Thread nD τ) M4 fullShare w ∗ owns (c : Thread nD τ) M5 fullShare (k1_pay2 (k1_pay1 (F := F)) x w)) -∗ Q ⟨⟩))
      ⊢ wp frame (wpE (defs₀ (F := F)) 𝒱₀ c none) Set.univ (cc1__c_body i M3 h3 M4 h4 M5 h5) Q := by
  simp only [cc1__c_body_eq_skeleton]; unfold cc1__c_body_skel
  unfold owns
  iintro ⟨⟨%f0, %hf0, H0⟩, ⟨%f1, %hf1, H1⟩, ⟨%d2, %f2, -, H2⟩, Hk⟩
  obtain rfl := h3.eq_unread hf0; obtain rfl := h4.eq_unread hf1
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  iexists _; isplitr
  swap; · iexact H2
  ipureintro
  refine (View.read_writes_full _ _ _ _ _).trans ?_
  unfold body_head.sl.v3 body_head.sl.H2_1
  rw [View.readCov_full, View.readAt_full, View.readAt_full, h3.read_unread, h4.read_unread]

set_option maxHeartbeats 1000000 in
/-- A later head: this head's product is added to the result's block. -/
theorem body_next (c : Dev nD) (i : grid1.Coords) (M3 : Memref sig .tc .vmem S1x1x1x64x256 .f32) (h3 : M3.IsWhole) (M4 : Memref sig .tc .vmem S64x768 .f32) (h4 : M4.IsWhole)
    (M5 : Memref sig .tc .vmem S1x256x768 .f32) (h5 : M5.IsWhole) (hc : ¬ isHead i) (x : Vec F S1x1x1x64x256 .f32) (w : Vec F S64x768 .f32) (z : Vec F S1x256x768 .f32) (Q : PUnit → sProp 𝕄) :
    iprop(owns (c : Thread nD τ) M3 fullShare x ∗ owns (c : Thread nD τ) M4 fullShare w ∗ owns (c : Thread nD τ) M5 fullShare z
        ∗ (iprop(owns (c : Thread nD τ) M3 fullShare x ∗ owns (c : Thread nD τ) M4 fullShare w ∗ owns (c : Thread nD τ) M5 fullShare (k1_pay2 z x w)) -∗ Q ⟨⟩))
      ⊢ wp frame (wpE (defs₀ (F := F)) 𝒱₀ c none) Set.univ (cc1__c_body i M3 h3 M4 h4 M5 h5) Q := by
  simp only [cc1__c_body_eq_skeleton]; unfold cc1__c_body_skel
  unfold owns
  iintro ⟨⟨%f0, %hf0, H0⟩, ⟨%f1, %hf1, H1⟩, ⟨%f2, %hf2, H2⟩, Hk⟩
  obtain rfl := h3.eq_unread hf0; obtain rfl := h4.eq_unread hf1; obtain rfl := h5.eq_unread hf2
  sl_exec (disch := first | sl_exact hc)
  sl_step
  iapply Hk
  isplitl [H0]
  · iexists _; isplitr; · ipureintro; exact h3.read_unread _
    iexact H0
  isplitl [H1]
  · iexists _; isplitr; · ipureintro; exact h4.read_unread _
    iexact H1
  iexists _; isplitr
  swap; · iexact H2
  ipureintro
  refine (View.read_writes_full _ _ _ _ _).trans ?_
  rw [View.readAt_full, View.readAt_full, View.readAt_full, h3.read_unread, h4.read_unread, h5.read_unread]

/-! ## What the pipeline's buffers hold, point by point -/

section Pipe

variable (V : (c : Dev nD) → (b : Ref sig .tc) → Buf (Elt F) ((c : Thread nD τ).loc b))

/-- Window `w`'s block at point `t` of its array as the pipeline finds it. -/
def blkAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result's block after the body at point `n`: the sum over the heads so far. -/
def accAt (c : Dev nD) : (n : ℕ) → n < cfg1.N → Vec F S1x256x768 .f32
  | 0, hn => k1_pay2 (k1_pay1 (F := F)) (blkAt V c 0 ⟨0, hn⟩) (blkAt V c 1 ⟨0, hn⟩)
  | n + 1, hn => k1_pay2 (if (n + 1) % 12 = 0 then k1_pay1 (F := F) else accAt c n (Nat.lt_of_succ_lt hn)) (blkAt V c 0 ⟨n + 1, hn⟩) (blkAt V c 1 ⟨n + 1, hn⟩)

theorem accAt_head (c : Dev nD) (t : Fin cfg1.N) (h : t.val % 12 = 0) :
    accAt V c t.val t.isLt = k1_pay2 (k1_pay1 (F := F)) (blkAt V c 0 t) (blkAt V c 1 t) := by
  obtain ⟨n, hn⟩ := t
  cases n with
  | zero => rfl
  | succ n => exact congrArg (fun z => k1_pay2 z (blkAt V c 0 ⟨n + 1, hn⟩) (blkAt V c 1 ⟨n + 1, hn⟩)) (if_pos h)

theorem accAt_next (c : Dev nD) (t : Fin cfg1.N) (h : ¬ t.val % 12 = 0) :
    accAt V c t.val t.isLt = k1_pay2 (accAt V c (t.val - 1) (Nat.lt_of_le_of_lt (Nat.sub_le _ _) t.isLt)) (blkAt V c 0 t) (blkAt V c 1 t) := by
  obtain ⟨n, hn⟩ := t
  cases n with
  | zero => exact absurd (Nat.zero_mod _) h
  | succ n => exact congrArg (fun z => k1_pay2 z (blkAt V c 0 ⟨n + 1, hn⟩) (blkAt V c 1 ⟨n + 1, hn⟩)) (if_neg h)

/-- The waits recorded before the output product sit at or below the call's levels. -/
abbrev lowWaits (c : Dev nD) : Set (SemLoc sig × HIx 1) := {p | (K (F := F)).lev (SparseCore.T c, p.1) p.2 ≤ 8 * (inferInstance : SparseCore.Cfg.Blocks 1 1).fst 1}

/-- The proof data: the arrays as found, the inputs' buffers at their blocks and the result's at the running sum, nothing owed. -/
def dat (c : Dev nD) : Dat τ (Elt F) (HIx 1) ℕ UU ℕ cfg1 c where
  A w := V c (Pipeline.arrRef spec1 w)
  after w t := match w with
    | ⟨0, _⟩ => blkAt V c 0 t
    | ⟨1, _⟩ => blkAt V c 1 t
    | ⟨2, _⟩ => accAt V c t.val t.isLt
  Φ _ := iprop(emp)
  q _ := fullShare
  owed _ := 0
  recorded _ := lowWaits (F := F) c

theorem dat_A (c : Dev nD) (w : Fin cfg1.W) : (dat V c).A w = V c (Pipeline.arrRef spec1 w) := by dsimp only [dat]
theorem after_0 (c : Dev nD) (t : Fin cfg1.N) : (dat V c).after 0 t = blkAt V c 0 t := by dsimp only [dat]
theorem after_1 (c : Dev nD) (t : Fin cfg1.N) : (dat V c).after 1 t = blkAt V c 1 t := by dsimp only [dat]
theorem after_2 (c : Dev nD) (t : Fin cfg1.N) : (dat V c).after 2 t = accAt V c t.val t.isLt := by dsimp only [dat]

theorem before_0 (c : Dev nD) (t : Fin cfg1.N) (d) : (dat V c).before 0 t d = blkAt V c 0 t :=
  ((dat V c).before_in_eq_fetched 0 rfl (fun _ => rfl) (fun _ _ _ => rfl) (fun t => by rw [after_0]; unfold Dat.blockOf blkAt; rw [dat_A]) t d).trans
    (by unfold Dat.fetched Dat.blockOf blkAt; rw [dat_A]; try rfl)
theorem before_1 (c : Dev nD) (t : Fin cfg1.N) (d) : (dat V c).before 1 t d = blkAt V c 1 t :=
  ((dat V c).before_in_eq_fetched 1 rfl (fun _ => rfl) (fun _ _ _ => rfl) (fun t => by rw [after_1]; unfold Dat.blockOf blkAt; rw [dat_A]) t d).trans
    (by unfold Dat.fetched Dat.blockOf blkAt; rw [dat_A]; try rfl)
theorem before_2 (c : Dev nD) (t : Fin cfg1.N) (h : ¬ t.val % 12 = 0) (d) :
    (dat V c).before 2 t d = accAt V c (t.val - 1) (Nat.lt_of_le_of_lt (Nat.sub_le _ _) t.isLt) := by
  have hN : t.val < 192 := lt_of_lt_of_eq t.isLt (show cfg1.N = 192 from N_1)
  rw [Dat.before_out_kept _ 2 rfl t (by omega) (Bool.eq_false_iff.mpr fun h => by have := (flush1_2 _).mp h; dsimp only at this; omega)
    (fun _ => rfl) (fun _ _ => rfl)]
  dsimp only [dat]

set_option maxHeartbeats 800000 in
/-- The body at any point, from the buffers as the pipeline hands them over. -/
theorem body_at (c : Dev nD) (t : Fin cfg1.N) :
    iprop((dat V c).Φ t.castSucc ∗ (dat V c).owesAt none t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d)))
      ⊢ wp frame (wpE (defs₀ (F := F)) 𝒱₀ c none) Set.univ (bodyAt1 t) (fun _ =>
        iprop((dat V c).Φ t.succ ∗ (dat V c).owesAt none t.succ
          ∗ owns (c : Thread nD τ) (st1_0 t) fullShare ((dat V c).after 0 t)
          ∗ owns (c : Thread nD τ) (st1_1 t) fullShare ((dat V c).after 1 t)
          ∗ owns (c : Thread nD τ) (st1_2 t) fullShare ((dat V c).after 2 t))) := by
  unfold bodyAt1
  simp only [before_0, before_1]
  rw [show (dat V c).Φ t.succ = (dat V c).Φ t.castSucc from rfl,
    show (dat V c).owesAt none t.succ = (dat V c).owesAt none t.castSucc from rfl, after_0, after_1, after_2]
  by_cases h : t.val % 12 = 0
  · rw [accAt_head V c t h]
    iintro ⟨HΦ, Ho, ⟨%d0, H0⟩, ⟨%d1, H1⟩, ⟨%d2, H2⟩⟩
    iapply (body_head c (grid1.coords t) _ _ _ _ _ _ ((isHead_iff t).2 h) (blkAt V c 0 t) (blkAt V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_next V c t h]
    simp only [before_2 V c t h]
    iintro ⟨HΦ, Ho, ⟨%d0, H0⟩, ⟨%d1, H1⟩, ⟨%d2, H2⟩⟩
    iapply (body_next c (grid1.coords t) _ _ _ _ _ _ (fun hc => h ((isHead_iff t).1 hc)) (blkAt V c 0 t) (blkAt V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem body_row (t : Fin cfg1.N) : defs₀ (F := F) .tc cfg1.body (cfg1.bodyArgs t (cfg1.slots t)) = bodyAt1 t := by
  unfold defs₀; rfl

theorem body_ok (c : Dev nD) : BodyObligation (dat V c) (defs₀ (F := F)) 𝒱₀ none Set.univ := fun t => by
  rw [bigSep_W1, bigSep_W1, body_row]
  exact triple_restated (body_at V c t) rfl .rfl fun _ => .rfl

/-! ## The output product as a region of the host program -/

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c := fun _ c => dat V c

/-- What the TensorCore owes at the end of its calls, with the waits it recorded. -/
abbrev owesLow (c : Dev nD) : sProp 𝕄 :=
  iprop(∃ W, ⌜(K (F := F)).WBelow (SparseCore.T c) W (8 * (inferInstance : SparseCore.Cfg.Blocks 1 1).fst 1)⌝ ∗ owes (SparseCore.T c) (0 : CellTallies nD τ sig (HIx 1)) W)

variable (V' : (c : Dev nD) → (b : Ref sig .tc) → Buf (Elt F) ((c : Thread nD τ).loc b))

set_option backward.isDefEq.respectTransparency.types false in
/-- The region: every unscoped buffer at `V`, then at `V'`, which has the result's array as the pipeline leaves it and is `V` elsewhere. -/
def region (hout : ∀ c, V' c main_v10 = (dat V c).arrAt 2 cfg1.N) (hne : ∀ c (b : Ref sig .tc), b ≠ main_v10 → V' c b = V c b) :
    Pipeline.RegionSeg (pcfgs (F := F)) adm (pdats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_ok V c).loose
  hwaits := Pipeline.hwaits_of_owed_zero _ _ _ _ (K (F := F)).L (K (F := F)).lev 0 fun _ _ => rfl
  pre c := iprop(unscopedBufs c (V c) ∗ owesLow (F := F) c)
  post c := iprop(unscopedBufs c (V' c) ∗ owesLow (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = iprop(emp) from rfl]
    iintro -; iempintro
  hout c := by
    rw [Pipeline.ownSems0_none, show (Pipeline.scopedRest (Pipeline.pin (pcfgs (F := F)) adm 0).spec c : sProp 𝕄) = BI.emp from scopedRest1_eq c]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (V' c) ((pdats V 0 c).arrAt · cfg1.N)
      (fun w => by
        fin_cases w
        · exact ((pdats V 0 c).arrAt_in 0 rfl _).trans (hne c main_v8 (by decide)).symm
        · exact ((pdats V 0 c).arrAt_in 1 rfl _).trans (hne c main_v9 (by decide)).symm
        · exact (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact ((K (F := F)).lev_none _).le.trans (Nat.zero_le _)
    iexact HO

end Pipe

end Cert.Proof.Mix

end
-- ==== Proof.Main.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.MixIdeal
public import proofs.«01_k».proof.Proof.Gen.MixIdeal.Skeleton
public import Idealize.ShloMosaic.Lib.Pipeline.Regions
public import proofs.«01_k».proof.Proof.Gen.MixIdeal.Launch
public import Idealize.ShloMosaic.Lib.Pipeline.RegionsLoop
public import Idealize.ShloMosaic.Lib.Pipeline.FrameBody
public import Idealize.ShloMosaic.Lib.VecWindow
public import Idealize.ShloMosaic.Lib.WordCmp
public import proofs.«01_k».proof.Proof.Gen.MixIdeal.Points
public import proofs.«01_k».proof.Proof.Launch
public import proofs.«01_k».proof.Proof.Prod

@[expose] public section

set_option maxRecDepth 16384

noncomputable section

namespace Cert.Proof.Mix

open Cert.MixIdeal Cert.MixIdeal.Gen

open Idealize.ShloMosaic
open Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Pipeline (Dat Cfg Window BodyObligation cellOf)

variable {F : FTy → Type}

local notation "𝕄" => MT nD τ sig (HIx 1) (Elt F) ℕ UU ℕ

variable [FloatOps F]

open Idealize.ShloMosaic.StableHlo (seq after)

/-! ## The host operations around the call -/

/-- Those before the SparseCore call: the weights and offsets turned to rows over time, the input padded and cut into heads. -/
abbrev preOps : List (HloOp τ sig (Elt F)) :=
  [StableHlo.unary main_arg1 main_v0 ((transpose S2x192x2048 [0, 2, 1] · transposes_S2x2048x192_S2x192x2048_0_2_1) : (⟨S2x2048x192, .f32⟩ : BufTy).Contents (Elt F) → (⟨S2x192x2048, .f32⟩ : BufTy).Contents (Elt F)),
    StableHlo.unary main_arg2 main_v1 ((transpose S2x192x2048 [0, 2, 1] · transposes_S2x2048x192_S2x192x2048_0_2_1) : (⟨S2x2048x192, .f32⟩ : BufTy).Contents (Elt F) → (⟨S2x192x2048, .f32⟩ : BufTy).Contents (Elt F)),
    StableHlo.unary main_arg3 main_v2 ((transpose S2x192x2048 [0, 2, 1] · transposes_S2x2048x192_S2x192x2048_0_2_1) : (⟨S2x2048x192, .i32⟩ : BufTy).Contents (Elt F) → (⟨S2x192x2048, .i32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_arg0 : StableHlo.TRef sig ⟨S2x2048x768, .f32⟩) main_call0.v0 main_call0.v1 (fun x v => pad S2x2240x768 ![0, 96, 0] ![0, 96, 0] ![0, 0, 0] x v pads_S2x2048x768_S2x2240x768_000_96960_000 h_S_),
    StableHlo.reshape main_v3 main_v4 (rfl : (.f32 : EltTy) = .f32) shapeCasts_S2x2240x768_S2x2240x12x64,
    StableHlo.unary main_v4 main_v5 ((transpose S2x12x2240x64 [0, 2, 1, 3] · transposes_S2x2240x12x64_S2x12x2240x64_0_2_1_3) : (⟨S2x2240x12x64, .f32⟩ : BufTy).Contents (Elt F) → (⟨S2x12x2240x64, .f32⟩ : BufTy).Contents (Elt F)),
    StableHlo.reshape main_v5 main_v6 (rfl : (.f32 : EltTy) = .f32) shapeCasts_S2x12x2240x64_S2x12x143360]

/-- Those between the SparseCore call and the projection. -/
abbrev postOps : List (HloOp τ sig (Elt F)) :=
  [StableHlo.reshape main_v7 main_v8 (rfl : (.f32 : EltTy) = .f32) shapeCasts_S2x12x8x16384_S2x12x8x64x256,
    StableHlo.unary main_arg4 main_v9 ((transpose S768x768 [1, 0] · transposes_S768x768_S768x768_1_0) : (⟨S768x768, .f32⟩ : BufTy).Contents (Elt F) → (⟨S768x768, .f32⟩ : BufTy).Contents (Elt F))]

theorem main_eq (d : Dev nD) : main (F := F) d
    = (seq preOps >>= fun _ => (K (F := F)).run d 0 >>= fun _ => seq postOps >>= fun _ =>
        (Prog.lift (.customCall (SparseCore.inner (Pipeline.entry 0)) ()) >>= fun _ => pure ⟨⟩)) := by
  simp only [main, fn_pad.body, seq, bind_assoc, pure_bind]

/-- A device reference of the TensorCore. -/
abbrev dr (b : Ref sig .tc) : DevRef τ sig := Proc.devRef .tc b

abbrev ucRefs : Finset (DevRef τ sig) := Pipeline.ucRefs τ sig

omit [FloatOps F] in
theorem unscoped_held (c : Dev nD) (W : Valuation τ sig (Elt F)) :
    (unscopedBufs c (fun b => W (dr b)) : sProp 𝕄) = held (SparseCore.T c) ucRefs W := by
  unfold unscopedBufs StableHlo.held ucRefs Pipeline.ucRefs StableHlo.tcRefs
  rw [Finset.filter_map, bigSep_map]; rfl

theorem pre_sub : ∀ op ∈ preOps (F := F), op.bufs ⊆ ucRefs := by
  intro op h
  refine Pipeline.sub_ucRefs op ?_
  simp only [preOps, List.mem_cons, List.not_mem_nil, or_false] at h
  rcases h with h | h | h | h | h | h | h | h | h <;> subst h <;>
    first | exact StableHlo.unary_bufs_sub .. | exact StableHlo.nullary_bufs_sub .. | exact StableHlo.binary_bufs_sub .. | exact StableHlo.reshape_bufs_sub ..

theorem post_sub : ∀ op ∈ postOps (F := F), op.bufs ⊆ ucRefs := by
  intro op h
  refine Pipeline.sub_ucRefs op ?_
  simp only [postOps, List.mem_cons, List.not_mem_nil, or_false] at h
  rcases h with h | h <;> subst h <;> first | exact StableHlo.unary_bufs_sub .. | exact StableHlo.reshape_bufs_sub ..

theorem pre_fresh : ∀ op ∈ preOps (F := F), op.fresh = ∅ := by
  intro op h
  simp only [preOps, List.mem_cons, List.not_mem_nil, or_false] at h
  rcases h with h | h | h | h | h | h | h | h | h <;> subst h <;> rfl

theorem post_fresh : ∀ op ∈ postOps (F := F), op.fresh = ∅ := by
  intro op h
  simp only [postOps, List.mem_cons, List.not_mem_nil, or_false] at h
  rcases h with h | h <;> subst h <;> rfl

/-! ## The memory between the steps -/

section Steps

variable (m : (ℓ : Loc nD τ sig) → Buf (Elt F) ℓ) (ρ : Dev nD → PrngReg)

/-- At the call. -/
def W1 (d : Dev nD) : Valuation τ sig (Elt F) := after preOps fun b => m (d, b)

abbrev vX (d : Dev nD) : Buf (Elt F) (xLoc d) := W1 m d (dr main_v6)
abbrev vA (d : Dev nD) : Buf (Elt F) (aLoc d) := W1 m d (dr main_v0)
abbrev vC (d : Dev nD) : Buf (Elt F) (cLoc d) := W1 m d (dr main_v1)
abbrev vI (d : Dev nD) : Buf (Elt F) (iLoc d) := W1 m d (dr main_v2)
abbrev vO (d : Dev nD) : Buf (Elt F) (oLoc d) := W1 m d (dr main_v7)

/-- After the call. -/
def W2 (d : Dev nD) : Valuation τ sig (Elt F) := Function.update (W1 m d) (dr main_v7) (outD (vX m) (vA m) (vC m) (vI m) d)

/-- At the projection. -/
def W3 (d : Dev nD) : Valuation τ sig (Elt F) := after postOps (W2 m d)

abbrev V3 (d : Dev nD) (b : Ref sig .tc) : Buf (Elt F) ((d : Thread nD τ).loc b) := W3 m d (dr b)

/-- At the end. -/
def V4 (d : Dev nD) : (b : Ref sig .tc) → Buf (Elt F) ((d : Thread nD τ).loc b) :=
  Function.update (V3 m d) main_v10 ((dat (V3 m) d).arrAt 2 cfg1.N)

/-- The buffers of the SparseCore call. -/
abbrev callRefs : Finset (DevRef τ sig) := {dr main_v6, dr main_v0, dr main_v1, dr main_v2, dr main_v7}

theorem callRefs_sub : callRefs ⊆ ucRefs := by decide

theorem call_held (d : Dev nD) (W : Valuation τ sig (Elt F)) (h6 : W (dr main_v6) = vX m d) (h0 : W (dr main_v0) = vA m d) (h1 : W (dr main_v1) = vC m d)
    (h2 : W (dr main_v2) = vI m d) :
    (held (SparseCore.T d) callRefs W : sProp 𝕄) = pc (vX m) (vA m) (vC m) (vI m) d fullShare Finset.univ (W (dr main_v7)) := by
  unfold held pc callRefs
  rw [SparseCore.bigSep_insert' (by decide), SparseCore.bigSep_insert' (by decide), SparseCore.bigSep_insert' (by decide), SparseCore.bigSep_insert' (by decide), bigSep_singleton,
    h6, h0, h1, h2]

theorem split1 (d : Dev nD) : (held (SparseCore.T d) ucRefs (W1 m d) : sProp 𝕄)
    = iprop(pc (vX m) (vA m) (vC m) (vI m) d fullShare Finset.univ (vO m d) ∗ held (SparseCore.T d) (ucRefs \ callRefs) (W1 m d)) := by
  rw [StableHlo.held_sub_split (SparseCore.T d) callRefs_sub, call_held m d (W1 m d) rfl rfl rfl rfl]

theorem split2 (d : Dev nD) : (held (SparseCore.T d) ucRefs (W2 m d) : sProp 𝕄)
    = iprop(pc (vX m) (vA m) (vC m) (vI m) d fullShare Finset.univ (outD (vX m) (vA m) (vC m) (vI m) d) ∗ held (SparseCore.T d) (ucRefs \ callRefs) (W1 m d)) := by
  have hne (b : DevRef τ sig) (h : b ≠ dr main_v7) : W2 m d b = W1 m d b := Function.update_of_ne h _ _
  rw [StableHlo.held_sub_split (SparseCore.T d) callRefs_sub,
    call_held m d (W2 m d) (hne _ (by decide)) (hne _ (by decide)) (hne _ (by decide)) (hne _ (by decide)),
    show W2 m d (dr main_v7) = outD (vX m) (vA m) (vC m) (vI m) d from Function.update_self _ _ _,
    StableHlo.held_congr (SparseCore.T d) (V := W2 m d) (V' := W1 m d) fun b hb => hne b fun h => (Finset.mem_sdiff.1 hb).2 (h ▸ by decide)]

abbrev PP : (K (F := F)).Pay (nD := nD) (Val := Elt F) (Name := ℕ) (U := UU) := P (vX m) (vA m) (vC m) (vI m) (vO m)

theorem mem_held (d : Dev nD) : (unscopedBufs d (fun b => m ((SparseCore.T d).loc b)) : sProp 𝕄) = held (SparseCore.T d) ucRefs (fun b => m (d, b)) :=
  unscoped_held d (fun b => m (d, b))

/-- The region of the projection. -/
def reg := region (V3 m) (V4 m) (fun c => Function.update_self _ _ _) (fun c b h => Function.update_of_ne h _ _)

abbrev FIN (d : Dev nD) : sProp 𝕄 := unscopedBufs d (V4 m d)

/-- What is left of the TensorCore's state after its one call, besides what it owes. -/
def stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((inferInstance : SparseCore.Cfg.Blocks 1 1).last q)) 1)))

theorem st_one (d : Dev nD) : (K (F := F)).tcSt EH d 1 = iprop(owesLow (F := F) d ∗ stRest (F := F) d) := by
  unfold SparseCore.Cfg.tcSt stRest owesLow
  rw [show (K (F := F)).Otc d 1 = 0 from (K (F := F)).Otc_end d le_rfl]

/-- The projection's call. -/
abbrev callP : Prog (TpuEff nD τ sig (Elt F) (ΛP (F := F)) .tc) PUnit := .op (.customCall (Pipeline.entry 0) ()) fun _ => .ret ⟨⟩

theorem lift_call (d : Dev nD) (Q : PUnit → sProp 𝕄) :
    wp frame (wpE (D (F := F)) 𝒱 (SparseCore.T d) none) Set.univ (callP (F := F)) Q
      ⊢ wp frame (wpE ((K (F := F)).defs (D (F := F))) 𝒱 (SparseCore.T d) none) Set.univ
          (Prog.lift (.customCall (SparseCore.inner (Pipeline.entry 0)) ())) Q :=
  (K (F := F)).wp_liftProg (D (F := F)) 𝒱 (SparseCore.T d) Set.univ none (callP (F := F)) Q

set_option backward.isDefEq.respectTransparency.types false in
/-- The projection's step: from the memory before it to the memory after it. -/
theorem proj [∀ e, Nonempty (Elt F e)] (d : Dev nD) (Q : PUnit → sProp 𝕄) :
    iprop((iprop(boundary (SparseCore.T d) ∗ (unscopedBufs d (V4 m d) ∗ owesLow (F := F) d)) -∗ Q ⟨⟩)
        ∗ boundary (SparseCore.T d) ∗ (unscopedBufs d (V3 m d) ∗ owesLow (F := F) d) ∗ levAts (K (F := F)).L (K (F := F)).lev
        ∗ Pipeline.cellsGhost cfgs (EP (F := F)) 0 d ∗ Pipeline.toksInit cfgs (EP (F := F)) 0 d)
      ⊢ wp frame (wpE ((K (F := F)).defs (D (F := F))) 𝒱 (SparseCore.T d) none) Set.univ
          (Prog.lift (.customCall (SparseCore.inner (Pipeline.entry 0)) ())) Q := by
  have h1 := Pipeline.RegionSeg.wp (pcfgs (F := F)) adm (pdats (V3 m)) none (p := 0) cellOf_inj (EP (F := F)) defs₀ 𝒱₀ (K (F := F)).L (K (F := F)).lev
  have h2 := h1 (reg m)
  have h3 := h2 d none (fun _ h => nomatch h) (fun _ => .ret ⟨⟩) Q
  iintro ⟨Hk, Hb, Hp, Hl, Hg, Ht⟩
  iapply (lift_call d Q)
  iapply h3
  isplitl [Hk]
  · iintro H
    rw [wp_ret]; imodintro
    iapply Hk; iexact H
  isplitl [Hb]; · iexact Hb
  isplitl [Hp]; · iapply (Entails.of_eq (show iprop(unscopedBufs d (V3 m d) ∗ owesLow (F := F) d) = (reg m).pre d from rfl)); iexact Hp
  isplitl [Hl]; · iexact Hl
  isplitl [Hg] <;> iassumption

set_option backward.isDefEq.respectTransparency.types false in
/-- @main on the TensorCore of `d`, to the memory at the end. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [mem_held, main_eq]
  iintro ⟨#Hctx, Hst, ⟨Hb, Hh, Hts, -⟩, ⟨Hg, Ht⟩⟩
  iapply (StableHlo.wp_seq 𝒱 none Set.univ d ucRefs _ preOps pre_sub pre_fresh _) $$ [Hb Hh]
  · isplitl [Hb] <;> iassumption
  iintro ⟨Hb, Hh⟩
  ihave Hh := (show (held (d : Thread nD τ) ucRefs (after preOps fun b => m (d, b)) : sProp 𝕄) ⊢ _ from Entails.of_eq (split1 m d)) $$ Hh
  icases Hh with ⟨Hc, Hh⟩
  rw [wp_bind]
  iapply ((K (F := F)).wp_run (D (F := F)) 𝒱 (EH := EH) (P := PP m) κ d 0) $$ [Hst Hc Hb Hh Hts Hg Ht]
  isplitr; · iexact Hctx
  isplitl [Hst]; · iexact Hst
  isplitl [Hc]
  · iapply (Entails.of_eq (cores_eq (vX m) (vA m) (vC m) (vI m) d (vO m d))); iexact Hc
  iintro ⟨Hst, Hdn⟩
  ihave Hc := (show (bigSep Finset.univ fun c : Fin ((K (F := F)).nCore 0) => (PP m).dn 0 d c) ⊢ _ from Entails.of_eq (cores_eq (vX m) (vA m) (vC m) (vI m) d (outD (vX m) (vA m) (vC m) (vI m) d)).symm) $$ Hdn
  have hj : iprop(pc (vX m) (vA m) (vC m) (vI m) d fullShare Finset.univ (outD (vX m) (vA m) (vC m) (vI m) d) ∗ held (SparseCore.T d) (ucRefs \ callRefs) (W1 m d))
    ⊢ (held (SparseCore.T d) ucRefs (W2 m d) : sProp 𝕄) := Entails.of_eq (split2 m d).symm
  ihave Hh := hj $$ [Hc Hh]
  · isplitl [Hc] <;> iassumption
  iapply (StableHlo.wp_seq 𝒱 none Set.univ d ucRefs _ postOps post_sub post_fresh _) $$ [Hb Hh]
  · isplitl [Hb] <;> iassumption
  iintro ⟨Hb, Hh⟩
  ihave Hh := (show (held (d : Thread nD τ) ucRefs (after postOps (W2 m d)) : sProp 𝕄) ⊢ unscopedBufs d (V3 m d) from Entails.of_eq (unscoped_held d (W3 m d)).symm) $$ Hh
  ihave Hst := (show (K (F := F)).tcSt EH d ((0 : Fin 1).val + 1) ⊢ _ from Entails.of_eq (st_one (F := F) d)) $$ Hst
  icases Hst with ⟨HO, Hst⟩
  ihave Hlev := (SparseCore.Cfg.ctx_levAts κ) $$ Hctx
  ihave Hg := (Entails.of_eq (bigSep_univ_of_subsingleton (0 : Fin 1))) $$ Hg
  ihave Ht := (Entails.of_eq (bigSep_univ_of_subsingleton (0 : Fin 1))) $$ Ht
  rw [wp_bind]
  iapply (proj m d _)
  isplitl [Hst Hts]
  · iintro ⟨Hb, Hu, HO⟩
    rw [wp_pure]; imodintro
    isplitl [Hst HO]
    · iapply (Entails.of_eq (st_one d).symm)
      isplitl [HO] <;> iassumption
    isplitl [Hu]; · iexact Hu
    isplitl [Hb] <;> iassumption
  isplitl [Hb]; · iexact Hb
  isplitl [Hh HO]
  · isplitl [Hh] <;> iassumption
  isplitr; · iexact Hlev
  isplitl [Hg] <;> iassumption

/-! ## The memory at the end -/

abbrev outs : Finset (Ref sig .tc) := {main_arg0, main_arg1, main_arg2, main_arg3, main_arg4, main_v10}

def fq (d : Dev nD) (s' : Phys nD τ sig (Elt F)) : Prop := ∀ b ∈ outs, s'.mem.mem ((d : Thread nD τ).loc b) = V4 m d b

theorem hfin (d : Dev nD) (s' : Phys nD τ sig (Elt F)) : iprop(FIN m d ∗ SI s') ⊢ (⌜fq m d s'⌝ : sProp 𝕄) := by
  have hone (b : Ref sig .tc) (hb : b ∈ outs) : iprop(FIN m d ∗ SI s') ⊢ (⌜s'.mem.mem ((d : Thread nD τ).loc b) = V4 m d b⌝ : sProp 𝕄) := by
    have hm : b ∈ Finset.univ.filter fun b : Ref sig .tc => ¬ b.isScoped := by revert b; decide
    unfold FIN unscopedBufs
    rw [SparseCore.bigSep_erase' hm]
    iintro ⟨⟨Hx, -⟩, HSI⟩
    ihave H := (SI_pointsTo_agree (st := s') (ℓ := (d : Thread nD τ).loc b) (I := Finset.univ) (q := fullShare) (f := V4 m d b)) $$ [HSI Hx]
    · isplitl [HSI] <;> iassumption
    icases H with %hx
    ipureintro; exact funext fun i => hx i (Finset.mem_univ i)
  exact (Laws.forall_intro (Φ := fun b : {b // b ∈ outs} => iprop(⌜s'.mem.mem ((d : Thread nD τ).loc b.1) = V4 m d b.1⌝)) fun b => hone b.1 b.2).trans
    ((Laws.pure_forall (φ := fun b : {b // b ∈ outs} => s'.mem.mem ((d : Thread nD τ).loc b.1) = V4 m d b.1)).2.trans (Laws.pure_mono fun h b hb => h ⟨b, hb⟩))

def QC : PUnit × MemSt nD τ sig (Elt F) → Prop := fun r =>
  (∀ c : Dev nD, ∀ b ∈ outs, r.2.mem ((c : Thread nD τ).loc b) = V4 m c b) ∧ r.2.sem = fun _ => 0

theorem run_main [∀ e, Nonempty (Elt F e)] (hI : ∀ d, InAll (vI m d)) :
    θ_run (Cert.MixIdeal.defs (F := F)) (Cert.MixIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (vX m) (vA m) (vC m) (vI m) (vO m) hI)
    (fun q _ => match q with | 0 => SparseCore.Cfg.VecSplit.of_plain (vecSplit (vX m) (vA m) (vC m) (vI m) (vO m)))
    m ρ main (G (F := F)) (FIN m) (u₀ (F := F)) (sep_elim_left.trans (hu₀ (vX m) (vA m) (vC m) (vI m) (vO m))) (hmain m ρ) (fq m) (hfin m) (QC m) (fun _ h hz => ⟨h, hz⟩)

end Steps

end Cert.Proof.Mix

end
-- ==== Proof.Pre.lean ====
/- What the precondition says of one offset, and what it gives the SparseCore call: every read inside the window. -/
module

public import proofs.«01_k».proof.Defs
public import proofs.«01_k».proof.Proof.Gen.Pre_in_window
public import Idealize.ShloMosaic.Lib.ValueLayout
public import Idealize.ShloMosaic.Lib.WordCmp

@[expose] public section

set_option maxRecDepth 16384

noncomputable section

namespace Cert.Proof.Pre

open Cert.Pre_in_window Idealize.ShloMosaic Idealize.ShloMosaic.ValueIdx

/-- A column of the offsets: tap `j` of head `h`. -/
def col (h j : Nat) (hh : h < 12) (hj : j < 9) : Fin 192 := ⟨16 * h + j, by omega⟩

/-- A word that is not negative. -/
def Pos (s : BitVec 32) : Prop := s.toNat < 2 ^ 31

theorem Pos.msb {s : BitVec 32} (h : Pos s) : s.msb = false := by
  rw [BitVec.msb_eq_false_iff_two_mul_lt]; unfold Pos at h; omega

theorem no_corner {s k : BitVec 32} (hk : Pos k) (h0 : k ≠ 0) : ¬ IntOp.SDivCorner s k := by
  unfold IntOp.SDivCorner
  rw [not_or]
  refine ⟨h0, fun h => ?_⟩
  rw [h.2] at hk
  exact absurd hk (by unfold Pos; decide)

/-- The remainder of two such words. -/
theorem rem_word {u : ArithUnit} {s k : BitVec 32} (h : Pos s) (hk : Pos k) (h0 : k ≠ 0) : IntOp.remsi u s k = s % k := by
  rw [IntOp.remsi, if_neg (no_corner hk h0), BitVec.srem, h.msb, hk.msb]; rfl

/-- Their quotient. -/
theorem div_word {u : ArithUnit} {s k : BitVec 32} (h : Pos s) (hk : Pos k) (h0 : k ≠ 0) : IntOp.divsi u s k = s / k := by
  rw [IntOp.divsi, if_neg (no_corner hk h0), BitVec.sdiv, h.msb, hk.msb]; rfl

/-- The quotient rounded down, as the host writes it. -/
def floorW (s k : BitVec 32) : BitVec 32 :=
  Scalar.select (IntOp.andi (IntOp.cmpi .ne (if s = 0 then 0 else if s.msb then -1 else 1 : BitVec 32) (if k = 0 then 0 else if k.msb then -1 else 1))
      (IntOp.cmpi .ne (IntOp.remsi .host s k) 0#32)) (IntOp.subi (IntOp.divsi .host s k) 1#32) (IntOp.divsi .host s k)

theorem floorW_eq {s k : BitVec 32} (h : Pos s) (hk : Pos k) (h0 : k ≠ 0) : (floorW s k).toNat = s.toNat / k.toNat := by
  unfold floorW
  rw [rem_word h hk h0, div_word h hk h0, h.msb, hk.msb, if_neg h0]
  by_cases hs : s = 0
  · subst hs
    have : (0 : BitVec 32) % k = 0#32 := by simp
    rw [this, Scalar.select, if_neg (by simp [IntOp.cmpi, IntOp.andi])]
    exact BitVec.toNat_udiv
  · rw [if_neg hs, Scalar.select, if_neg (by simp [IntOp.cmpi, IntOp.andi])]
    exact BitVec.toNat_udiv

/-- The remainder with the sign of the divisor, by 64, as the host writes it. -/
def modW (s : BitVec 32) : BitVec 32 :=
  Scalar.select (IntOp.andi (IntOp.cmpi .ne (IntOp.cmpi .slt (IntOp.remsi .host s 64#32) 0#32) (IntOp.cmpi .slt 64#32 0#32)) (IntOp.cmpi .ne (IntOp.remsi .host s 64#32) 0#32))
    (IntOp.addi (IntOp.remsi .host s 64#32) 64#32) (IntOp.remsi .host s 64#32)

theorem modW_eq {s : BitVec 32} (h : Pos s) : modW s = s % 64#32 := by
  have hp : Pos (s % 64#32) := by unfold Pos at *; rw [BitVec.toNat_umod]; exact lt_of_le_of_lt (Nat.mod_le _ _) h
  have hl : IntOp.cmpi .slt (s % 64#32) 0#32 = 0#1 := by
    rw [WordCmp.cmpi_slt_zero, WordCmp.ofBool_decide_eq_zero_iff]
    unfold Pos at hp; omega
  unfold modW
  rw [rem_word h (by unfold Pos; decide) (by decide), hl, Scalar.select, if_neg (by simp [IntOp.cmpi, IntOp.andi])]

/-- What the precondition computes of one word. -/
theorem word_ok {s : BitVec 32} (e : IntOp.andi (IntOp.andi (IntOp.cmpi .sge s 0#32) (IntOp.cmpi .sle s 28544#32)) (IntOp.cmpi .eq (modW s) 0#32) = 1#1) :
    s.toNat ≤ 28544 ∧ s.toNat % 64 = 0 := by
  rw [WordCmp.cmpi_sge_zero, WordCmp.cmpi_sle_eq, WordCmp.cmpi_eq_eq_toNat, WordCmp.andi_ofBool, WordCmp.andi_ofBool, WordCmp.ofBool_eq_one_iff] at e
  simp only [Bool.and_eq_true, decide_eq_true_eq] at e
  obtain ⟨⟨h0, h1⟩, h2⟩ := e
  rw [WordCmp.toInt_eq_toNat_of_lt_half h0, WordCmp.toInt_ofNat_of_lt (by norm_num)] at h1
  rw [modW_eq h0, BitVec.toNat_umod] at h2
  exact ⟨by exact_mod_cast h1, by simpa using h2⟩

section

variable {F : FTy → Type} [FloatOps F]

/-- Each offset a tap uses is in the window, with room for the row after it, and starts a row. -/
theorem word (X : FVec F Pre_in_window.S2x2048x768 .f32) (A C : FVec F Pre_in_window.S2x2048x192 .f32) (I : IVec Pre_in_window.S2x2048x192 32) (W : FVec F Pre_in_window.S768x768 .f32)
    (e : Pre_in_window.fn (F := F) X A C I W = fun _ => 1#1) (b : Fin 2) (l : Fin 2048) (h j : Nat) (hh : h < 12) (hj : j < 9) :
    (I (ix3 b l (col h j hh hj))).toNat ≤ 28544 ∧ (I (ix3 b l (col h j hh hj))).toNat % 64 = 0 := by
  have e := congrFun e (ix4 b l ⟨h, hh⟩ ⟨j, hj⟩)
  have hs : ∀ (p : _) (q : _), extractStridedSlice Pre_in_window.S2x2048x12x9 ![0, 0, 0, 0] (shapeCast Pre_in_window.S2x2048x12x16 I p) q (ix4 b l ⟨h, hh⟩ ⟨j, hj⟩)
      = I (ix3 b l (col h j hh hj)) := by
    intro p q
    refine shapeCast_apply I p _ _ ?_
    rw [Shape.rowMajor_val_three, Shape.rowMajor_val_four]
    simp [ix3, ix4, col]
    ring
  have e2 := word_ok (s := I (ix3 b l (col h j hh hj))) (by
    rw [← hs Gen.shapeCasts_S2x2048x192_S2x2048x12x16 Gen.slices_S2x2048x12x16_S2x2048x12x9_0_0_0_0]; exact e)
  exact e2

end

end Cert.Proof.Pre

end
-- ==== Proof.Frames.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.MixIdeal
public import proofs.«01_k».proof.Proof.Gen.MixIdeal.Skeleton
public import Idealize.ShloMosaic.Lib.Pipeline.Regions
public import proofs.«01_k».proof.Proof.Gen.MixIdeal.Launch
public import Idealize.ShloMosaic.Lib.Pipeline.RegionsLoop
public import Idealize.ShloMosaic.Lib.Pipeline.FrameBody
public import Idealize.ShloMosaic.Lib.VecWindow
public import Idealize.ShloMosaic.Lib.WordCmp
public import proofs.«01_k».proof.Proof.Gen.MixIdeal.Points

public import proofs.«01_k».proof.Proof.Main
public import proofs.«01_k».proof.Proof.Pre
public import proofs.«01_k».proof.Proof.Gen.Mix
public import proofs.«01_k».proof.Proof.Gen.MixRefIdeal
public import proofs.«01_k».proof.Proof.Gen.MixRefIdeal.Run

@[expose] public section

set_option maxRecDepth 16384

noncomputable section

namespace Cert.Proof.Mix

open Cert.MixIdeal Cert.MixIdeal.Gen

open Idealize.ShloMosaic
open Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Pipeline (Dat Cfg Window BodyObligation cellOf)

variable {F : FTy → Type}

local notation "𝕄" => MT nD τ sig (HIx 1) (Elt F) ℕ UU ℕ

variable [FloatOps F]

open Idealize.ShloMosaic.StableHlo (seq after)

/-! ## The host operations' values -/

section Steps

variable (m : (ℓ : Loc nD τ sig) → Buf (Elt F) ℓ)

theorem vI_eq (d : Dev nD) : vI m d = transpose S2x192x2048 [0, 2, 1] (m ((d : Thread nD τ).loc main_arg3)) transposes_S2x2048x192_S2x192x2048_0_2_1 := by
  show after preOps _ (Proc.devRef .tc main_v2) = _
  simp only [preOps, StableHlo.TRef.unary, StableHlo.TRef.binary, StableHlo.TRef.toBuf, StableHlo.TRef.ofBuf, cast_eq]
  after_results_simp <;> rfl

/-- An argument is as it was. -/
theorem kept (d : Dev nD) (b : Ref sig .tc) (hb : b = main_arg0 ∨ b = main_arg1 ∨ b = main_arg2 ∨ b = main_arg3 ∨ b = main_arg4) :
    V4 m d b = m ((d : Thread nD τ).loc b) := by
  have h1 : b ≠ main_v10 := by rcases hb with h | h | h | h | h <;> subst h <;> decide
  have h2 : dr b ≠ dr main_v7 := by rcases hb with h | h | h | h | h <;> subst h <;> decide
  have h3 : W3 m d (dr b) = W2 m d (dr b) := by
    show after postOps _ (Proc.devRef .tc b) = _
    rcases hb with h | h | h | h | h <;> subst h <;> simp only [postOps] <;> after_results_simp
  have h4 : W1 m d (dr b) = m (d, dr b) := by
    show after preOps _ (Proc.devRef .tc b) = _
    rcases hb with h | h | h | h | h <;> subst h <;>
      simp only [preOps, StableHlo.TRef.unary, StableHlo.TRef.binary, StableHlo.TRef.toBuf, StableHlo.TRef.ofBuf, cast_eq] <;> after_results_simp
  calc V4 m d b = V3 m d b := Function.update_of_ne h1 _ _
    _ = W2 m d (dr b) := h3
    _ = W1 m d (dr b) := Function.update_of_ne h2 _ _
    _ = _ := h4

theorem inAll (d : Dev nD) (h : Cert.Pre_in_window.fn (F := F) (m ((d : Thread nD τ).loc main_arg0)) (m ((d : Thread nD τ).loc main_arg1)) (m ((d : Thread nD τ).loc main_arg2))
      (m ((d : Thread nD τ).loc main_arg3)) (m ((d : Thread nD τ).loc main_arg4)) = fun _ => 1#1) : InAll (vI m d) := by
  intro n hn j c hj hc
  have e : blkOf (vI m d) n (ixJ j c) = m ((d : Thread nD τ).loc main_arg3) (ix3 ⟨n / 96 % 2, Nat.mod_lt _ (by norm_num)⟩ ⟨256 * (n % 8) + c, by omega⟩
      (Pre.col (n % 96 / 8) j (by omega) hj)) := by
    rw [vI_eq]
    unfold blkOf
    refine transpose_apply _ _ _ _ _ fun b => ?_
    match b with
    | ⟨0, _⟩ => rfl
    | ⟨1, _⟩ => show 16 * (n % 96 / 8) + j = 16 * (n % 96 / 8) + j % 16; omega
    | ⟨2, _⟩ => show 256 * (n % 8) + c = 256 * (n % 8) + c % 256; omega
  rw [e]
  have := (Pre.word _ _ _ _ _ h ⟨n / 96 % 2, Nat.mod_lt _ (by norm_num)⟩ ⟨256 * (n % 8) + c, by omega⟩ (n % 96 / 8) j (by omega) hj).1
  omega

end Steps

/-! ## The frames -/

/-- The run with its value dropped, at any float values. -/
theorem frame_at [∀ e, Nonempty (Elt F e)] (m : (ℓ : Loc nD τ sig) → Buf (Elt F) ℓ) (ρ : Dev nD → PrngReg) (hI : ∀ d, InAll (vI m d)) :
    θ_run (Cert.MixIdeal.defs (F := F)) (Cert.MixIdeal.threads (F := F)) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run Cert.MixIdeal.defs _ _).mono (fun _ e => ⟨fun c =>
      ⟨(e.1 c main_arg0 (by decide)).trans (kept m c _ (by decide)), (e.1 c main_arg1 (by decide)).trans (kept m c _ (by decide)),
        (e.1 c main_arg2 (by decide)).trans (kept m c _ (by decide)), (e.1 c main_arg3 (by decide)).trans (kept m c _ (by decide)),
        (e.1 c main_arg4 (by decide)).trans (kept m c _ (by decide))⟩, e.2⟩)
    (run_main m ρ hI)

theorem frame_mixIdeal : Cert.quiescent_MixIdeal := fun m ρ h =>
  frame_at (F := Ideal) m ρ fun d => inAll m d (h d)

/-- The two programs' body tables agree, label by label. -/
theorem bodies_eq : Cert.Mix.defs₀ (F := Bits) = Cert.MixIdeal.defs₀ (F := Bits) := by
  funext p l a
  match p, l, a with
  | .tc, 0, _ => rfl
  | .tc, 1, _ => rfl
  | .scVector c s, 0, _ => rfl
  | .scVector c s, 1, _ => rfl
  | .scScalar c, 0, _ => rfl
  | .scScalar c, 1, _ => rfl

theorem defs_eq : Cert.Mix.defs (F := Bits) = Cert.MixIdeal.defs (F := Bits) := by
  unfold Cert.Mix.defs Cert.MixIdeal.defs
  rw [bodies_eq]
  rfl

theorem frame_mix : Cert.quiescent_Mix := by
  intro m ρ h
  have := frame_at (F := Bits) m ρ fun d => inAll m d (h d)
  rw [defs_eq]
  exact this

theorem frame_ref : Cert.quiescent_MixRefIdeal := fun m ρ _ =>
  (θ_run Cert.MixRefIdeal.defs _ _).mono (fun r h => ⟨fun c => (h c).2, Idealize.ShloMosaic.sem_eq_zero_of_no_sems (by decide) r.2⟩)
    (Cert.MixRefIdeal.Value.run (F := Ideal) m ρ)

end Cert.Proof.Mix

end
-- ==== Proof.Region.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.MixIdeal
public import proofs.«01_k».proof.Proof.Gen.MixIdeal.Skeleton
public import Idealize.ShloMosaic.Lib.Pipeline.Regions
public import proofs.«01_k».proof.Proof.Gen.MixIdeal.Launch
public import Idealize.ShloMosaic.Lib.Pipeline.RegionsLoop
public import Idealize.ShloMosaic.Lib.Pipeline.FrameBody
public import Idealize.ShloMosaic.Lib.VecWindow
public import Idealize.ShloMosaic.Lib.WordCmp
public import proofs.«01_k».proof.Proof.Gen.MixIdeal.Points
public import Idealize.ShloMosaic.Lib.MatmulPlain
public import Idealize.ShloMosaic.Lib.ValueLayout
public import Idealize.ShloMosaic.Lib.Pipeline.ValueKit.Geometry
public import proofs.«01_k».proof.Proof.Prod

@[expose] public section

set_option maxRecDepth 16384

noncomputable section

namespace Cert.Proof.Mix

open Cert.MixIdeal Cert.MixIdeal.Gen

open Idealize.ShloMosaic
open Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Pipeline (Dat Cfg Window BodyObligation cellOf)

/-! ## The output product over the extended reals: one entry of the result as a sum over heads -/

abbrev prodDims : DotDims S64x256 S64x768 S256x768 := dot_S64x256_S64x768_S256x768_0_0_1_1_n_n

/-- The body's product at one entry. -/
theorem prod_apply (l : FVec Ideal S64x256 .f32) (w : FVec Ideal S64x768 .f32) (z : FVec Ideal S256x768 .f32) (r : Fin 256) (o : Fin 768) :
    matmul (F := Ideal) prodDims none l w z (ix2 r o) = z (ix2 r o) + ∑ k : Fin 64, l (ix2 k r) * w (ix2 k o) := by
  show FloatOps.matmul _ _ _ _ _ _ = _
  rw [Ideal.matmul_apply, ← Equiv.sum_comp (contrEquiv1 prodDims 64 rfl rfl).symm]
  refine congrArg (z (ix2 r o) + ·) (Finset.sum_congr rfl fun k _ => ?_)
  have hk := contrEquiv1_symm_val prodDims 64 rfl rfl k
  have el : prodDims.lhsIdx (ix2 r o) ((contrEquiv1 prodDims 64 rfl rfl).symm k) = ix2 k r := by
    funext a; apply Fin.ext
    match a with
    | ⟨0, _⟩ => exact hk
    | ⟨1, _⟩ => rfl
  have er : prodDims.rhsIdx (ix2 r o) ((contrEquiv1 prodDims 64 rfl rfl).symm k) = ix2 k o := by
    funext a; apply Fin.ext
    match a with
    | ⟨0, _⟩ => exact hk
    | ⟨1, _⟩ => rfl
  rw [el, er]

theorem zero_word : (Scalar.ofBits .f32 0x00000000#32 : Ideal .f32) = 0 := Idealize.ShloMosaic.Ideal.ofBits_zero_f32

/-- The body's result at one entry: what the block held, plus this head's product. -/
theorem pay2_apply (z : Vec Ideal S1x256x768 .f32) (x : Vec Ideal S1x1x1x64x256 .f32) (w : Vec Ideal S64x768 .f32) (r : Fin 256) (o : Fin 768) :
    k1_pay2 (F := Ideal) z x w (ix3 0 r o) = z (ix3 0 r o) + ∑ k : Fin 64, x (ix5 0 0 0 k r) * w (ix2 k o) := by
  have e1 : shapeCast S256x768 z shapeCasts_S1x256x768_S256x768 (ix2 r o) = z (ix3 0 r o) :=
    shapeCast_apply _ _ _ _ (by rw [Shape.rowMajor_val_three, Shape.rowMajor_val_two]; simp [ix2, ix3])
  have e2 : ∀ k : Fin 64, shapeCast S64x256 x shapeCasts_S1x1x1x64x256_S64x256 (ix2 k r) = x (ix5 0 0 0 k r) := fun k =>
    shapeCast_apply _ _ _ _ (by rw [Shape.rowMajor_val_five, Shape.rowMajor_val_two]; simp [ix2, ix5])
  have e3 : ∀ k : Fin 64, shapeCast S64x768 w shapeCasts_S64x768_S64x768 (ix2 k o) = w (ix2 k o) := fun k => shapeCast_apply _ _ _ _ rfl
  unfold k1_pay2
  refine (shapeCast_apply _ _ (ix3 0 r o) (ix2 r o) (by rw [Shape.rowMajor_val_three, Shape.rowMajor_val_two]; simp [ix2, ix3])).trans ?_
  show shapeCast S256x768 z _ (ix2 r o) + matmul (F := Ideal) prodDims none _ _ _ (ix2 r o) = _
  rw [e1, prod_apply]
  simp only [e2, e3]
  show _ + (Scalar.ofBits .f32 0x00000000#32 + _) = _
  rw [zero_word, zero_add]

theorem pay1_apply (j : S1x256x768.Idx) : k1_pay1 (F := Ideal) j = 0 := zero_word

section

variable (V : (c : Dev nD) → (b : Ref sig .tc) → Buf (Elt Ideal) ((c : Thread nD τ).loc b)) (c : Dev nD)

/-- The mixed heads and the output weights, as the pipeline finds them. -/
abbrev hd : S2x12x8x64x256.Idx → EReal := V c main_v8
abbrev wt : S768x768.Idx → EReal := V c main_v9

/-- Head `h`'s share of one entry. -/
def share (b : Fin 2) (i : Fin 8) (r : Fin 256) (o : Fin 768) (h : Fin 12) : EReal :=
  ∑ k : Fin 64, hd V c (ix5 b h i k r) * wt V c (ix2 ⟨64 * h.val + k.val, by have := h.isLt; have := k.isLt; omega⟩ o)

/-- The point of the grid for a batch, a block of rows and a head. -/
def pt (b : Fin 2) (i : Fin 8) (h : Fin 12) : Fin cfg1.N :=
  ⟨96 * b.val + 12 * i.val + h.val, Nat.lt_of_lt_of_eq (by have := b.isLt; have := i.isLt; have := h.isLt; omega) N_1.symm⟩

theorem pt_c0 (b : Fin 2) (i : Fin 8) (h : Fin 12) : (grid1.coords (pt b i h) 0).val = b.val := by
  have e : (grid1.coords (pt b i h) 0).val = (96 * b.val + 12 * i.val + h.val) / 96 % 2 := Pipeline.Grid.coords_val _ 0 (by decide) rfl
  have := b.isLt; have := i.isLt; have := h.isLt; omega
theorem pt_c1 (b : Fin 2) (i : Fin 8) (h : Fin 12) : (grid1.coords (pt b i h) 1).val = i.val := by
  have e : (grid1.coords (pt b i h) 1).val = (96 * b.val + 12 * i.val + h.val) / 12 % 8 := Pipeline.Grid.coords_val _ 1 (by decide) rfl
  have := b.isLt; have := i.isLt; have := h.isLt; omega
theorem pt_c2 (b : Fin 2) (i : Fin 8) (h : Fin 12) : (grid1.coords (pt b i h) 2).val = h.val := by
  have e : (grid1.coords (pt b i h) 2).val = (96 * b.val + 12 * i.val + h.val) / 1 % 12 := Pipeline.Grid.coords_val _ 2 (by decide) rfl
  have := b.isLt; have := i.isLt; have := h.isLt; omega

theorem word_nat {n : Nat} (h : n < 4096) : (BitVec.ofNat 32 n).toNat = n := by
  rw [BitVec.toNat_ofNat]; exact Nat.mod_eq_of_lt (by omega)

theorem blk0_apply (b : Fin 2) (i : Fin 8) (h : Fin 12) (k : Fin 64) (r : Fin 256) :
    blkAt V c 0 (pt b i h) (ix5 0 0 0 k r) = hd V c (ix5 b h i k r) := by
  show hd V c (((cfg1.win 0).rect (pt b i h)).emb (ix5 0 0 0 k r)) = _
  refine congrArg (hd V c) (funext fun a => Fin.ext ?_)
  refine (Pipeline.Window.rect_emb_val (cfg1.win 0) (pt b i h) (ix5 0 0 0 k r) a).trans ?_
  match a with
  | ⟨0, _⟩ => show (BitVec.ofNat 32 (grid1.coords (pt b i h) 0).val).toNat * 1 + 0 = b.val; rw [pt_c0, word_nat (by omega)]; omega
  | ⟨1, _⟩ => show (BitVec.ofNat 32 (grid1.coords (pt b i h) 2).val).toNat * 1 + 0 = h.val; rw [pt_c2, word_nat (by omega)]; omega
  | ⟨2, _⟩ => show (BitVec.ofNat 32 (grid1.coords (pt b i h) 1).val).toNat * 1 + 0 = i.val; rw [pt_c1, word_nat (by omega)]; omega
  | ⟨3, _⟩ => show (0#32).toNat * 64 + k.val = k.val; simp
  | ⟨4, _⟩ => show (0#32).toNat * 256 + r.val = r.val; simp

theorem blk1_apply (b : Fin 2) (i : Fin 8) (h : Fin 12) (k : Fin 64) (o : Fin 768) :
    blkAt V c 1 (pt b i h) (ix2 k o) = wt V c (ix2 ⟨64 * h.val + k.val, by have := h.isLt; have := k.isLt; omega⟩ o) := by
  show wt V c (((cfg1.win 1).rect (pt b i h)).emb (ix2 k o)) = _
  refine congrArg (wt V c) (funext fun a => Fin.ext ?_)
  refine (Pipeline.Window.rect_emb_val (cfg1.win 1) (pt b i h) (ix2 k o) a).trans ?_
  match a with
  | ⟨0, _⟩ => show (BitVec.ofNat 32 (grid1.coords (pt b i h) 2).val).toNat * 64 + k.val = 64 * h.val + k.val; rw [pt_c2, word_nat (by omega)]; omega
  | ⟨1, _⟩ => show (0#32).toNat * 768 + o.val = o.val; simp

/-- The block after head `h`: the heads' shares so far. -/
theorem acc_apply (b : Fin 2) (i : Fin 8) (r : Fin 256) (o : Fin 768) : ∀ (n : Nat) (hn : n < 12),
    accAt V c (pt b i ⟨n, hn⟩).val (pt b i ⟨n, hn⟩).isLt (ix3 0 r o) = ∑ h : Fin (n + 1), share V c b i r o ⟨h.val, by omega⟩
  | 0, hn => by
    rw [accAt_head V c (pt b i ⟨0, hn⟩) (by show (96 * b.val + 12 * i.val + 0) % 12 = 0; omega), pay2_apply, pay1_apply, zero_add, Fin.sum_univ_one]
    exact Finset.sum_congr rfl fun k _ => by rw [blk0_apply, blk1_apply]; rfl
  | n + 1, hn => by
    rw [accAt_next V c (pt b i ⟨n + 1, hn⟩) (by show ¬ (96 * b.val + 12 * i.val + (n + 1)) % 12 = 0; omega), pay2_apply, Fin.sum_univ_castSucc (f := fun h : Fin (n + 1 + 1) => share V c b i r o ⟨h.val, by omega⟩)]
    refine congrArg₂ (· + ·) (acc_apply b i r o n (by omega)) ?_
    exact Finset.sum_congr rfl fun k _ => by rw [blk0_apply, blk1_apply]; rfl

/-- The result: each entry the sum of its heads' shares. -/
def prodAll : S2x2048x768.Idx → EReal := fun z =>
  ∑ h : Fin 12, share V c (z 0) ⟨(z 1).val / 256, by have : (z 1).val < 2048 := (z 1).isLt; omega⟩ ⟨(z 1).val % 256, Nat.mod_lt _ (by norm_num)⟩ (z 2) h

theorem arr_eq : (dat V c).arrAt 2 cfg1.N = prodAll V c := by
  refine (dat V c).arrAt_eq_of_covers 2 _ (by decide +kernel) fun t hf y => ?_
  have ht : t.val < 192 := Nat.lt_of_lt_of_eq t.isLt N_1
  have hm : t.val % 12 = 11 := (flush1_2 t).mp hf
  obtain ⟨b, i, rfl⟩ : ∃ (b : Fin 2) (i : Fin 8), t = pt b i ⟨11, by norm_num⟩ :=
    ⟨⟨t.val / 96, by omega⟩, ⟨t.val / 12 % 8, by omega⟩, Fin.ext (by show t.val = 96 * (t.val / 96) + 12 * (t.val / 12 % 8) + 11; omega)⟩
  obtain ⟨y0, r, o, rfl⟩ : ∃ (y0 : Fin 1) (r : Fin 256) (o : Fin 768), y = ix3 y0 r o := ⟨y 0, y 1, y 2, funext fun a => by
    match a with
    | ⟨0, _⟩ => rfl
    | ⟨1, _⟩ => rfl
    | ⟨2, _⟩ => rfl⟩
  obtain rfl : y0 = 0 := Subsingleton.elim _ _
  rw [after_2]
  have e : ((cfg1.win 2).rect (pt b i ⟨11, by norm_num⟩)).emb (ix3 0 r o) = ix3 b (⟨256 * i.val + r.val, by have := i.isLt; have := r.isLt; omega⟩ : Fin 2048) o := by
    funext a
    refine Fin.ext ((Pipeline.Window.rect_emb_val (cfg1.win 2) (pt b i ⟨11, by norm_num⟩) (ix3 0 r o) a).trans ?_)
    match a with
    | ⟨0, _⟩ => show (BitVec.ofNat 32 (grid1.coords (pt b i ⟨11, _⟩) 0).val).toNat * 1 + 0 = b.val; rw [pt_c0, word_nat (by omega)]; omega
    | ⟨1, _⟩ => show (BitVec.ofNat 32 (grid1.coords (pt b i ⟨11, _⟩) 1).val).toNat * 256 + r.val = 256 * i.val + r.val; rw [pt_c1, word_nat (by omega)]; omega
    | ⟨2, _⟩ => show (0#32).toNat * 768 + o.val = o.val; simp
  show accAt V c _ _ (ix3 0 r o) = prodAll V c (((cfg1.win 2).rect (pt b i ⟨11, by norm_num⟩)).emb (ix3 0 r o))
  rw [e]
  refine (acc_apply V c b i r o 11 (by norm_num)).trans ?_
  unfold prodAll
  refine Finset.sum_congr rfl fun h _ => ?_
  have hi : (⟨(256 * i.val + r.val) / 256, by have := i.isLt; have := r.isLt; omega⟩ : Fin 8) = i := Fin.ext (by have := r.isLt; show (256 * i.val + r.val) / 256 = i.val; omega)
  have hr : (⟨(256 * i.val + r.val) % 256, by omega⟩ : Fin 256) = r := Fin.ext (by have := r.isLt; show (256 * i.val + r.val) % 256 = r.val; omega)
  show share V c b i r o h = share V c b ⟨(256 * i.val + r.val) / 256, _⟩ ⟨(256 * i.val + r.val) % 256, _⟩ o h
  rw [hi, hr]

end

end Cert.Proof.Mix

end
-- ==== Proof.RefVal.lean ====
/- What the reference computes at one entry, as a plain sum: heads, their 64 places, the nine taps and the two rows of each tap. -/
module

public import proofs.«01_k».proof.Defs
public import Idealize.ShloMosaic.Lib.MatmulPlain
public import Idealize.ShloMosaic.Lib.ValueLayout
public import Idealize.ShloMosaic.Lib.WordCmp
public import proofs.«01_k».proof.Proof.Gen.MixRefIdeal
public import proofs.«01_k».proof.Proof.Gen.MixRefIdeal.Run
public import proofs.«01_k».proof.Proof.Pre

@[expose] public section

set_option maxRecDepth 16384

noncomputable section

namespace Cert.Proof.Ref

open Cert.MixRefIdeal Cert.MixRefIdeal.Gen
open Idealize.ShloMosaic
open Idealize.ShloMosaic.ValueIdx
open Idealize.ShloMosaic.TcCoe
open Cert.Proof.Pre (floorW floorW_eq Pos)

/-- Tap `j` of head `h` among the 192 columns of the weights and offsets. -/
abbrev tcol (h : Fin 12) (j : Fin 9) : Fin 192 := Pre.col h.val j.val h.isLt j.isLt

/-! ## The closed form -/

/-- The padded input's row a tap starts at: the offset counts from the start of the 256-row block, in rows of 64 words. -/
def rowN (I : IVec S2x2048x192 32) (b : Fin 2) (l : Fin 2048) (h : Fin 12) (j : Fin 9) : Nat :=
  256 * (l.val / 256) + (I (ix3 b l (tcol h j))).toNat / 64

/-- One word of the padded input, by head. -/
def wordAt (X : S2x12x2240x64.Idx → EReal) (b : Fin 2) (h : Fin 12) (n : Nat) (d : Fin 64) : EReal :=
  X (ix4 b h ⟨n % 2240, Nat.mod_lt _ (by norm_num)⟩ d)

/-- One tap: its row weighted by the floor weight, and the next row by the ceiling weight. -/
def tapV (X : S2x12x2240x64.Idx → EReal) (A C : S2x2048x192.Idx → EReal) (I : IVec S2x2048x192 32) (b : Fin 2) (l : Fin 2048) (h : Fin 12) (d : Fin 64) (j : Fin 9) : EReal :=
  wordAt X b h (rowN I b l h j) d * A (ix3 b l (tcol h j)) + wordAt X b h (rowN I b l h j + 1) d * C (ix3 b l (tcol h j))

/-- One entry of the result. -/
def entry (X : S2x12x2240x64.Idx → EReal) (A C : S2x2048x192.Idx → EReal) (I : IVec S2x2048x192 32) (W : S768x768.Idx → EReal) (b : Fin 2) (l : Fin 2048) (o : Fin 768) : EReal :=
  ∑ h : Fin 12, ∑ d : Fin 64, (∑ j : Fin 9, tapV X A C I b l h d j) * W (ix2 o ⟨64 * h.val + d.val, by have := h.isLt; have := d.isLt; omega⟩)

/-- Every offset a tap uses leaves room for its two rows. -/
def Room (I : IVec S2x2048x192 32) : Prop := ∀ b l h j, (I (ix3 b l (tcol h j))).toNat ≤ 28544

theorem rowN_le {I : IVec S2x2048x192 32} (hI : Room I) (b l h j) : rowN I b l h j ≤ 2238 := by
  have h1 := hI b l h j
  have h2 : l.val < 2048 := l.isLt
  unfold rowN; omega

/-! ## The reference's stages -/

section

variable (X : S2x2048x768.Idx → Ideal .f32) (A C : S2x2048x192.Idx → Ideal .f32) (I : IVec S2x2048x192 32) (W : S768x768.Idx → Ideal .f32)

/-- The padded input by head. -/
abbrev heads : S2x12x2240x64.Idx → Ideal .f32 :=
  transpose S2x12x2240x64 [0, 2, 1, 3] (shapeCast S2x2240x12x64 (pad S2x2240x768 ![0, 96, 0] ![0, 96, 0] ![0, 0, 0] X (sitofp (F := Ideal) .f32 (constantI S_ 32 0#32)) pads_S2x2048x768_S2x2240x768_000_96960_000 h_S_) shapeCasts_S2x2240x768_S2x2240x12x64) transposes_S2x2240x12x64_S2x12x2240x64_0_2_1_3

/-- The offsets divided by 64. -/
abbrev offs : IVec S2x2048x192 32 :=
  select (andi (cmpi .ne (signi I) (broadcastInDim S2x2048x192 ![] bcast_S_S2x2048x192 (signi (id (constantI S_ 32 64#32))))) (cmpi .ne (Host.remsi I (broadcastInDim S2x2048x192 ![] bcast_S_S2x2048x192 (id (constantI S_ 32 64#32)))) (broadcastInDim S2x2048x192 ![] bcast_S_S2x2048x192 (constantI S_ 32 0#32)))) (subi (Host.divsi I (broadcastInDim S2x2048x192 ![] bcast_S_S2x2048x192 (id (constantI S_ 32 64#32)))) (broadcastInDim S2x2048x192 ![] bcast_S_S2x2048x192 (constantI S_ 32 1#32))) (Host.divsi I (broadcastInDim S2x2048x192 ![] bcast_S_S2x2048x192 (id (constantI S_ 32 64#32))))

/-- Each row's block. -/
abbrev blks : IVec S2048 32 :=
  select (andi (cmpi .ne (signi (iotaInDim S2048 32 0)) (broadcastInDim S2048 ![] bcast_S_S2048 (signi (id (constantI S_ 32 256#32))))) (cmpi .ne (Host.remsi (iotaInDim S2048 32 0) (broadcastInDim S2048 ![] bcast_S_S2048 (id (constantI S_ 32 256#32)))) (broadcastInDim S2048 ![] bcast_S_S2048 (constantI S_ 32 0#32)))) (subi (Host.divsi (iotaInDim S2048 32 0) (broadcastInDim S2048 ![] bcast_S_S2048 (id (constantI S_ 32 256#32)))) (broadcastInDim S2048 ![] bcast_S_S2048 (constantI S_ 32 1#32))) (Host.divsi (iotaInDim S2048 32 0) (broadcastInDim S2048 ![] bcast_S_S2048 (id (constantI S_ 32 256#32))))

/-- A tap's array by head: the nine used columns of each head. -/
abbrev byHead {α : Type} (Y : S2x2048x192.Idx → α) : S2x12x2048x9.Idx → α :=
  transpose S2x12x2048x9 [0, 2, 1, 3] (extractStridedSlice S2x2048x12x9 ![0, 0, 0, 0] (shapeCast S2x2048x12x16 Y shapeCasts_S2x2048x192_S2x2048x12x16) slices_S2x2048x12x16_S2x2048x12x9_0_0_0_0) transposes_S2x2048x12x9_S2x12x2048x9_0_2_1_3

/-- Each tap's row. -/
abbrev rowsT : IVec S2x12x2048x9 32 :=
  addi (byHead (offs I)) (broadcastInDim S2x12x2048x9 ![0, 1, 2, 3] bcast_S1x1x2048x1_S2x12x2048x9_0_1_2_3 (broadcastInDim S1x1x2048x1 ![2] bcast_S2048_S1x1x2048x1_2 (muli blks (broadcastInDim S2048 ![] bcast_S_S2048 (constantI S_ 32 256#32)))))

/-- A row counted from the end if negative, as the reference indexes. -/
abbrev wrap (p : IVec S2x12x2048x9 32) : IVec S2x12x2048x9x1 32 :=
  broadcastInDim S2x12x2048x9x1 ![0, 1, 2, 3] bcast_S2x12x2048x9_S2x12x2048x9x1_0_1_2_3 (select (cmpi .slt p (broadcastInDim S2x12x2048x9 ![] bcast_S_S2x12x2048x9 (constantI S_ 32 0#32))) (addi p (broadcastInDim S2x12x2048x9 ![] bcast_S_S2x12x2048x9 (constantI S_ 32 2240#32))) p)

/-- A weight repeated over a head's 64 places. -/
abbrev wide (Y : S2x2048x192.Idx → Ideal .f32) : S2x12x2048x9x64.Idx → Ideal .f32 :=
  broadcastInDim S2x12x2048x9x64 ![0, 1, 2, 3, 4] bcast_S2x12x2048x9x1_S2x12x2048x9x64_0_1_2_3_4 (broadcastInDim S2x12x2048x9x1 ![0, 1, 2, 3] bcast_S2x12x2048x9_S2x12x2048x9x1_0_1_2_3 (byHead Y))

abbrev gth : GatherDims S2x12x2240x64 S2x12x2048x9x1 S2x12x2048x9x64 := gather_S2x12x2240x64_S2x12x2048x9x1_S2x12x2048x9x64_4_2_01_01_2_4_11164

/-- The taps. -/
abbrev taps : S2x12x2048x9x64.Idx → Ideal .f32 :=
  addf (F := Ideal) (mulf (F := Ideal) (Host.gather gth (heads X) (wrap (rowsT I))) (wide A))
    (mulf (F := Ideal) (Host.gather gth (heads X) (wrap (addi (rowsT I) (broadcastInDim S2x12x2048x9 ![] bcast_S_S2x12x2048x9 (constantI S_ 32 1#32))))) (wide C))

abbrev prodDims : DotDims S2x2048x768 S768x768 S2x2048x768 := dot_S2x2048x768_S768x768_S2x2048x768_2_1_01_0_n_n

/-- The mixed heads, side by side. -/
abbrev mixed : S2x2048x768.Idx → Ideal .f32 :=
  shapeCast S2x2048x768 (transpose S2x2048x12x64 [0, 2, 1, 3] (Host.reduceAdd (F := Ideal) (taps X A C I) (constant (F := Ideal) S_ .f32 0x00000000#32) reducesTo_S2x12x2048x9x64_S2x12x2048x64_d3 h_S_) transposes_S2x12x2048x64_S2x2048x12x64_0_2_1_3) shapeCasts_S2x2048x12x64_S2x2048x768

/-- The reference's result. -/
abbrev result : S2x2048x768.Idx → Ideal .f32 := Host.dotGeneral (F := Ideal) prodDims none (mixed X A C I) W

/-! ### Each stage at one entry -/

theorem byHead_apply {α : Type} (Y : S2x2048x192.Idx → α) (b : Fin 2) (h : Fin 12) (l : Fin 2048) (j : Fin 9) :
    byHead Y (ix4 b h l j) = Y (ix3 b l (tcol h j)) := by
  refine (transpose_apply _ _ _ (ix4 b h l j) (ix4 b l h j) fun a => ?_).trans ?_
  · match a with
    | ⟨0, _⟩ => rfl
    | ⟨1, _⟩ => rfl
    | ⟨2, _⟩ => rfl
    | ⟨3, _⟩ => rfl
  refine shapeCast_apply Y _ _ _ ?_
  rw [Shape.rowMajor_val_three, Shape.rowMajor_val_four]
  simp [ix3, ix4, Pre.col]
  ring

theorem rowsT_apply (b : Fin 2) (h : Fin 12) (l : Fin 2048) (j : Fin 9) :
    rowsT I (ix4 b h l j) = floorW (I (ix3 b l (tcol h j))) 64#32 + floorW (BitVec.ofNat 32 l.val) 256#32 * 256#32 := by
  show byHead (offs I) (ix4 b h l j) + _ = _
  rw [byHead_apply]
  rfl

theorem rowsT_toNat (hI : Room I) (b : Fin 2) (h : Fin 12) (l : Fin 2048) (j : Fin 9) : (rowsT I (ix4 b h l j)).toNat = rowN I b l h j := by
  have h1 := hI b l h j
  have h2 : l.val < 2048 := l.isLt
  have hl : (BitVec.ofNat 32 l.val).toNat = l.val := by rw [BitVec.toNat_ofNat]; exact Nat.mod_eq_of_lt (by omega)
  have e1 := floorW_eq (s := I (ix3 b l (tcol h j))) (k := 64#32) (by unfold Pos; omega) (by unfold Pos; decide) (by decide)
  have e2 := floorW_eq (s := BitVec.ofNat 32 l.val) (k := 256#32) (by unfold Pos; omega) (by unfold Pos; decide) (by decide)
  rw [hl] at e2
  have e3 : (64#32).toNat = 64 := rfl
  have e4 : (256#32).toNat = 256 := rfl
  rw [rowsT_apply, BitVec.toNat_add, BitVec.toNat_mul, e1, e2, e3, e4]
  unfold rowN
  omega

theorem wrap_apply (p : IVec S2x12x2048x9 32) (b : Fin 2) (h : Fin 12) (l : Fin 2048) (j : Fin 9) (hp : (p (ix4 b h l j)).toNat < 2 ^ 31) :
    wrap p (ix5 b h l j 0) = p (ix4 b h l j) := by
  have e : wrap p (ix5 b h l j 0) = Scalar.select (IntOp.cmpi .slt (p (ix4 b h l j)) 0#32) (IntOp.addi (p (ix4 b h l j)) 2240#32) (p (ix4 b h l j)) := by
    refine congrArg (select (cmpi .slt p (broadcastInDim S2x12x2048x9 ![] bcast_S_S2x12x2048x9 (constantI S_ 32 0#32))) (addi p (broadcastInDim S2x12x2048x9 ![] bcast_S_S2x12x2048x9 (constantI S_ 32 2240#32))) p)
      (funext fun a => ?_ : _ = ix4 b h l j)
    match a with
    | ⟨0, _⟩ => rfl
    | ⟨1, _⟩ => rfl
    | ⟨2, _⟩ => rfl
    | ⟨3, _⟩ => rfl
  rw [e, WordCmp.cmpi_slt_zero, WordCmp.select_ofBool]
  rw [if_neg (by rw [decide_eq_true_eq]; omega)]

theorem gather_apply (Y : S2x12x2240x64.Idx → Ideal .f32) (p : IVec S2x12x2048x9x1 32) (b : Fin 2) (h : Fin 12) (l : Fin 2048) (j : Fin 9) (d : Fin 64)
    (hp : (p (ix5 b h l j 0)).toNat ≤ 2239) : Host.gather gth Y p (ix5 b h l j d) = wordAt Y b h (p (ix5 b h l j 0)).toNat d := by
  show Y (gth.operandIdx (ix5 b h l j d) p) = Y _
  have e0 : gth.siIdx (ix5 b h l j d) ⟨0, by decide⟩ = ix5 b h l j 0 := by
    funext a
    match a with
    | ⟨0, _⟩ => rfl
    | ⟨1, _⟩ => rfl
    | ⟨2, _⟩ => rfl
    | ⟨3, _⟩ => rfl
    | ⟨4, _⟩ => rfl
  refine congrArg Y (funext fun a => Fin.ext ?_)
  match a with
  | ⟨0, _⟩ => show 0 + b.val + 0 = b.val; omega
  | ⟨1, _⟩ => show 0 + h.val + 0 = h.val; omega
  | ⟨2, _⟩ =>
    show min (p (gth.siIdx (ix5 b h l j d) ⟨0, _⟩)).toInt.toNat (2240 - 1) + 0 + 0 = (p (ix5 b h l j 0)).toNat % 2240
    rw [e0, WordCmp.toInt_eq_toNat_of_lt_half (by omega), Int.toNat_natCast]
    omega
  | ⟨3, _⟩ => show 0 + 0 + d.val = d.val; omega

theorem wide_apply (Y : S2x2048x192.Idx → Ideal .f32) (b : Fin 2) (h : Fin 12) (l : Fin 2048) (j : Fin 9) (d : Fin 64) :
    wide Y (ix5 b h l j d) = Y (ix3 b l (tcol h j)) := by
  refine Eq.trans (congrArg (byHead Y) (funext fun a => ?_ : _ = ix4 b h l j)) (byHead_apply Y b h l j)
  match a with
  | ⟨0, _⟩ => rfl
  | ⟨1, _⟩ => rfl
  | ⟨2, _⟩ => rfl
  | ⟨3, _⟩ => rfl

theorem taps_apply (hI : Room I) (b : Fin 2) (h : Fin 12) (l : Fin 2048) (j : Fin 9) (d : Fin 64) :
    taps X A C I (ix5 b h l j d) = tapV (heads X) A C I b l h d j := by
  have hr := rowsT_toNat I hI b h l j
  have hle := rowN_le hI b l h j
  have hr' : (addi (rowsT I) (broadcastInDim S2x12x2048x9 ![] bcast_S_S2x12x2048x9 (constantI S_ 32 1#32)) (ix4 b h l j)).toNat = rowN I b l h j + 1 := by
    show (rowsT I (ix4 b h l j) + 1#32).toNat = _
    rw [BitVec.toNat_add, hr]
    show (rowN I b l h j + 1) % 2 ^ 32 = _
    omega
  have w1 := wrap_apply (rowsT I) b h l j (by omega)
  have w2 := wrap_apply (addi (rowsT I) (broadcastInDim S2x12x2048x9 ![] bcast_S_S2x12x2048x9 (constantI S_ 32 1#32))) b h l j (by omega)
  show Host.gather gth (heads X) _ (ix5 b h l j d) * wide A (ix5 b h l j d) + Host.gather gth (heads X) _ (ix5 b h l j d) * wide C (ix5 b h l j d) = _
  rw [gather_apply _ _ b h l j d (by rw [w1]; omega), gather_apply _ _ b h l j d (by rw [w2]; omega), w1, w2, hr, hr', wide_apply, wide_apply]
  rfl

/-- Dropping the tap axis. -/
theorem drop_tap (b : Fin 2) (h : Fin 12) (l : Fin 2048) (j : Fin 9) (d : Fin 64) :
    reducesTo_S2x12x2048x9x64_S2x12x2048x64_d3.drop (ix5 b h l j d) = ix4 b h l d := by
  funext a
  match a with
  | ⟨0, _⟩ => rfl
  | ⟨1, _⟩ => rfl
  | ⟨2, _⟩ => rfl
  | ⟨3, _⟩ => rfl

def tapEmb (b : Fin 2) (h : Fin 12) (l : Fin 2048) (d : Fin 64) : Fin 9 ↪ S2x12x2048x9x64.Idx :=
  ⟨fun j => ix5 b h l j d, fun _ _ e => congrFun e 3⟩

theorem filter_tap (b : Fin 2) (h : Fin 12) (l : Fin 2048) (d : Fin 64) :
    Finset.univ.filter (fun i : S2x12x2048x9x64.Idx => reducesTo_S2x12x2048x9x64_S2x12x2048x64_d3.drop i = ix4 b h l d) = Finset.univ.map (tapEmb b h l d) := by
  ext i
  simp only [Finset.mem_filter, Finset.mem_univ, true_and, Finset.mem_map]
  constructor
  · intro e
    refine ⟨i 3, ?_⟩
    funext a
    match a with
    | ⟨0, _⟩ => exact (congrFun e 0).symm
    | ⟨1, _⟩ => exact (congrFun e 1).symm
    | ⟨2, _⟩ => exact (congrFun e 2).symm
    | ⟨3, _⟩ => rfl
    | ⟨4, _⟩ => exact (congrFun e 3).symm
  · rintro ⟨j, rfl⟩
    exact drop_tap b h l j d

theorem sum_taps (Y : S2x12x2048x9x64.Idx → Ideal .f32) (b : Fin 2) (h : Fin 12) (l : Fin 2048) (d : Fin 64) :
    Host.reduceAdd (F := Ideal) Y (constant (F := Ideal) S_ .f32 0x00000000#32) reducesTo_S2x12x2048x9x64_S2x12x2048x64_d3 h_S_ (ix4 b h l d) = ∑ j : Fin 9, (Y (ix5 b h l j d) : EReal) := by
  show Ideal.hostReduceAdd _ _ _ _ = _
  unfold Ideal.hostReduceAdd
  rw [filter_tap, Finset.sum_map]
  show Ideal.ofBits .f32 0x00000000#32 + _ = _
  rw [Idealize.ShloMosaic.Ideal.ofBits_zero_f32, zero_add]
  rfl

theorem mixed_apply (hI : Room I) (b : Fin 2) (l : Fin 2048) (h : Fin 12) (d : Fin 64) (k : Fin 768) (hk : k.val = 64 * h.val + d.val) :
    mixed X A C I (ix3 b l k) = ∑ j : Fin 9, tapV (heads X) A C I b l h d j := by
  refine (shapeCast_apply _ _ (ix3 b l k) (ix4 b l h d) ?_).trans ?_
  · rw [Shape.rowMajor_val_three, Shape.rowMajor_val_four]
    simp [ix3, ix4, hk]
    ring
  refine (transpose_apply _ _ _ (ix4 b l h d) (ix4 b h l d) fun a => ?_).trans ?_
  · match a with
    | ⟨0, _⟩ => rfl
    | ⟨1, _⟩ => rfl
    | ⟨2, _⟩ => rfl
    | ⟨3, _⟩ => rfl
  rw [sum_taps]
  exact Finset.sum_congr rfl fun j _ => taps_apply X A C I hI b h l j d

theorem dot_apply (Y : S2x2048x768.Idx → Ideal .f32) (b : Fin 2) (l : Fin 2048) (o : Fin 768) :
    Host.dotGeneral (F := Ideal) prodDims none Y W (ix3 b l o) = ∑ k : Fin 768, (Y (ix3 b l k) * W (ix2 o k) : EReal) := by
  show FloatOps.dotGeneral _ _ _ _ _ _ = _
  rw [Ideal.dotGeneral_apply, ← Equiv.sum_comp (contrEquiv1 prodDims 768 rfl rfl).symm]
  refine Finset.sum_congr rfl fun k _ => ?_
  have hk := contrEquiv1_symm_val prodDims 768 rfl rfl k
  have el : prodDims.lhsIdx (ix3 b l o) ((contrEquiv1 prodDims 768 rfl rfl).symm k) = ix3 b l k := by
    funext a; apply Fin.ext
    match a with
    | ⟨0, _⟩ => rfl
    | ⟨1, _⟩ => rfl
    | ⟨2, _⟩ => exact hk
  have er : prodDims.rhsIdx (ix3 b l o) ((contrEquiv1 prodDims 768 rfl rfl).symm k) = ix2 o k := by
    funext a; apply Fin.ext
    match a with
    | ⟨0, _⟩ => rfl
    | ⟨1, _⟩ => exact hk
  rw [el, er]

/-- A sum over 768 places, head by head. -/
theorem sum_heads (f : Fin 768 → EReal) : ∑ k : Fin 768, f k = ∑ h : Fin 12, ∑ d : Fin 64, f ⟨64 * h.val + d.val, by have := h.isLt; have := d.isLt; omega⟩ := by
  have e : ∑ k : Fin (12 * 64), f k = _ := (Equiv.sum_comp (finProdFinEquiv (m := 12) (n := 64)) f).symm
  refine e.trans ?_
  rw [Fintype.sum_prod_type]
  exact Finset.sum_congr rfl fun h _ => Finset.sum_congr rfl fun d _ => congrArg f (Fin.ext (by show d.val + 64 * h.val = 64 * h.val + d.val; omega))

theorem result_apply (hI : Room I) (b : Fin 2) (l : Fin 2048) (o : Fin 768) : result X A C I W (ix3 b l o) = entry (heads X) A C I W b l o := by
  refine (dot_apply W _ b l o).trans ?_
  rw [sum_heads]
  exact Finset.sum_congr rfl fun h _ => Finset.sum_congr rfl fun d _ => by rw [mixed_apply X A C I hI b l h d _ rfl]

end

/-- What the generated run states is that result. -/
theorem res_eq (m : (ℓ : Loc nD τ sig) → Buf (Elt Ideal) ℓ) (c : Dev nD) :
    Value.res_main_v46 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v46; rfl

end Cert.Proof.Ref

end
-- ==== Proof.Value.lean ====
/- The kernel's result is the reference's, over the extended reals. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.MixIdeal
public import proofs.«01_k».proof.Proof.Gen.MixIdeal.Skeleton
public import Idealize.ShloMosaic.Lib.Pipeline.Regions
public import proofs.«01_k».proof.Proof.Gen.MixIdeal.Launch
public import Idealize.ShloMosaic.Lib.Pipeline.RegionsLoop
public import Idealize.ShloMosaic.Lib.Pipeline.FrameBody
public import Idealize.ShloMosaic.Lib.VecWindow
public import Idealize.ShloMosaic.Lib.WordCmp
public import proofs.«01_k».proof.Proof.Gen.MixIdeal.Points

public import proofs.«01_k».proof.Proof.Main
public import proofs.«01_k».proof.Proof.Pre
public import proofs.«01_k».proof.Proof.Gen.Mix
public import proofs.«01_k».proof.Proof.Gen.MixRefIdeal
public import proofs.«01_k».proof.Proof.Gen.MixRefIdeal.Run
public import proofs.«01_k».proof.Proof.Region
public import proofs.«01_k».proof.Proof.RefVal
public import proofs.«01_k».proof.Proof.Frames

@[expose] public section

set_option maxRecDepth 16384

noncomputable section

namespace Cert.Proof.Mix

open Cert.MixIdeal Cert.MixIdeal.Gen

open Idealize.ShloMosaic
open Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Pipeline (Dat Cfg Window BodyObligation cellOf)

open Idealize.ShloMosaic.StableHlo (after)
open Cert.Proof.Ref (tcol rowN wordAt tapV entry Room)

/-! ## One word the SparseCore call writes -/

/-- A block of a transposed array, at the row of a tap. -/
theorem blk_apply {α : Type} (A : S2x2048x192.Idx → α) (b : Fin 2) (h : Fin 12) (i : Fin 8) (r : Fin 256) (j : Fin 9) (n c : Nat)
    (hn : n = 96 * b.val + 8 * h.val + i.val) (hc : c = r.val) :
    blkOf (transpose S2x192x2048 [0, 2, 1] A transposes_S2x2048x192_S2x192x2048_0_2_1) n (ixJ j.val c) = A (ix3 b ⟨256 * i.val + r.val, by omega⟩ (tcol h j)) := by
  have := b.isLt; have := h.isLt; have := i.isLt; have := r.isLt; have := j.isLt
  unfold blkOf
  refine transpose_apply _ _ _ _ _ fun a => ?_
  match a with
  | ⟨0, _⟩ => show b.val = n / 96 % 2; omega
  | ⟨1, _⟩ => show 16 * h.val + j.val = 16 * (n % 96 / 8) + j.val % 16; omega
  | ⟨2, _⟩ => show 256 * i.val + r.val = 256 * (n % 8) + c % 256; omega

/-- A window of the padded input, at a position. -/
theorem win_apply (X : S2x12x2240x64.Idx → EReal) (b : Fin 2) (h : Fin 12) (i : Fin 8) (n p q : Nat) (d : Fin 64)
    (hn : n = 96 * b.val + 8 * h.val + i.val) (hp : p = 64 * q + d.val) (hq : q < 448) :
    winOf (shapeCast S2x12x143360 X shapeCasts_S2x12x2240x64_S2x12x143360) n (ixW p) = wordAt X b h (256 * i.val + q) d := by
  have := b.isLt; have := h.isLt; have := i.isLt; have := d.isLt
  unfold winOf wordAt
  refine shapeCast_apply _ _ _ _ ?_
  rw [Shape.rowMajor_val_three, Shape.rowMajor_val_four]
  show ((b.val * 12 + h.val) * 2240 + (256 * i.val + q) % 2240) * 64 + d.val
    = (n / 96 % 2 * 12 + n % 96 / 8) * 143360 + (16384 * (n % 8) + p % 28672)
  rw [show n / 96 % 2 = b.val by omega, show n % 96 / 8 = h.val by omega, show n % 8 = i.val by omega]
  omega

/-- The nine taps, as a sum. -/
theorem tree9_eq (t : Nat → EReal) (g : Fin 9 → EReal) (hg : ∀ j : Fin 9, t j.val = g j) : tree9 (F := Ideal) t = ∑ j : Fin 9, g j := by
  have e : ∑ j : Fin 9, g j = ∑ j : Fin 9, t j.val := Finset.sum_congr rfl fun j _ => (hg j).symm
  rw [e, Fin.sum_univ_castSucc, Fin.sum_univ_eight]
  show t 0 + t 1 + (t 2 + t 3) + (t 4 + t 5 + (t 6 + t 7)) + t 8 = t 0 + t 1 + t 2 + t 3 + t 4 + t 5 + t 6 + t 7 + t 8
  simp only [add_assoc]

/-- The offsets start a row. -/
def Rows (I : IVec S2x2048x192 32) : Prop := ∀ b l h j, (I (ix3 b l (tcol h j))).toNat % 64 = 0

/-- One tap, as the tile computes it. -/
theorem tap_apply (X : S2x12x2240x64.Idx → EReal) (A C : S2x2048x192.Idx → EReal) (I : IVec S2x2048x192 32) (hI : Room I) (hR : Rows I)
    (b : Fin 2) (h : Fin 12) (i : Fin 8) (k : Fin 64) (r : Fin 256) (j : Fin 9) (n c d : Nat) (hn : n = 96 * b.val + 8 * h.val + i.val) (hc : c = r.val) (hd : d = k.val) :
    tap (F := Ideal) (winOf (shapeCast S2x12x143360 X shapeCasts_S2x12x2240x64_S2x12x143360) n)
        (blkOf (transpose S2x192x2048 [0, 2, 1] A transposes_S2x2048x192_S2x192x2048_0_2_1) n) (blkOf (transpose S2x192x2048 [0, 2, 1] C transposes_S2x2048x192_S2x192x2048_0_2_1) n)
        (blkOf (transpose S2x192x2048 [0, 2, 1] I transposes_S2x2048x192_S2x192x2048_0_2_1) n) c d j.val
      = tapV X A C I b ⟨256 * i.val + r.val, by omega⟩ h k j := by
  have hr := r.isLt
  have h1 := hI b ⟨256 * i.val + r.val, by omega⟩ h j
  have h2 := hR b ⟨256 * i.val + r.val, by omega⟩ h j
  unfold tap
  rw [blk_apply A b h i r j _ _ hn hc, blk_apply C b h i r j _ _ hn hc, blk_apply I b h i r j _ _ hn hc]
  rw [win_apply X b h i _ _ ((I (ix3 b ⟨256 * i.val + r.val, by omega⟩ (tcol h j))).toNat / 64) k hn (by omega) (by omega),
    win_apply X b h i _ _ ((I (ix3 b ⟨256 * i.val + r.val, by omega⟩ (tcol h j))).toNat / 64 + 1) k hn (by omega) (by omega)]
  have e : 256 * i.val + (I (ix3 b ⟨256 * i.val + r.val, by omega⟩ (tcol h j))).toNat / 64 = rowN I b ⟨256 * i.val + r.val, by omega⟩ h j := by
    show _ = 256 * ((256 * i.val + r.val) / 256) + _
    omega
  rw [← Nat.add_assoc, e]
  exact congrArg₂ (· + ·) (mul_comm (G := EReal) _ _) (mul_comm (G := EReal) _ _)

theorem outAll_apply (X : S2x12x2240x64.Idx → EReal) (A C : S2x2048x192.Idx → EReal) (I : IVec S2x2048x192 32) (hI : Room I) (hR : Rows I)
    (b : Fin 2) (h : Fin 12) (i : Fin 8) (k : Fin 64) (r : Fin 256) :
    outAll (F := Ideal) (shapeCast S2x12x143360 X shapeCasts_S2x12x2240x64_S2x12x143360)
        (transpose S2x192x2048 [0, 2, 1] A transposes_S2x2048x192_S2x192x2048_0_2_1) (transpose S2x192x2048 [0, 2, 1] C transposes_S2x2048x192_S2x192x2048_0_2_1)
        (transpose S2x192x2048 [0, 2, 1] I transposes_S2x2048x192_S2x192x2048_0_2_1) (ix4 b h i ⟨256 * k.val + r.val, by omega⟩)
      = ∑ j : Fin 9, tapV X A C I b ⟨256 * i.val + r.val, by omega⟩ h k j :=
  tree9_eq _ _ fun j => tap_apply X A C I hI hR b h i k r j _ _ _ rfl
    (by show (256 * k.val + r.val) % 256 = r.val; omega) (by show (256 * k.val + r.val) / 256 = k.val; omega)

/-! ## The run's result -/

section

variable (m : (ℓ : Loc nD τ sig) → Buf (Elt Ideal) ℓ)

abbrev aX (d : Dev nD) : S2x2048x768.Idx → EReal := m ((d : Thread nD τ).loc main_arg0)
abbrev aA (d : Dev nD) : S2x2048x192.Idx → EReal := m ((d : Thread nD τ).loc main_arg1)
abbrev aC (d : Dev nD) : S2x2048x192.Idx → EReal := m ((d : Thread nD τ).loc main_arg2)
abbrev aI (d : Dev nD) : IVec S2x2048x192 32 := m ((d : Thread nD τ).loc main_arg3)
abbrev aW (d : Dev nD) : S768x768.Idx → EReal := m ((d : Thread nD τ).loc main_arg4)

theorem vA_eq (d : Dev nD) : vA m d = transpose S2x192x2048 [0, 2, 1] (aA m d) transposes_S2x2048x192_S2x192x2048_0_2_1 := by
  show after preOps _ (Proc.devRef .tc main_v0) = _
  simp only [preOps, StableHlo.TRef.unary, StableHlo.TRef.binary, StableHlo.TRef.toBuf, StableHlo.TRef.ofBuf, cast_eq]
  after_results_simp <;> rfl

theorem vC_eq (d : Dev nD) : vC m d = transpose S2x192x2048 [0, 2, 1] (aC m d) transposes_S2x2048x192_S2x192x2048_0_2_1 := by
  show after preOps _ (Proc.devRef .tc main_v1) = _
  simp only [preOps, StableHlo.TRef.unary, StableHlo.TRef.binary, StableHlo.TRef.toBuf, StableHlo.TRef.ofBuf, cast_eq]
  after_results_simp <;> rfl

theorem vX_eq (d : Dev nD) : vX m d = shapeCast S2x12x143360 (Ref.heads (aX m d)) shapeCasts_S2x12x2240x64_S2x12x143360 := by
  show after preOps _ (Proc.devRef .tc main_v6) = _
  simp only [preOps, StableHlo.TRef.unary, StableHlo.TRef.binary, StableHlo.TRef.toBuf, StableHlo.TRef.ofBuf, cast_eq]
  after_results_simp <;> rfl

theorem hd_eq (d : Dev nD) : hd (V3 m) d = shapeCast S2x12x8x64x256 (outAll (F := Ideal) (vX m d) (vA m d) (vC m d) (vI m d)) shapeCasts_S2x12x8x16384_S2x12x8x64x256 := by
  show after postOps _ (Proc.devRef .tc main_v8) = _
  simp only [postOps]
  after_results_simp
  show shapeCast _ (W2 m d (dr main_v7)) _ = _
  unfold W2
  rw [Function.update_self]
  rfl

theorem wt_eq (d : Dev nD) : wt (V3 m) d = transpose S768x768 [1, 0] (aW m d) transposes_S768x768_S768x768_1_0 := by
  have h4 : W1 m d (dr main_arg4) = m (d, dr main_arg4) := by
    show after preOps _ (Proc.devRef .tc main_arg4) = _
    simp only [preOps, StableHlo.TRef.unary, StableHlo.TRef.binary, StableHlo.TRef.toBuf, StableHlo.TRef.ofBuf, cast_eq]
    after_results_simp
  have h2 : W2 m d (dr main_arg4) = m (d, dr main_arg4) := (Function.update_of_ne (by decide) _ _).trans h4
  show after postOps _ (Proc.devRef .tc main_v9) = _
  simp only [postOps]
  after_results_simp
  show transpose _ _ (W2 m d (dr main_arg4)) _ = _
  rw [h2]

theorem wt_apply (d : Dev nD) (k o : Fin 768) : wt (V3 m) d (ix2 k o) = aW m d (ix2 o k) := by
  rw [wt_eq]
  refine transpose_apply _ _ _ _ _ fun a => ?_
  match a with
  | ⟨0, _⟩ => rfl
  | ⟨1, _⟩ => rfl

theorem hd_apply (d : Dev nD) (hI : Room (aI m d)) (hR : Rows (aI m d)) (b : Fin 2) (h : Fin 12) (i : Fin 8) (k : Fin 64) (r : Fin 256) :
    hd (V3 m) d (ix5 b h i k r) = ∑ j : Fin 9, tapV (Ref.heads (aX m d)) (aA m d) (aC m d) (aI m d) b ⟨256 * i.val + r.val, by omega⟩ h k j := by
  rw [hd_eq, vX_eq, vA_eq, vC_eq, vI_eq]
  refine (shapeCast_apply _ _ _ (ix4 b h i ⟨256 * k.val + r.val, by omega⟩) ?_).trans (outAll_apply _ _ _ _ hI hR b h i k r)
  rw [Shape.rowMajor_val_four, Shape.rowMajor_val_five]
  show ((b.val * 12 + h.val) * 8 + i.val) * 16384 + (256 * k.val + r.val) = (((b.val * 12 + h.val) * 8 + i.val) * 64 + k.val) * 256 + r.val
  omega

/-- Each entry of the result is the closed form. -/
theorem out_apply (d : Dev nD) (hI : Room (aI m d)) (hR : Rows (aI m d)) (b : Fin 2) (l : Fin 2048) (o : Fin 768) :
    (show S2x2048x768.Idx → EReal from V4 m d main_v10) (ix3 b l o) = entry (Ref.heads (aX m d)) (aA m d) (aC m d) (aI m d) (aW m d) b l o := by
  have e : V4 m d main_v10 = prodAll (V3 m) d := (Function.update_self _ _ _).trans (arr_eq (V3 m) d)
  refine (congrFun e (ix3 b l o)).trans (?_ : prodAll (V3 m) d (ix3 b l o) = _)
  unfold prodAll entry
  refine Finset.sum_congr rfl fun h _ => ?_
  unfold share
  refine Finset.sum_congr rfl fun k _ => ?_
  have hl : (⟨256 * (l.val / 256) + l.val % 256, by omega⟩ : Fin 2048) = l := Fin.ext (by show 256 * (l.val / 256) + l.val % 256 = l.val; omega)
  rw [wt_apply]
  refine congrArg (· * _) ((hd_apply m d hI hR _ h _ k _).trans ?_)
  exact Finset.sum_congr rfl fun j _ => congrArg (fun l => tapV _ _ _ _ b l h k j) hl

end

theorem algebraic : Cert.algebraic_MixIdeal_MixRefIdeal := by
  intro m g m' g' hpre hargs
  have hI (c : Dev nD) : Room (aI m c) := fun b l h j => (Pre.word _ _ _ _ _ (hpre c) b l h.val j.val h.isLt j.isLt).1
  have hR (c : Dev nD) : Rows (aI m c) := fun b l h j => (Pre.word _ _ _ _ _ (hpre c) b l h.val j.val h.isLt j.isLt).2
  refine ⟨fun c => V4 m c main_v10, (θ_run Cert.MixIdeal.defs _ _).mono (fun _ e c =>
      ⟨e.1 c main_v10 (by decide), (e.1 c main_arg0 (by decide)).trans (kept m c _ (by decide)), (e.1 c main_arg1 (by decide)).trans (kept m c _ (by decide)),
        (e.1 c main_arg2 (by decide)).trans (kept m c _ (by decide)), (e.1 c main_arg3 (by decide)).trans (kept m c _ (by decide)),
        (e.1 c main_arg4 (by decide)).trans (kept m c _ (by decide))⟩)
      (run_main m g fun d => inAll m d (hpre d)), ?_⟩
  refine (θ_run Cert.MixRefIdeal.defs _ _).mono (fun r h c => ⟨(h c).1.trans ?_, (h c).2⟩) (Cert.MixRefIdeal.Value.run (F := Ideal) m' g')
  rw [Ref.res_eq, (hargs c).1, (hargs c).2.1, (hargs c).2.2.1, (hargs c).2.2.2.1, (hargs c).2.2.2.2]
  funext z
  obtain ⟨b, l, o, rfl⟩ : ∃ (b : Fin 2) (l : Fin 2048) (o : Fin 768), z = ix3 b l o := ⟨z 0, z 1, z 2, funext fun a => by
    match a with
    | ⟨0, _⟩ => rfl
    | ⟨1, _⟩ => rfl
    | ⟨2, _⟩ => rfl⟩
  exact (Ref.result_apply _ _ _ _ _ (hI c) b l o).trans (out_apply m c (hI c) (hR c) b l o).symm

end Cert.Proof.Mix

end
-- ==== Proof.Cols.lean ====
/- The 192 columns the first call stores, as one function of the column's number: nine taps a head, the other seven zero. -/
module

public import proofs.«01_k».proof.Proof.Gen.WeightsIdeal.Frame

@[expose] public section

set_option maxRecDepth 16384

noncomputable section

namespace Cert.Proof.Cols

open Cert.WeightsIdeal Cert.WeightsIdeal.Gen
open Idealize.ShloMosaic Idealize.ShloMosaic.TcCoe

variable {F : FTy → Type} [FloatOps F]

/-- A column of 256 equal numbers, given by their bits. -/
def same (b : BitVec 32) : FVec F S256x1 .f32 := broadcast S256x1 (Scalar.ofBits (F := F) .f32 b)

/-- The taps' strides: minus four to four. -/
def strideBits (j : Nat) : BitVec 32 :=
  match j with
  | 0 => 0xC0800000#32
  | 1 => 0xC0400000#32
  | 2 => 0xC0000000#32
  | 3 => 0xBF800000#32
  | 4 => 0x00000000#32
  | 5 => 0x3F800000#32
  | 6 => 0x40000000#32
  | 7 => 0x40400000#32
  | _ => 0x40800000#32

/-! ## One tap's column from its head's columns: centers `c`, frequency `f`, phase `p`, exponent `e`, table `k` -/

section

variable (s : BitVec 32) (c f p e : FVec F S256x1 .f32) (n : IVec S256x32 32) (k : FVec F S256x32 .f32)

def rel : FVec F S256x1 .f32 := mulf (same s) f

def spot : FVec F S256x1 .f32 := addf (addf c (rel s f)) p

def valid : FVec F S256x1 .f32 :=
  sitofp .f32 (extui 32 (andi (cmpf .oge (spot s c f p) (same 0x00000000#32)) (cmpf .olt (spot s c f p) (same 0x45000000#32))) natLt_1_32)

def clipped : FVec F S256x1 .f32 := minimumf (same 0x44FFDFF8#32) (maximumf (same 0x00000000#32) (spot s c f p))

def below : IVec S256x1 32 :=
  minsi (broadcast S256x1 2047#32) (maxsi (broadcast S256x1 0#32) (fptosi 32 (floor (clipped s c f p))))

def frac : FVec F S256x1 .f32 := subf (clipped s c f p) (sitofp .f32 (below s c f p))

def decay : FVec F S256x1 .f32 :=
  exp (mulf (subf (same 0x00000000#32) e) (log1p (divf (absf (rel s f)) (same 0x45000000#32))))

def slot : FVec F S256x1 .f32 :=
  mulf (minimumf (same 0x3F800000#32) (maximumf (same 0x00000000#32) (divf (absf (rel s f)) (same 0x42800000#32)))) (same 0x41F80000#32)

def slotI : IVec S256x1 32 :=
  minsi (broadcast S256x1 30#32) (maxsi (broadcast S256x1 0#32) (fptosi 32 (slot s f)))

def slotR : FVec F S256x1 .f32 := subf (slot s f) (sitofp .f32 (slotI s f))

/-- The table's entry at a column of places, as a sum with one term that is not zero. -/
def pick (i : IVec S256x1 32) : FVec F S256x1 .f32 :=
  shapeCast S256x1 (multiReduction .add [1] S256
    (select (cmpi .eq n (broadcastTo S256x32 i broadcasts_S256x1_S256x32)) k (broadcast S256x32 (Scalar.ofBits (F := F) .f32 0x00000000#32)))
    0x00000000#32 reduces_S256x32_S256 (.inl rfl) rfl) shapeCasts_S256_S256x1

def tap : FVec F S256x1 .f32 :=
  mulf (mulf (addf (mulf (pick n k (slotI s f)) (subf (same 0x3F800000#32) (slotR s f)))
    (mulf (pick n k (addi (slotI s f) (broadcast S256x1 1#32))) (slotR s f))) (decay s f e)) (valid s c f p)

def lower : FVec F S256x1 .f32 := mulf (tap s c f p e n k) (subf (same 0x3F800000#32) (frac s c f p))

def upper : FVec F S256x1 .f32 := mulf (tap s c f p e n k) (frac s c f p)

def offset (o : BitVec 32) : IVec S256x1 32 :=
  muli (subi (below s c f p) (broadcast S256x1 (Scalar.subi o 96#32))) (broadcast S256x1 64#32)

end

/-! ## Every column -/

section

variable (c e : FVec F S256x1 .f32) (f p : FVec F S256x12 .f32) (k : FVec F S256x384 .f32) (n : IVec S256x32 32) (o : BitVec 32)

theorem slice12 (h : Fin 12) : S256x12.Slices ![0, h.val] S256x1 := by revert h; decide

theorem slice384 (h : Fin 12) : S256x384.Slices ![0, 32 * h.val] S256x32 := by revert h; decide

/-- A column's head. -/
def hd (m : Nat) : Fin 12 := ⟨m / 16 % 12, Nat.mod_lt _ (by decide)⟩

def one (h : Fin 12) (x : FVec F S256x12 .f32) : FVec F S256x1 .f32 := extractStridedSlice S256x1 ![0, h.val] x (slice12 h)

def table (h : Fin 12) (x : FVec F S256x384 .f32) : FVec F S256x32 .f32 := extractStridedSlice S256x32 ![0, 32 * h.val] x (slice384 h)

def lowerAt (m : Nat) : FVec F S256x1 .f32 :=
  if m % 16 < 9 then lower (strideBits (m % 16)) c (one (hd m) f) (one (hd m) p) e n (table (hd m) k) else same 0x00000000#32

def upperAt (m : Nat) : FVec F S256x1 .f32 :=
  if m % 16 < 9 then upper (strideBits (m % 16)) c (one (hd m) f) (one (hd m) p) e n (table (hd m) k) else same 0x00000000#32

def offsetAt (m : Nat) : IVec S256x1 32 :=
  if m % 16 < 9 then offset (strideBits (m % 16)) c (one (hd m) f) (one (hd m) p) o else broadcast S256x1 0#32

end

theorem fits : Shape.Concatenates ((List.ofFn fun _ : Fin 192 => S256x1)) S256x192 1 := by decide

/-- Columns side by side. -/
def side {α : Type} (g : Nat → S256x1.Idx → α) : S256x192.Idx → α :=
  concatenate S256x192 1 (List.ofFn fun m : Fin 192 => (⟨S256x1, g m.val⟩ : (s : Shape) × (s.Idx → α))) (by rw [List.map_ofFn]; exact fits)

section

variable (i : grid0.Coords) (x0 : Vec F S1x256x768 .f32) (x1 : Vec F S768x128 .f32) (x2 : Vec F S128 .f32) (x3 : Vec F S128 .f32) (x4 : Vec F S768x384 .f32) (x5 : Vec F S384 .f32) (x6 : Vec F S384 .f32) (x7 : Vec F S768x128 .f32) (x8 : Vec F S128 .f32) (x9 : Vec F S128 .f32)

/-! ## What the body leaves in the three output blocks -/

abbrev ctrOf := k0_pay1828 i x0 x1 x2 x3 x4 x5 x6 x7 x8 x9
abbrev expOf := k0_pay1826 i x0 x1 x2 x3 x4 x5 x6 x7 x8 x9
abbrev freqOf := k0_pay1822 i x0 x1 x2 x3 x4 x5 x6 x7 x8 x9
abbrev phaseOf := k0_pay1823 i x0 x1 x2 x3 x4 x5 x6 x7 x8 x9
abbrev tableOf := k0_pay1825 i x0 x1 x2 x3 x4 x5 x6 x7 x8 x9
abbrev lanes := k0_pay1827 i x0 x1 x2 x3 x4 x5 x6 x7 x8 x9

theorem out10 : out0_10 i x0 x1 x2 x3 x4 x5 x6 x7 x8 x9 = View.canon [⟨r0_5, k0_pay1 (side (lowerAt (ctrOf i x0 x1 x2 x3 x4 x5 x6 x7 x8 x9) (expOf i x0 x1 x2 x3 x4 x5 x6 x7 x8 x9) (freqOf i x0 x1 x2 x3 x4 x5 x6 x7 x8 x9) (phaseOf i x0 x1 x2 x3 x4 x5 x6 x7 x8 x9) (tableOf i x0 x1 x2 x3 x4 x5 x6 x7 x8 x9) (lanes i x0 x1 x2 x3 x4 x5 x6 x7 x8 x9)))⟩] := by
  with_unfolding_all rfl

theorem out11 : out0_11 i x0 x1 x2 x3 x4 x5 x6 x7 x8 x9 = View.canon [⟨r0_5, k0_pay1 (side (upperAt (ctrOf i x0 x1 x2 x3 x4 x5 x6 x7 x8 x9) (expOf i x0 x1 x2 x3 x4 x5 x6 x7 x8 x9) (freqOf i x0 x1 x2 x3 x4 x5 x6 x7 x8 x9) (phaseOf i x0 x1 x2 x3 x4 x5 x6 x7 x8 x9) (tableOf i x0 x1 x2 x3 x4 x5 x6 x7 x8 x9) (lanes i x0 x1 x2 x3 x4 x5 x6 x7 x8 x9)))⟩] := by
  with_unfolding_all rfl

theorem out12 : out0_12 i x0 x1 x2 x3 x4 x5 x6 x7 x8 x9 = View.canon [⟨r0_5, k0_pay2 (side (offsetAt (ctrOf i x0 x1 x2 x3 x4 x5 x6 x7 x8 x9) (freqOf i x0 x1 x2 x3 x4 x5 x6 x7 x8 x9) (phaseOf i x0 x1 x2 x3 x4 x5 x6 x7 x8 x9) (Scalar.muli (BitVec.ofNat 32 (i 1).val) 256#32)))⟩] := by
  with_unfolding_all rfl

end

end Cert.Proof.Cols

end
-- ==== Proof.WSpec.lean ====
/- The mixing weights and row offsets of one tap at one place, as plain formulas over the extended reals, and the identities
   between the two ways of writing them. -/
module

public import proofs.«01_k».proof.Defs
public import Idealize.ShloMosaic.Lib.IdealHost
public import Idealize.ShloMosaic.Lib.WordCmp
public import proofs.«01_k».proof.Proof.Pre

@[expose] public section

set_option maxRecDepth 16384

noncomputable section

namespace Cert.Proof.Wt

open Idealize.ShloMosaic

/-- A constant of either program. -/
abbrev K (b : BitVec 32) : EReal := Ideal.ofBits .f32 b

/-! ## The projections of one row -/

def lin (x w : Fin 768 → EReal) (b : EReal) : EReal := (∑ k, x k * w k) + b

/-- A value divided by the root of a mean of squares and scaled. -/
def nrm (g v q : EReal) : EReal := g * (v * Ideal.rsqrt (q + K 0x358637BD#32))

def silu (y : EReal) : EReal := y * Ideal.logistic y

/-- A normalized projection, one of its `n` outputs; `c` is `n` as a constant. -/
def proj {n : Nat} (x : Fin 768 → EReal) (W : Fin n → Fin 768 → EReal) (b g : Fin n → EReal) (c : EReal) (o : Fin n) : EReal :=
  silu (nrm (g o) (lin x (W o) (b o)) (Ideal.div (∑ q, lin x (W q) (b q) * lin x (W q) (b q)) c))

def freqS (y : EReal) : EReal := Ideal.logistic y * K 0x41700000#32 + K 0x3F800000#32

def phaseS (y : EReal) : EReal := Ideal.tanh y * K 0x41800000#32

def expS (g v : EReal) : EReal := Ideal.logistic (nrm g v (v * v)) * K 0x40600000#32 + K 0x3F000000#32

/-! ## One tap -/

section

variable (s f p e : EReal) (n : BitVec 32) (k : Fin 32 → EReal)

def spotS : EReal := ((n.toInt : ℝ) : EReal) + s * f + p

def validB (x : EReal) : BitVec 1 := IntOp.andi (Ideal.cmp .oge x (K 0x00000000#32)) (Ideal.cmp .olt x (K 0x45000000#32))

def clipS (x : EReal) : EReal := min (K 0x44FFDFF8#32) (max (K 0x00000000#32) x)

def belowS (x : EReal) : BitVec 32 := IntOp.minsi 2047#32 (IntOp.maxsi 0#32 (Ideal.fptosi 32 (Ideal.liftRound Int.floor (clipS x))))

def fracS (x : EReal) : EReal := clipS x - (((belowS x).toInt : ℝ) : EReal)

def sizeS : EReal := max (s * f) (-(s * f))

def slotS : EReal := min (K 0x3F800000#32) (max (K 0x00000000#32) (Ideal.div (sizeS s f) (K 0x42800000#32))) * K 0x41F80000#32

def slotW : BitVec 32 := IntOp.minsi 30#32 (IntOp.maxsi 0#32 (Ideal.fptosi 32 (slotS s f)))

def slotF : EReal := slotS s f - (((slotW s f).toInt : ℝ) : EReal)

def pickS (w : BitVec 32) : EReal := k ⟨w.toNat % 32, Nat.mod_lt _ (by norm_num)⟩

def decayS : EReal := Ideal.div (K 0x3F800000#32) (Ideal.pow (K 0x3F800000#32 + Ideal.div (sizeS s f) (K 0x45000000#32)) e)

def tapS : EReal :=
  (pickS k (slotW s f) * (K 0x3F800000#32 - slotF s f) + pickS k (slotW s f + 1#32) * slotF s f) * decayS s f e
    * (((validB (spotS s f p n)).toNat : ℝ) : EReal)

def lowerS : EReal := tapS s f p e n k * (K 0x3F800000#32 - fracS (spotS s f p n))

def upperS : EReal := tapS s f p e n k * fracS (spotS s f p n)

/-- The row offset, counted from row `w`, in words. -/
def offsetS (w : BitVec 32) : BitVec 32 := (belowS (spotS s f p n) - w) * 64#32

end

/-! ## Constants -/

theorem K_zero : K 0x00000000#32 = 0 := Ideal.ofBits_zero_f32
theorem K_one : K 0x3F800000#32 = ((1 : ℝ) : EReal) := Ideal.ofBits_one_f32
theorem K_2048 : K 0x45000000#32 = ((2048 : ℝ) : EReal) := by simp [K, Ideal.ofBits, Ideal.ieee, -EReal.coe_mul]; norm_num
theorem K_15 : K 0x41700000#32 = ((15 : ℝ) : EReal) := by simp [K, Ideal.ofBits, Ideal.ieee, -EReal.coe_mul]; norm_num
theorem K_35 : K 0x40600000#32 = ((3.5 : ℝ) : EReal) := by simp [K, Ideal.ofBits, Ideal.ieee, -EReal.coe_mul]; norm_num
theorem K_05 : K 0x3F000000#32 = ((0.5 : ℝ) : EReal) := by simp [K, Ideal.ofBits, Ideal.ieee, -EReal.coe_mul]; norm_num

/-! ## Finite values -/

theorem logistic_real (y : EReal) : ∃ r : ℝ, Ideal.logistic y = (r : EReal) := by
  induction y with
  | bot => exact ⟨0, Ideal.logistic_bot⟩
  | top => exact ⟨1, Ideal.logistic_top⟩
  | coe r => exact ⟨_, Ideal.logistic_coe r⟩

theorem freq_real (y : EReal) : ∃ r : ℝ, freqS y = (r : EReal) := by
  obtain ⟨r, hr⟩ := logistic_real y
  exact ⟨r * 15 + 1, by rw [freqS, hr, K_15, K_one, EReal.coe_add, EReal.coe_mul]⟩

theorem exp_real (g v : EReal) : ∃ r : ℝ, expS g v = (r : EReal) := by
  obtain ⟨r, hr⟩ := logistic_real (nrm g v (v * v))
  exact ⟨r * 3.5 + 0.5, by rw [expS, hr, K_35, K_05, EReal.coe_add, EReal.coe_mul]⟩

/-! ## The decay: a power, or an exponential of a logarithm -/

theorem decay_eq (s f e : ℝ) :
    Ideal.exp ((K 0x00000000#32 - (e : EReal)) * Ideal.log1p (Ideal.div (sizeS s f) (K 0x45000000#32))) = decayS s f e := by
  have ha : sizeS (s : EReal) f = ((|s * f| : ℝ) : EReal) := by
    unfold sizeS
    rw [← EReal.coe_mul, ← EReal.coe_neg, abs, ← EReal.coe_strictMono.monotone.map_max]
  have hd : Ideal.div (sizeS (s : EReal) f) (K 0x45000000#32) = ((|s * f| / 2048 : ℝ) : EReal) := by
    rw [ha, K_2048, Ideal.div_coe (by norm_num), ← EReal.coe_mul]
    congr 1; ring
  have ht : 0 < 1 + |s * f| / 2048 := by positivity
  unfold decayS Ideal.log1p
  rw [hd, K_zero, K_one, ← EReal.coe_add, Ideal.pow_coe_coe, show (1 : EReal) = ((1 : ℝ) : EReal) from rfl, ← EReal.coe_add, Ideal.log_coe, if_neg (not_le.2 ht),
    show (0 : EReal) = ((0 : ℝ) : EReal) from rfl, ← EReal.coe_sub, ← EReal.coe_mul, Ideal.exp_coe]
  have hp : 0 < Real.rpow (1 + |s * f| / 2048) e := Real.rpow_pos_of_pos ht e
  rw [Ideal.div_coe hp.ne', ← EReal.coe_mul, one_mul]
  congr 1
  show _ = 1 / ((1 + |s * f| / 2048) ^ e)
  rw [one_div, ← Real.rpow_neg ht.le, Real.rpow_def_of_pos ht]
  congr 1; ring

/-! ## The place in the table -/

theorem clamp_word (x : BitVec 32) : (IntOp.minsi 30#32 (IntOp.maxsi 0#32 x)).toNat ≤ 30 := by
  have h : (IntOp.maxsi 0#32 x).toNat < 2 ^ 31 := by
    unfold IntOp.maxsi
    split
    · decide
    · next h =>
      rw [BitVec.slt_iff_toInt_lt, BitVec.toInt_eq_toNat_cond] at h
      have := x.isLt
      split at h
      · omega
      · simp at h; omega
  generalize IntOp.maxsi 0#32 x = y at h ⊢
  unfold IntOp.minsi
  split
  · decide
  · next h' =>
    rw [BitVec.slt_iff_toInt_lt, WordCmp.toInt_eq_toNat_of_lt_half (x := y) (by omega)] at h'
    have : (30#32).toInt = 30 := by decide
    rw [this] at h'
    omega

theorem slotW_le (s f : EReal) : (slotW s f).toNat ≤ 30 := clamp_word _

theorem slotW_succ (s f : EReal) : (slotW s f + 1#32).toNat = (slotW s f).toNat + 1 := by
  have := slotW_le s f
  rw [BitVec.toNat_add]
  show ((slotW s f).toNat + 1) % 2 ^ 32 = _
  omega

/-- The table's entry as a sum with one term that is not zero. -/
theorem pick_sum (k : Fin 32 → EReal) (w : BitVec 32) (hw : w.toNat < 32) :
    (∑ j : Fin 32, Scalar.select (IntOp.cmpi .eq (BitVec.ofNat 32 j.val) w) (k j) (K 0x00000000#32)) = pickS k w := by
  have e : ∀ j : Fin 32, Scalar.select (IntOp.cmpi .eq (BitVec.ofNat 32 j.val) w) (k j) (K 0x00000000#32)
      = if j = (⟨w.toNat % 32, Nat.mod_lt _ (by norm_num)⟩ : Fin 32) then k j else 0 := by
    intro j
    rw [K_zero, WordCmp.cmpi_eq_eq_toNat, WordCmp.select_ofBool]
    have hj : (BitVec.ofNat 32 j.val).toNat = j.val := by rw [BitVec.toNat_ofNat]; exact Nat.mod_eq_of_lt (by have := j.isLt; omega)
    rw [hj]
    by_cases h : j.val = w.toNat
    · rw [if_pos (by simpa using h), if_pos (Fin.ext (by show j.val = w.toNat % 32; omega))]
    · rw [if_neg (by simpa using h), if_neg (fun q => h (by have := congrArg Fin.val q; change j.val = w.toNat % 32 at this; omega))]
  rw [Finset.sum_congr rfl fun j _ => e j, Finset.sum_ite_eq' Finset.univ _ k, if_pos (Finset.mem_univ _)]
  rfl

/-! ## The rest -/

theorem bit_toInt (b : BitVec 1) : ((b.setWidth 32).toInt : ℝ) = (b.toNat : ℝ) := by
  have h : ∀ b : BitVec 1, (b.setWidth 32).toInt = (b.toNat : Int) := by decide
  rw [h b]; norm_cast

/-- The exponent's norm is over one output. -/
theorem one_mean (v : EReal) : Ideal.div (∑ _q : Fin 1, v) (K 0x3F800000#32) = v := by
  rw [K_one, Ideal.div_coe one_ne_zero, Fin.sum_univ_one]
  norm_num

/-- The first row of a place's window, however counted. -/
theorem first_eq (i : Fin 8) (r : Fin 256) :
    IntOp.subi (IntOp.muli (Pre.floorW (BitVec.ofNat 32 (256 * i.val + r.val)) 256#32) 256#32) 96#32 = IntOp.subi (IntOp.muli (BitVec.ofNat 32 i.val) 256#32) 96#32 := by
  have hi := i.isLt
  have hr := r.isLt
  have hl : (BitVec.ofNat 32 (256 * i.val + r.val)).toNat = 256 * i.val + r.val := by rw [BitVec.toNat_ofNat]; exact Nat.mod_eq_of_lt (by omega)
  have e : Pre.floorW (BitVec.ofNat 32 (256 * i.val + r.val)) 256#32 = BitVec.ofNat 32 i.val := by
    apply BitVec.eq_of_toNat_eq
    have h2 : (BitVec.ofNat 32 i.val).toNat = i.val := by rw [BitVec.toNat_ofNat]; exact Nat.mod_eq_of_lt (by omega)
    rw [Pre.floorW_eq (by unfold Pre.Pos; omega) (by unfold Pre.Pos; decide) (by decide), hl, h2]
    show (256 * i.val + r.val) / 256 = i.val
    omega
  rw [e]

/-! ## The whole results, entry by entry -/

open Idealize.ShloMosaic.ValueIdx

/-- The ten arguments. -/
structure Args where
  x : (⟨3, ![2, 2048, 768]⟩ : Shape).Idx → EReal
  ww : (⟨2, ![24, 768]⟩ : Shape).Idx → EReal
  bw : (⟨1, ![24]⟩ : Shape).Idx → EReal
  gw : (⟨1, ![24]⟩ : Shape).Idx → EReal
  wk : (⟨2, ![384, 768]⟩ : Shape).Idx → EReal
  bk : (⟨1, ![384]⟩ : Shape).Idx → EReal
  gk : (⟨1, ![384]⟩ : Shape).Idx → EReal
  we : (⟨2, ![1, 768]⟩ : Shape).Idx → EReal
  be : (⟨1, ![1]⟩ : Shape).Idx → EReal
  ge : (⟨1, ![1]⟩ : Shape).Idx → EReal

namespace Args

variable (A : Args) (b : Fin 2) (l : Fin 2048)

def row (k : Fin 768) : EReal := A.x (ix3 b l k)

def wave (o : Fin 24) : EReal := proj (A.row b l) (fun o k => A.ww (ix2 o k)) (fun o => A.bw (ix1 o)) (fun o => A.gw (ix1 o)) (K 0x41C00000#32) o

def kern (o : Fin 384) : EReal := proj (A.row b l) (fun o k => A.wk (ix2 o k)) (fun o => A.bk (ix1 o)) (fun o => A.gk (ix1 o)) (K 0x43C00000#32) o

def freq (h : Fin 12) : EReal := freqS (A.wave b l ⟨h.val, by have := h.isLt; omega⟩)

def phase (h : Fin 12) : EReal := phaseS (A.wave b l ⟨12 + h.val, by have := h.isLt; omega⟩)

def expo : EReal := expS (A.ge (ix1 0)) (lin (A.row b l) (fun k => A.we (ix2 0 k)) (A.be (ix1 0)))

def table (h : Fin 12) (q : Fin 32) : EReal := A.kern b l ⟨32 * h.val + q.val, by have := h.isLt; have := q.isLt; omega⟩

end Args

/-- The taps' strides, minus four to four. -/
def strideS (j : Nat) : EReal := K 0xC0800000#32 + (((j : ℝ)) : EReal)

/-- A column's head. -/
def headOf (m : Nat) : Fin 12 := ⟨m / 16 % 12, Nat.mod_lt _ (by decide)⟩

def place (l : Fin 2048) : BitVec 32 := BitVec.ofNat 32 l.val

/-- The first row of a place's window. -/
def firstRow (l : Fin 2048) : BitVec 32 := IntOp.subi (IntOp.muli (BitVec.ofNat 32 (l.val / 256)) 256#32) 96#32

def lowerE (A : Args) (b : Fin 2) (l : Fin 2048) (h : Fin 12) (j : Nat) : EReal :=
  lowerS (strideS j) (A.freq b l h) (A.phase b l h) (A.expo b l) (place l) (A.table b l h)

def upperE (A : Args) (b : Fin 2) (l : Fin 2048) (h : Fin 12) (j : Nat) : EReal :=
  upperS (strideS j) (A.freq b l h) (A.phase b l h) (A.expo b l) (place l) (A.table b l h)

def offsetE (A : Args) (b : Fin 2) (l : Fin 2048) (h : Fin 12) (j : Nat) : BitVec 32 :=
  offsetS (strideS j) (A.freq b l h) (A.phase b l h) (place l) (firstRow l)

/-- The three results, at batch, place and column: nine taps a head, then seven zeros. -/
def lowerZ (A : Args) (z : (⟨3, ![2, 2048, 192]⟩ : Shape).Idx) : EReal :=
  if (z 2).val % 16 < 9 then lowerE A (z 0) (z 1) (headOf (z 2).val) ((z 2).val % 16) else 0

def upperZ (A : Args) (z : (⟨3, ![2, 2048, 192]⟩ : Shape).Idx) : EReal :=
  if (z 2).val % 16 < 9 then upperE A (z 0) (z 1) (headOf (z 2).val) ((z 2).val % 16) else 0

def offsetZ (A : Args) (z : (⟨3, ![2, 2048, 192]⟩ : Shape).Idx) : BitVec 32 :=
  if (z 2).val % 16 < 9 then offsetE A (z 0) (z 1) (headOf (z 2).val) ((z 2).val % 16) else 0#32

theorem K_m4 : K 0xC0800000#32 = ((-4 : ℝ) : EReal) := by simp [K, Ideal.ofBits, Ideal.ieee, -EReal.coe_mul, -EReal.coe_neg]; norm_num

theorem strideS_eq (j : Nat) : strideS j = (((j : ℝ) - 4 : ℝ) : EReal) := by
  rw [strideS, K_m4, ← EReal.coe_add]; congr 1; ring

end Cert.Proof.Wt

end
-- ==== Proof.WCols.lean ====
/- The first call's columns and blocks read at one place. -/
module

public import proofs.«01_k».proof.Proof.Cols
public import proofs.«01_k».proof.Proof.WSpec
public import Idealize.ShloMosaic.Lib.MatmulPlain
public import Idealize.ShloMosaic.Lib.ValueLayout
public import Idealize.ShloMosaic.Lib.Pipeline.ValueKit.Geometry

@[expose] public section

set_option maxRecDepth 16384

noncomputable section

namespace Cert.Proof.Wt

open Cert.WeightsIdeal Cert.WeightsIdeal.Gen
open Idealize.ShloMosaic
open Idealize.ShloMosaic.TcCoe
open Idealize.ShloMosaic.ValueIdx

/-! ## Rows and columns of a 256-row block -/

/-- A sum over a row, as a column. -/
theorem rowSum_apply {n : Nat} (x : FVec Ideal ⟨2, ![256, n]⟩ .f32) (h : (⟨2, ![256, n]⟩ : Shape).Reduces [1] S256) (hs : S256.ShapeCasts S256x1)
    (hφ : FKind.Formats .f32) (hacc : (0x00000000#32 : BitVec 32) = FKind.add.neutral .f32 hφ) (r : Fin 256) :
    shapeCast S256x1 (multiReduction .add [1] S256 x 0x00000000#32 h hφ hacc) hs (ix2 r (0 : Fin 1)) = ∑ j : Fin n, x (ix2 r j) := by
  refine (shapeCast_apply _ hs _ (ix1 r) ?_).trans ?_
  · rw [Shape.rowMajor_val_two, Shape.rowMajor_val_one]; simp [ix1, ix2]
  · refine (Ideal.multiReduction_add_single x _ h hφ hacc (ix1 r)).trans ?_
    refine Finset.sum_congr rfl fun l _ => congrArg x (funext fun a => ?_)
    fin_cases a <;> rfl

/-- A column spread over a row. -/
theorem spread_apply {α : Type} {n : Nat} (x : S256x1.Idx → α) (h : S256x1.Broadcasts ⟨2, ![256, n]⟩) (r : Fin 256) (o : Fin n) :
    broadcastTo ⟨2, ![256, n]⟩ x h (ix2 r o) = x (ix2 r (0 : Fin 1)) :=
  broadcastTo_apply x h _ _ fun a => by
    match a with
    | ⟨0, _⟩ => rfl
    | ⟨1, _⟩ => rfl

/-- A vector put in every row. -/
theorem every_apply {α : Type} {n : Nat} (x : (⟨1, ![n]⟩ : Shape).Idx → α) (hc : (⟨1, ![n]⟩ : Shape).ShapeCasts ⟨2, ![1, n]⟩)
    (h : (⟨2, ![1, n]⟩ : Shape).Broadcasts ⟨2, ![256, n]⟩) (r : Fin 256) (o : Fin n) :
    broadcastTo ⟨2, ![256, n]⟩ (shapeCast ⟨2, ![1, n]⟩ x hc) h (ix2 r o) = x (ix1 o) := by
  rw [broadcastTo_1b_ab_apply, shapeCast_a_1a_apply]

theorem lin_apply {n : Nat} (X : FVec Ideal ⟨2, ![256, 768]⟩ .f32) (W : FVec Ideal ⟨2, ![768, n]⟩ .f32) (b : FVec Ideal ⟨1, ![n]⟩ .f32)
    (hc : (⟨1, ![n]⟩ : Shape).ShapeCasts ⟨2, ![1, n]⟩) (h : (⟨2, ![1, n]⟩ : Shape).Broadcasts ⟨2, ![256, n]⟩) (r : Fin 256) (o : Fin n) :
    addf (matmul (DotDims.plain 256 768 n) none X W (constant ⟨2, ![256, n]⟩ .f32 0x00000000#32)) (broadcastTo ⟨2, ![256, n]⟩ (shapeCast ⟨2, ![1, n]⟩ b hc) h) (ix2 r o)
      = lin (fun k => X (ix2 r k)) (fun k => W (ix2 k o)) (b (ix1 o)) := by
  show FloatOps.matmul (DotDims.plain 256 768 n) none X W (constant ⟨2, ![256, n]⟩ .f32 0x00000000#32) (ix2 r o) + broadcastTo ⟨2, ![256, n]⟩ (shapeCast ⟨2, ![1, n]⟩ b hc) h (ix2 r o) = _
  rw [Ideal.matmul_plain_apply, every_apply]
  show (K 0x00000000#32 + _) + _ = _
  rw [K_zero, zero_add]
  rfl

theorem nrm_apply {n : Nat} (v : FVec Ideal ⟨2, ![256, n]⟩ .f32) (g : FVec Ideal ⟨1, ![n]⟩ .f32) (c : BitVec 32)
    (h : (⟨2, ![256, n]⟩ : Shape).Reduces [1] S256) (hs : S256.ShapeCasts S256x1)
    (hφ : FKind.Formats .f32) (hacc : (0x00000000#32 : BitVec 32) = FKind.add.neutral .f32 hφ)
    (hb : S256x1.Broadcasts ⟨2, ![256, n]⟩)
    (hc : (⟨1, ![n]⟩ : Shape).ShapeCasts ⟨2, ![1, n]⟩) (hg : (⟨2, ![1, n]⟩ : Shape).Broadcasts ⟨2, ![256, n]⟩) (r : Fin 256) (o : Fin n) :
    mulf (broadcastTo ⟨2, ![256, n]⟩ (shapeCast ⟨2, ![1, n]⟩ g hc) hg)
        (mulf v (broadcastTo ⟨2, ![256, n]⟩
          (rsqrt (addf (divf (shapeCast S256x1 (multiReduction .add [1] S256 (mulf v v) 0x00000000#32 h hφ hacc) hs) (broadcast S256x1 (Scalar.ofBits (F := Ideal) .f32 c)))
            (broadcast S256x1 (Scalar.ofBits (F := Ideal) .f32 0x358637BD#32)))) hb)) (ix2 r o)
      = nrm (g (ix1 o)) (v (ix2 r o)) (Ideal.div (∑ q, v (ix2 r q) * v (ix2 r q)) (K c)) := by
  show broadcastTo ⟨2, ![256, n]⟩ (shapeCast ⟨2, ![1, n]⟩ g hc) hg (ix2 r o) * (v (ix2 r o) * broadcastTo ⟨2, ![256, n]⟩ _ hb (ix2 r o)) = _
  rw [every_apply, spread_apply]
  show _ * (_ * Ideal.rsqrt (Ideal.div (shapeCast S256x1 (multiReduction .add [1] S256 (mulf v v) 0x00000000#32 h hφ hacc) hs (ix2 r (0 : Fin 1))) (K c) + K 0x358637BD#32)) = _
  rw [rowSum_apply]
  rfl

/-! ## One tap's columns -/

section

variable (s : BitVec 32) (c f p e : FVec Ideal S256x1 .f32) (n : IVec S256x32 32) (k : FVec Ideal S256x32 .f32)

theorem pick_apply (i : IVec S256x1 32) (r : Fin 256) (hn : ∀ j : Fin 32, n (ix2 r j) = BitVec.ofNat 32 j.val) (hi : (i (ix2 r (0 : Fin 1))).toNat < 32) :
    Cols.pick n k i (ix2 r (0 : Fin 1)) = pickS (fun j => k (ix2 r j)) (i (ix2 r (0 : Fin 1))) := by
  unfold Cols.pick
  rw [← pick_sum _ _ hi]
  refine (rowSum_apply _ _ _ _ _ r).trans ?_
  refine Finset.sum_congr rfl fun j _ => ?_
  show Scalar.select (IntOp.cmpi .eq (n (ix2 r j)) (broadcastTo S256x32 i broadcasts_S256x1_S256x32 (ix2 r j))) _ _ = _
  rw [hn, spread_apply]
  rfl

variable (r : Fin 256) (w : BitVec 32)

theorem spot_apply (hc : c (ix2 r (0 : Fin 1)) = ((w.toInt : ℝ) : EReal)) :
    Cols.spot s c f p (ix2 r (0 : Fin 1)) = spotS (K s) (f (ix2 r (0 : Fin 1))) (p (ix2 r (0 : Fin 1))) w := by
  show (c (ix2 r (0 : Fin 1)) + _) + _ = _
  rw [hc]; rfl

theorem below_apply (hc : c (ix2 r (0 : Fin 1)) = ((w.toInt : ℝ) : EReal)) :
    Cols.below s c f p (ix2 r (0 : Fin 1)) = belowS (spotS (K s) (f (ix2 r (0 : Fin 1))) (p (ix2 r (0 : Fin 1))) w) := by
  rw [← spot_apply s c f p r w hc]; rfl

theorem frac_apply (hc : c (ix2 r (0 : Fin 1)) = ((w.toInt : ℝ) : EReal)) :
    Cols.frac s c f p (ix2 r (0 : Fin 1)) = fracS (spotS (K s) (f (ix2 r (0 : Fin 1))) (p (ix2 r (0 : Fin 1))) w) := by
  rw [← spot_apply s c f p r w hc]; rfl

theorem valid_apply (hc : c (ix2 r (0 : Fin 1)) = ((w.toInt : ℝ) : EReal)) :
    Cols.valid s c f p (ix2 r (0 : Fin 1)) = (((validB (spotS (K s) (f (ix2 r (0 : Fin 1))) (p (ix2 r (0 : Fin 1))) w)).toNat : ℝ) : EReal) := by
  rw [← spot_apply s c f p r w hc, ← bit_toInt]; rfl

theorem slotI_apply : Cols.slotI s f (ix2 r (0 : Fin 1)) = slotW (K s) (f (ix2 r (0 : Fin 1))) := rfl

theorem slotR_apply : Cols.slotR s f (ix2 r (0 : Fin 1)) = slotF (K s) (f (ix2 r (0 : Fin 1))) := rfl

theorem decay_apply (hs : ∃ a : ℝ, K s = (a : EReal)) (hf : ∃ a : ℝ, f (ix2 r (0 : Fin 1)) = (a : EReal)) (he : ∃ a : ℝ, e (ix2 r (0 : Fin 1)) = (a : EReal)) :
    Cols.decay s f e (ix2 r (0 : Fin 1)) = decayS (K s) (f (ix2 r (0 : Fin 1))) (e (ix2 r (0 : Fin 1))) := by
  obtain ⟨s', hs⟩ := hs; obtain ⟨f', hf⟩ := hf; obtain ⟨e', he⟩ := he
  rw [hs, hf, he, ← decay_eq, ← hs, ← hf, ← he]; rfl

theorem tap_apply (hc : c (ix2 r (0 : Fin 1)) = ((w.toInt : ℝ) : EReal)) (hn : ∀ j : Fin 32, n (ix2 r j) = BitVec.ofNat 32 j.val)
    (hs : ∃ a : ℝ, K s = (a : EReal)) (hf : ∃ a : ℝ, f (ix2 r (0 : Fin 1)) = (a : EReal)) (he : ∃ a : ℝ, e (ix2 r (0 : Fin 1)) = (a : EReal)) :
    Cols.tap s c f p e n k (ix2 r (0 : Fin 1)) = tapS (K s) (f (ix2 r (0 : Fin 1))) (p (ix2 r (0 : Fin 1))) (e (ix2 r (0 : Fin 1))) w (fun j => k (ix2 r j)) := by
  unfold tapS
  rw [← decay_apply s f e r hs hf he, ← valid_apply s c f p r w hc, ← slotR_apply,
    ← slotI_apply,
    ← pick_apply n k (Cols.slotI s f) r hn (by have := slotW_le (K s) (f (ix2 r (0 : Fin 1))); rw [slotI_apply]; omega)]
  have h1 := pick_apply n k (addi (Cols.slotI s f) (broadcast S256x1 1#32)) r hn
    (by have := slotW_le (K s) (f (ix2 r (0 : Fin 1))); have := slotW_succ (K s) (f (ix2 r (0 : Fin 1))); exact (show (slotW (K s) (f (ix2 r (0 : Fin 1))) + 1#32).toNat < 32 by omega))
  have h2 : Cols.slotI s f (ix2 r (0 : Fin 1)) + 1#32 = addi (Cols.slotI s f) (broadcast S256x1 1#32) (ix2 r (0 : Fin 1)) := rfl
  rw [h2, ← h1]
  rfl

theorem lower_apply (hc : c (ix2 r (0 : Fin 1)) = ((w.toInt : ℝ) : EReal)) (hn : ∀ j : Fin 32, n (ix2 r j) = BitVec.ofNat 32 j.val)
    (hs : ∃ a : ℝ, K s = (a : EReal)) (hf : ∃ a : ℝ, f (ix2 r (0 : Fin 1)) = (a : EReal)) (he : ∃ a : ℝ, e (ix2 r (0 : Fin 1)) = (a : EReal)) :
    Cols.lower s c f p e n k (ix2 r (0 : Fin 1)) = lowerS (K s) (f (ix2 r (0 : Fin 1))) (p (ix2 r (0 : Fin 1))) (e (ix2 r (0 : Fin 1))) w (fun j => k (ix2 r j)) := by
  unfold lowerS
  rw [← tap_apply s c f p e n k r w hc hn hs hf he, ← frac_apply s c f p r w hc]
  rfl

theorem upper_apply (hc : c (ix2 r (0 : Fin 1)) = ((w.toInt : ℝ) : EReal)) (hn : ∀ j : Fin 32, n (ix2 r j) = BitVec.ofNat 32 j.val)
    (hs : ∃ a : ℝ, K s = (a : EReal)) (hf : ∃ a : ℝ, f (ix2 r (0 : Fin 1)) = (a : EReal)) (he : ∃ a : ℝ, e (ix2 r (0 : Fin 1)) = (a : EReal)) :
    Cols.upper s c f p e n k (ix2 r (0 : Fin 1)) = upperS (K s) (f (ix2 r (0 : Fin 1))) (p (ix2 r (0 : Fin 1))) (e (ix2 r (0 : Fin 1))) w (fun j => k (ix2 r j)) := by
  unfold upperS
  rw [← tap_apply s c f p e n k r w hc hn hs hf he, ← frac_apply s c f p r w hc]
  rfl

theorem offset_apply (hc : c (ix2 r (0 : Fin 1)) = ((w.toInt : ℝ) : EReal)) (o : BitVec 32) :
    Cols.offset s c f p o (ix2 r (0 : Fin 1)) = offsetS (K s) (f (ix2 r (0 : Fin 1))) (p (ix2 r (0 : Fin 1))) w (Scalar.subi o 96#32) := by
  unfold offsetS
  rw [← below_apply s c f p r w hc]
  rfl

end

/-! ## Columns side by side -/

theorem side_apply {α : Type} (g : Nat → S256x1.Idx → α) (r : Fin 256) (m : Fin 192) : Cols.side g (ix2 r m) = g m.val (ix2 r (0 : Fin 1)) :=
  concatenate_ofFn_unit_apply (t := S256x192) (s₁ := S256x1) 1 (fun m : Fin 192 => g m.val) (by rw [List.map_ofFn]; exact Cols.fits) rfl rfl (ix2 r m) m rfl
    (ix2 r (0 : Fin 1)) fun b hb => by
      match b with
      | ⟨0, _⟩ => rfl
      | ⟨1, _⟩ => exact absurd rfl hb

end Cert.Proof.Wt

end
-- ==== Proof.WKer.lean ====
/- The first call's three results, entry by entry. -/
module

public import proofs.«01_k».proof.Proof.WCols
public import Idealize.ShloMosaic.Lib.Routing.OpsPair
public import Idealize.ShloMosaic.Lib.Routing.OpsSet

@[expose] public section

set_option maxRecDepth 16384

noncomputable section

namespace Cert.Proof.Wt

open Cert.WeightsIdeal Cert.WeightsIdeal.Gen
open Idealize.ShloMosaic
open Idealize.ShloMosaic.TcCoe
open Idealize.ShloMosaic.ValueIdx

/-! ## Strides -/

theorem stride_eq (j : Nat) (hj : j < 9) : K (Cols.strideBits j) = strideS j := by
  rw [strideS_eq]
  interval_cases j <;> (simp [Cols.strideBits, K, Ideal.ofBits, Ideal.ieee, -EReal.coe_mul, -EReal.coe_neg, -EReal.coe_sub]; try norm_num)

/-! ## A projection padded with zero outputs -/

theorem proj_pad {n p : Nat} (x : Fin 768 → EReal) (Wp : Fin (n + p) → Fin 768 → EReal) (bp gp : Fin (n + p) → EReal)
    (W : Fin n → Fin 768 → EReal) (b g : Fin n → EReal) (c : EReal)
    (hW : ∀ q k, Wp (Fin.castAdd p q) k = W q k) (hb : ∀ q, bp (Fin.castAdd p q) = b q) (hg : ∀ q, gp (Fin.castAdd p q) = g q)
    (hW0 : ∀ q k, Wp (Fin.natAdd n q) k = 0) (hb0 : ∀ q, bp (Fin.natAdd n q) = 0) (o : Fin n) :
    proj x Wp bp gp c (Fin.castAdd p o) = proj x W b g c o := by
  have h1 : ∀ q, lin x (Wp (Fin.castAdd p q)) (bp (Fin.castAdd p q)) = lin x (W q) (b q) := fun q => by
    rw [hb, show Wp (Fin.castAdd p q) = W q from funext (hW q)]
  have h0 : ∀ q, lin x (Wp (Fin.natAdd n q)) (bp (Fin.natAdd n q)) = 0 := fun q => by
    rw [hb0, show Wp (Fin.natAdd n q) = fun _ => 0 from funext (hW0 q), lin]
    simp
  unfold proj
  rw [Fin.sum_univ_add, hg, h1]
  simp only [h1, h0, mul_zero, Finset.sum_const_zero, add_zero]

/-! ## One block's rows -/

section

variable (x0 : Vec Ideal S1x256x768 .f32) (x1 : Vec Ideal S768x128 .f32) (x2 x3 : Vec Ideal S128 .f32) (x4 : Vec Ideal S768x384 .f32)
  (x5 x6 : Vec Ideal S384 .f32) (x7 : Vec Ideal S768x128 .f32) (x8 x9 : Vec Ideal S128 .f32)
  (r : Fin 256)

theorem pay3_apply (k : Fin 768) : k0_pay3 (F := Ideal) x0 (ix2 r k) = x0 (ix3 0 r k) := shapeCast_1ab_ab_apply _ _ _ _

theorem pay4_apply (o : Fin 128) :
    k0_pay4 (F := Ideal) x0 x1 x2 x3 (ix2 r o) = proj (fun k => x0 (ix3 0 r k)) (fun o k => x1 (ix2 k o)) (fun o => x2 (ix1 o)) (fun o => x3 (ix1 o)) (K 0x41C00000#32) o := by
  have hl : ∀ o : Fin 128, addf (matmul (φ₂ := .f32) dot_S256x768_S768x128_S256x128_1_0_0_1_n_n none (k0_pay3 (F := Ideal) x0) x1 (constant S256x128 .f32 0x00000000#32))
      (broadcastTo S256x128 (shapeCast S1x128 x2 shapeCasts_S128_S1x128) broadcasts_S1x128_S256x128) (ix2 r o)
        = lin (fun k => x0 (ix3 0 r k)) (fun k => x1 (ix2 k o)) (x2 (ix1 o)) := fun o => by
    refine (lin_apply (k0_pay3 (F := Ideal) x0) x1 x2 _ _ r o).trans ?_
    simp only [pay3_apply]
  have hn := nrm_apply (addf (matmul (φ₂ := .f32) dot_S256x768_S768x128_S256x128_1_0_0_1_n_n none (k0_pay3 (F := Ideal) x0) x1 (constant S256x128 .f32 0x00000000#32))
      (broadcastTo S256x128 (shapeCast S1x128 x2 shapeCasts_S128_S1x128) broadcasts_S1x128_S256x128)) x3 0x41C00000#32
      reduces_S256x128_S256 shapeCasts_S256_S256x1 (.inl rfl) rfl broadcasts_S256x1_S256x128 shapeCasts_S128_S1x128 broadcasts_S1x128_S256x128 r o
  simp only [hl] at hn
  unfold proj
  rw [← hn]
  unfold k0_pay4
  simp only [shapeCast_self]
  rfl

theorem pay8_apply (o : Fin 384) :
    k0_pay8 (F := Ideal) (k0_pay3 x0) x4 (constant S256x384 .f32 0x00000000#32) x5 x6 (ix2 r o)
      = proj (fun k => x0 (ix3 0 r k)) (fun o k => x4 (ix2 k o)) (fun o => x5 (ix1 o)) (fun o => x6 (ix1 o)) (K 0x43C00000#32) o := by
  have hl : ∀ o : Fin 384, addf (matmul (φ₂ := .f32) dot_S256x768_S768x384_S256x384_1_0_0_1_n_n none (k0_pay3 (F := Ideal) x0) x4 (constant S256x384 .f32 0x00000000#32))
      (broadcastTo S256x384 (shapeCast S1x384 x5 shapeCasts_S384_S1x384) broadcasts_S1x384_S256x384) (ix2 r o)
        = lin (fun k => x0 (ix3 0 r k)) (fun k => x4 (ix2 k o)) (x5 (ix1 o)) := fun o => by
    refine (lin_apply (k0_pay3 (F := Ideal) x0) x4 x5 _ _ r o).trans ?_
    simp only [pay3_apply]
  have hn := nrm_apply (addf (matmul (φ₂ := .f32) dot_S256x768_S768x384_S256x384_1_0_0_1_n_n none (k0_pay3 (F := Ideal) x0) x4 (constant S256x384 .f32 0x00000000#32))
      (broadcastTo S256x384 (shapeCast S1x384 x5 shapeCasts_S384_S1x384) broadcasts_S1x384_S256x384)) x6 0x43C00000#32
      reduces_S256x384_S256 shapeCasts_S256_S256x1 (.inl rfl) rfl broadcasts_S256x1_S256x384 shapeCasts_S384_S1x384 broadcasts_S1x384_S256x384 r o
  simp only [hl] at hn
  unfold proj
  rw [← hn]
  rfl

theorem pay9_apply :
    k0_pay9 (F := Ideal) (k0_pay3 x0) x7 x8 x9 (ix2 r (0 : Fin 1)) = expS (x9 (ix1 0)) (lin (fun k => x0 (ix3 0 r k)) (fun k => x7 (ix2 k 0)) (x8 (ix1 0))) := by
  have hl : addf (matmul (φ₂ := .f32) dot_S256x768_S768x128_S256x128_1_0_0_1_n_n none (k0_pay3 (F := Ideal) x0) x7 (constant S256x128 .f32 0x00000000#32))
      (broadcastTo S256x128 (shapeCast S1x128 x8 shapeCasts_S128_S1x128) broadcasts_S1x128_S256x128) (ix2 r 0)
        = lin (fun k => x0 (ix3 0 r k)) (fun k => x7 (ix2 k 0)) (x8 (ix1 0)) := by
    refine (lin_apply (k0_pay3 (F := Ideal) x0) x7 x8 _ _ r 0).trans ?_
    simp only [pay3_apply]
  have hs : extractStridedSlice S256x1 ![0, 0] (addf (matmul (φ₂ := .f32) dot_S256x768_S768x128_S256x128_1_0_0_1_n_n none (k0_pay3 (F := Ideal) x0) x7 (constant S256x128 .f32 0x00000000#32))
      (broadcastTo S256x128 (shapeCast S1x128 x8 shapeCasts_S128_S1x128) broadcasts_S1x128_S256x128)) slices_S256x128_o0_0_S256x1 (ix2 r (0 : Fin 1))
        = lin (fun k => x0 (ix3 0 r k)) (fun k => x7 (ix2 k 0)) (x8 (ix1 0)) :=
    (slice2_axis1_apply 0 _ slices_S256x128_o0_0_S256x1 r (0 : Fin 1) (0 : Fin 128) rfl).trans hl
  have hg : broadcastTo S256x1 (shapeCast S1x1 (extractStridedSlice S1 ![0] x9 slices_S128_o0_S1) shapeCasts_S1_S1x1) broadcasts_S1x1_S256x1 (ix2 r (0 : Fin 1)) = x9 (ix1 0) := by
    refine (every_apply (n := 1) _ _ _ r 0).trans (extractStridedSlice_apply _ _ _ _ _ fun a => ?_)
    match a with
    | ⟨0, _⟩ => rfl
  rw [← hs, ← hg]
  unfold k0_pay9
  simp only [shapeCast_self]
  rfl

theorem pay10_apply (v : BitVec 32) : k0_pay10 (F := Ideal) v (iota .tc S256x1 32 [0] iota_S256x1_d0_w32) (ix2 r (0 : Fin 1)) = (((v + BitVec.ofNat 32 r.val).toInt : ℝ) : EReal) := by
  show ((((v + iota .tc S256x1 32 [0] iota_S256x1_d0_w32 (ix2 r (0 : Fin 1))).toInt : ℝ)) : EReal) = _
  rw [iota_single_apply]

end

/-! ## One block's columns -/

section

variable (i : grid0.Coords) (x0 : Vec Ideal S1x256x768 .f32) (x1 : Vec Ideal S768x128 .f32) (x2 x3 : Vec Ideal S128 .f32) (x4 : Vec Ideal S768x384 .f32)
  (x5 x6 : Vec Ideal S384 .f32) (x7 : Vec Ideal S768x128 .f32) (x8 x9 : Vec Ideal S128 .f32)

theorem zero3 : (![0, 0, 0] : Fin 3 → Nat) = fun _ => 0 := by funext a; fin_cases a <;> rfl
theorem zero2 : (![0, 0] : Fin 2 → Nat) = fun _ => 0 := by funext a; fin_cases a <;> rfl
theorem zero1 : (![0] : Fin 1 → Nat) = fun _ => 0 := by funext a; fin_cases a; rfl

theorem ctr_eq : Cols.ctrOf (F := Ideal) i x0 x1 x2 x3 x4 x5 x6 x7 x8 x9 = k0_pay10 (Scalar.muli (BitVec.ofNat 32 (i 1).val) 256#32) (iota .tc S256x1 32 [0] iota_S256x1_d0_w32) := rfl

theorem lanes_apply (r : Fin 256) (j : Fin 32) : Cols.lanes (F := Ideal) i x0 x1 x2 x3 x4 x5 x6 x7 x8 x9 (ix2 r j) = BitVec.ofNat 32 j.val :=
  iota_single_apply .tc S256x32 32 1 iota_S256x32_d1_w32 (ix2 r j)

theorem freq_eq : Cols.freqOf (F := Ideal) i x0 x1 x2 x3 x4 x5 x6 x7 x8 x9 = k0_pay5 x0 x1 x2 x3 := by
  unfold Cols.freqOf k0_pay1822
  rw [View.ld_unit_zero zero3, View.ld_unit_zero zero2, View.ld_unit_zero zero1, View.ld_unit_zero zero1]

theorem phase_eq : Cols.phaseOf (F := Ideal) i x0 x1 x2 x3 x4 x5 x6 x7 x8 x9 = k0_pay6 x0 x1 x2 x3 := by
  unfold Cols.phaseOf k0_pay1823
  rw [View.ld_unit_zero zero3, View.ld_unit_zero zero2, View.ld_unit_zero zero1, View.ld_unit_zero zero1]

theorem table_eq : Cols.tableOf (F := Ideal) i x0 x1 x2 x3 x4 x5 x6 x7 x8 x9 = k0_pay8 (k0_pay3 x0) x4 (constant S256x384 .f32 0x00000000#32) x5 x6 := by
  unfold Cols.tableOf k0_pay1825 k0_pay1821 k0_pay7
  rw [View.ld_unit_zero zero3, View.ld_unit_zero zero2, View.ld_unit_zero zero1, View.ld_unit_zero zero1, shapeCast_self]

theorem expo_eq : Cols.expOf (F := Ideal) i x0 x1 x2 x3 x4 x5 x6 x7 x8 x9 = k0_pay9 (k0_pay3 x0) x7 x8 x9 := by
  unfold Cols.expOf k0_pay1826 k0_pay1821
  rw [View.ld_unit_zero zero3, View.ld_unit_zero zero2, View.ld_unit_zero zero1, View.ld_unit_zero zero1]

variable (A : Args) (b : Fin 2) (l : Fin 2048) (r : Fin 256)

/-- The blocks hold the arguments' rows: place `l` is row `r` of block `i`. -/
structure Holds : Prop where
  hl : l.val = 256 * (i 1).val + r.val
  h0 : ∀ k, x0 (ix3 0 r k) = A.row b l k
  h1 : ∀ (q : Fin 24) k, x1 (ix2 k (Fin.castAdd 104 q)) = A.ww (ix2 q k)
  h1z : ∀ (q : Fin 104) k, x1 (ix2 k (Fin.natAdd 24 q)) = 0
  h2 : ∀ q : Fin 24, x2 (ix1 (Fin.castAdd 104 q)) = A.bw (ix1 q)
  h2z : ∀ q : Fin 104, x2 (ix1 (Fin.natAdd 24 q)) = 0
  h3 : ∀ q : Fin 24, x3 (ix1 (Fin.castAdd 104 q)) = A.gw (ix1 q)
  h4 : ∀ q k, x4 (ix2 k q) = A.wk (ix2 q k)
  h5 : x5 = A.bk
  h6 : x6 = A.gk
  h7 : ∀ k, x7 (ix2 k 0) = A.we (ix2 0 k)
  h8 : x8 (ix1 0) = A.be (ix1 0)
  h9 : x9 (ix1 0) = A.ge (ix1 0)

variable (H : Holds i x0 x1 x2 x3 x4 x5 x6 x7 x8 x9 A b l r)

include H

theorem wave_row (o : Fin 24) : k0_pay4 (F := Ideal) x0 x1 x2 x3 (ix2 r (Fin.castAdd 104 o)) = A.wave b l o := by
  refine (pay4_apply x0 x1 x2 x3 r (Fin.castAdd 104 o)).trans ?_
  rw [show (fun k => x0 (ix3 0 r k)) = A.row b l from funext H.h0]
  exact proj_pad (n := 24) (p := 104) _ _ _ _ _ _ _ _ H.h1 H.h2 H.h3 H.h1z H.h2z o

theorem freq_row (h : Fin 12) : Cols.one h (Cols.freqOf (F := Ideal) i x0 x1 x2 x3 x4 x5 x6 x7 x8 x9) (ix2 r (0 : Fin 1)) = A.freq b l h := by
  rw [freq_eq]
  unfold Cols.one Args.freq
  refine (slice2_axis1_apply h.val _ (Cols.slice12 h) r (0 : Fin 1) h rfl).trans ?_
  rw [← wave_row i x0 x1 x2 x3 x4 x5 x6 x7 x8 x9 A b l r H]
  show freqS (extractStridedSlice S256x12 ![0, 0] (k0_pay4 x0 x1 x2 x3) slices_S256x128_o0_0_S256x12 (ix2 r h)) = _
  refine congrArg freqS (slice2_axis1_apply 0 _ slices_S256x128_o0_0_S256x12 r h _ ?_)
  simp

theorem phase_row (h : Fin 12) : Cols.one h (Cols.phaseOf (F := Ideal) i x0 x1 x2 x3 x4 x5 x6 x7 x8 x9) (ix2 r (0 : Fin 1)) = A.phase b l h := by
  rw [phase_eq]
  unfold Cols.one Args.phase
  refine (slice2_axis1_apply h.val _ (Cols.slice12 h) r (0 : Fin 1) h rfl).trans ?_
  rw [← wave_row i x0 x1 x2 x3 x4 x5 x6 x7 x8 x9 A b l r H]
  show phaseS (extractStridedSlice S256x12 ![0, 12] (k0_pay4 x0 x1 x2 x3) slices_S256x128_o0_12_S256x12 (ix2 r h)) = _
  exact congrArg phaseS (slice2_axis1_apply 12 _ slices_S256x128_o0_12_S256x12 r h _ rfl)

theorem table_row (h : Fin 12) (q : Fin 32) : Cols.table h (Cols.tableOf (F := Ideal) i x0 x1 x2 x3 x4 x5 x6 x7 x8 x9) (ix2 r q) = A.table b l h q := by
  rw [table_eq]
  unfold Cols.table Args.table Args.kern
  refine (slice2_axis1_apply (32 * h.val) _ (Cols.slice384 h) r q ⟨32 * h.val + q.val, by have := h.isLt; have := q.isLt; omega⟩ rfl).trans ?_
  refine (pay8_apply x0 x4 x5 x6 r _).trans ?_
  rw [show (fun k => x0 (ix3 0 r k)) = A.row b l from funext H.h0, H.h5, H.h6]
  simp only [H.h4]

theorem expo_row : Cols.expOf (F := Ideal) i x0 x1 x2 x3 x4 x5 x6 x7 x8 x9 (ix2 r (0 : Fin 1)) = A.expo b l := by
  rw [expo_eq]
  refine (pay9_apply x0 x7 x8 x9 r).trans ?_
  rw [show (fun k => x0 (ix3 0 r k)) = A.row b l from funext H.h0, H.h8, H.h9]
  simp only [H.h7]
  rfl

theorem ctr_row : Cols.ctrOf (F := Ideal) i x0 x1 x2 x3 x4 x5 x6 x7 x8 x9 (ix2 r (0 : Fin 1)) = (((place l).toInt : ℝ) : EReal) := by
  rw [ctr_eq]
  refine (pay10_apply r _).trans ?_
  have e : Scalar.muli (BitVec.ofNat 32 (i 1).val) 256#32 + BitVec.ofNat 32 r.val = place l := by
    have := H.hl
    show BitVec.ofNat 32 (i 1).val * 256#32 + BitVec.ofNat 32 r.val = BitVec.ofNat 32 l.val
    rw [this, BitVec.ofNat_add, BitVec.ofNat_mul, BitVec.mul_comm]
  rw [e]

theorem first_row : Scalar.subi (Scalar.muli (BitVec.ofNat 32 (i 1).val) 256#32) 96#32 = firstRow l := by
  have := H.hl
  have hr := r.isLt
  rw [firstRow, show l.val / 256 = (i 1).val by omega]
  rfl

theorem out10_apply (m : Fin 192) : out0_10 (F := Ideal) i x0 x1 x2 x3 x4 x5 x6 x7 x8 x9 (ix3 0 r m) = lowerZ A (ix3 b l m) := by
  rw [Cols.out10, View.canon_unit_zero zero3]
  refine (shapeCast_ab_1ab_apply _ _ _ _ _).trans ((side_apply _ r m).trans ?_)
  unfold Cols.lowerAt lowerZ
  show _ = if m.val % 16 < 9 then lowerE A b l (headOf m.val) (m.val % 16) else 0
  split
  · next h =>
    rw [lower_apply _ _ _ _ _ _ _ r (place l) (ctr_row i x0 x1 x2 x3 x4 x5 x6 x7 x8 x9 A b l r H) (lanes_apply i x0 x1 x2 x3 x4 x5 x6 x7 x8 x9 r)
      ⟨_, (stride_eq _ h).trans (strideS_eq _)⟩
      (by rw [freq_row i x0 x1 x2 x3 x4 x5 x6 x7 x8 x9 A b l r H]; exact freq_real _)
      (by rw [expo_row i x0 x1 x2 x3 x4 x5 x6 x7 x8 x9 A b l r H]; exact exp_real _ _),
      freq_row i x0 x1 x2 x3 x4 x5 x6 x7 x8 x9 A b l r H, phase_row i x0 x1 x2 x3 x4 x5 x6 x7 x8 x9 A b l r H, expo_row i x0 x1 x2 x3 x4 x5 x6 x7 x8 x9 A b l r H, stride_eq _ h]
    simp only [table_row i x0 x1 x2 x3 x4 x5 x6 x7 x8 x9 A b l r H]
    rfl
  · exact K_zero

theorem out11_apply (m : Fin 192) : out0_11 (F := Ideal) i x0 x1 x2 x3 x4 x5 x6 x7 x8 x9 (ix3 0 r m) = upperZ A (ix3 b l m) := by
  rw [Cols.out11, View.canon_unit_zero zero3]
  refine (shapeCast_ab_1ab_apply _ _ _ _ _).trans ((side_apply _ r m).trans ?_)
  unfold Cols.upperAt upperZ
  show _ = if m.val % 16 < 9 then upperE A b l (headOf m.val) (m.val % 16) else 0
  split
  · next h =>
    rw [upper_apply _ _ _ _ _ _ _ r (place l) (ctr_row i x0 x1 x2 x3 x4 x5 x6 x7 x8 x9 A b l r H) (lanes_apply i x0 x1 x2 x3 x4 x5 x6 x7 x8 x9 r)
      ⟨_, (stride_eq _ h).trans (strideS_eq _)⟩
      (by rw [freq_row i x0 x1 x2 x3 x4 x5 x6 x7 x8 x9 A b l r H]; exact freq_real _)
      (by rw [expo_row i x0 x1 x2 x3 x4 x5 x6 x7 x8 x9 A b l r H]; exact exp_real _ _),
      freq_row i x0 x1 x2 x3 x4 x5 x6 x7 x8 x9 A b l r H, phase_row i x0 x1 x2 x3 x4 x5 x6 x7 x8 x9 A b l r H, expo_row i x0 x1 x2 x3 x4 x5 x6 x7 x8 x9 A b l r H, stride_eq _ h]
    simp only [table_row i x0 x1 x2 x3 x4 x5 x6 x7 x8 x9 A b l r H]
    rfl
  · exact K_zero

theorem out12_apply (m : Fin 192) : out0_12 (F := Ideal) i x0 x1 x2 x3 x4 x5 x6 x7 x8 x9 (ix3 0 r m) = offsetZ A (ix3 b l m) := by
  rw [Cols.out12, View.canon_unit_zero zero3]
  refine (shapeCast_ab_1ab_apply _ _ _ _ _).trans ((side_apply _ r m).trans ?_)
  unfold Cols.offsetAt offsetZ
  show _ = if m.val % 16 < 9 then offsetE A b l (headOf m.val) (m.val % 16) else 0#32
  split
  · next h =>
    rw [offset_apply _ _ _ _ r (place l) (ctr_row i x0 x1 x2 x3 x4 x5 x6 x7 x8 x9 A b l r H),
      freq_row i x0 x1 x2 x3 x4 x5 x6 x7 x8 x9 A b l r H, phase_row i x0 x1 x2 x3 x4 x5 x6 x7 x8 x9 A b l r H, stride_eq _ h,
      first_row i x0 x1 x2 x3 x4 x5 x6 x7 x8 x9 A b l r H]
    rfl
  · rfl

end

end Cert.Proof.Wt

end
-- ==== Proof.WRun.lean ====
/- The first call's results as a whole run leaves them. -/
module

public import proofs.«01_k».proof.Proof.WKer

@[expose] public section

set_option maxRecDepth 16384

noncomputable section

namespace Cert.Proof.Wt

open Cert.WeightsIdeal Cert.WeightsIdeal.Gen
open Idealize.ShloMosaic
open Idealize.ShloMosaic.TcCoe
open Idealize.ShloMosaic.ValueIdx
open Idealize.ShloMosaic.Pipeline
open Idealize.ShloMosaic.StableHlo

/-! ## An array placed at the start of a larger one -/

section

variable {α : Type} {n : Nat} {f g : Fin n → Nat} {si : Shape} {w : Nat} (d : ScatterDims ⟨n, f⟩ si ⟨n, g⟩) (x0 : (⟨n, f⟩ : Shape).Idx → α) (idx : IVec si w)
  (upd : (⟨n, g⟩ : Shape).Idx → α) (hs : ∀ (k : (⟨n, g⟩ : Shape).Idx) (a : Fin n), d.start k idx a = 0)
  (hw : ∀ (k : (⟨n, g⟩ : Shape).Idx) (a : Fin n), d.window k a = (k a).val) (ι : (⟨n, f⟩ : Shape).Idx)

include hs hw

theorem placed_in (k : (⟨n, g⟩ : Shape).Idx) (hk : ∀ a : Fin n, (k a).val = (ι a).val) : Host.scatter d (fun _ b => b) x0 idx upd ι = upd k := by
  refine Routing.scatter_set_hit d x0 idx upd ι _ (fun k' h => congrArg upd (funext fun a => Fin.ext ?_)) k ?_
  · have h := (Routing.resultIdx?_eq_some d k' idx ι).1 h a
    rw [hs k' a, hw k' a, ← hk a, zero_add] at h
    exact_mod_cast h
  · rw [Routing.resultIdx?_eq_some]
    intro a
    rw [hs k a, hw k a, hk a, zero_add]

theorem placed_out (a : Fin n) (ha : g a ≤ (ι a).val) : Host.scatter d (fun _ b => b) x0 idx upd ι = x0 ι := by
  refine Routing.scatter_set_miss d x0 idx upd ι fun k h => ?_
  have h := (Routing.resultIdx?_eq_some d k idx ι).1 h a
  rw [hs k a, hw k a, zero_add] at h
  have h1 : (k a).val < g a := (k a).isLt
  have h2 : (k a).val = (ι a).val := by exact_mod_cast h
  omega

end

/-! ## What the host leaves for the call -/

section

variable (m : (ℓ : Loc nD τ sig) → Buf (Elt Ideal) ℓ) (c : Dev nD)

/-- The arguments as launched. -/
def argsOf : Args where
  x := m ((c : Thread nD τ).loc main_arg0)
  ww := m ((c : Thread nD τ).loc main_arg1)
  bw := m ((c : Thread nD τ).loc main_arg2)
  gw := m ((c : Thread nD τ).loc main_arg3)
  wk := m ((c : Thread nD τ).loc main_arg4)
  bk := m ((c : Thread nD τ).loc main_arg5)
  gk := m ((c : Thread nD τ).loc main_arg6)
  we := m ((c : Thread nD τ).loc main_arg7)
  be := m ((c : Thread nD τ).loc main_arg8)
  ge := m ((c : Thread nD τ).loc main_arg9)

abbrev zero2d : S768x128.Idx → EReal := broadcastInDim S768x128 ![] bcast_S_S768x128 (constant (F := Ideal) S_ .f32 0x00000000#32)
abbrev zero1d : S128.Idx → EReal := broadcastInDim S128 ![] bcast_S_S128 (constant (F := Ideal) S_ .f32 0x00000000#32)
abbrev zeroI : IVec S1 32 := broadcastInDim S1 ![] bcast_S_S1 (constantI S_ 32 0#32)

theorem v3_eq : (V m c main_v3 : S768x128.Idx → EReal) = Host.scatter scatter_S768x128_S1_S768x24_01_n_1_0 (fun _ b => b) zero2d zeroI (transpose S768x24 [1, 0] (argsOf m c).ww transposes_S24x768_S768x24_1_0) := by
  show after hostOps0 _ (Proc.devRef .tc main_v3) = _
  simp only [hostOps0]
  after_results_simp <;> rfl

theorem v6_eq : (V m c main_v6 : S128.Idx → EReal) = Host.scatter scatter_S128_S1_S24_0_n_0_0 (fun _ b => b) zero1d zeroI (argsOf m c).bw := by
  show after hostOps0 _ (Proc.devRef .tc main_v6) = _
  simp only [hostOps0]
  after_results_simp <;> rfl

theorem v9_eq : (V m c main_v9 : S128.Idx → EReal) = Host.scatter scatter_S128_S1_S24_0_n_0_0 (fun _ b => b) zero1d zeroI (argsOf m c).gw := by
  show after hostOps0 _ (Proc.devRef .tc main_v9) = _
  simp only [hostOps0]
  after_results_simp <;> rfl

theorem v13_eq : (V m c main_v13 : S768x128.Idx → EReal) = Host.scatter scatter_S768x128_S1_S768x1_01_n_1_0 (fun _ b => b) zero2d zeroI (transpose S768x1 [1, 0] (argsOf m c).we transposes_S1x768_S768x1_1_0) := by
  show after hostOps0 _ (Proc.devRef .tc main_v13) = _
  simp only [hostOps0]
  after_results_simp <;> rfl

theorem v16_eq : (V m c main_v16 : S128.Idx → EReal) = Host.scatter scatter_S128_S1_S1_0_n_0_0 (fun _ b => b) zero1d zeroI (argsOf m c).be := by
  show after hostOps0 _ (Proc.devRef .tc main_v16) = _
  simp only [hostOps0]
  after_results_simp <;> rfl

theorem v19_eq : (V m c main_v19 : S128.Idx → EReal) = Host.scatter scatter_S128_S1_S1_0_n_0_0 (fun _ b => b) zero1d zeroI (argsOf m c).ge := by
  show after hostOps0 _ (Proc.devRef .tc main_v19) = _
  simp only [hostOps0]
  after_results_simp <;> rfl

theorem v20_eq : (V m c main_v20 : S768x384.Idx → EReal) = transpose S768x384 [1, 0] (argsOf m c).wk transposes_S384x768_S768x384_1_0 := by
  show after hostOps0 _ (Proc.devRef .tc main_v20) = _
  simp only [hostOps0]
  after_results_simp <;> rfl

/-! ### Where an update of each kind goes -/

theorem start24 (k : S768x24.Idx) (a : Fin 2) : scatter_S768x128_S1_S768x24_01_n_1_0.start k zeroI a = 0 := by
  unfold ScatterDims.start; split <;> rfl
theorem window24 (k : S768x24.Idx) (a : Fin 2) : scatter_S768x128_S1_S768x24_01_n_1_0.window k a = (k a).val := by
  match a with
  | ⟨0, _⟩ => rfl
  | ⟨1, _⟩ => rfl
theorem start24v (k : S24.Idx) (a : Fin 1) : scatter_S128_S1_S24_0_n_0_0.start k zeroI a = 0 := by
  unfold ScatterDims.start; split <;> rfl
theorem window24v (k : S24.Idx) (a : Fin 1) : scatter_S128_S1_S24_0_n_0_0.window k a = (k a).val := by
  match a with
  | ⟨0, _⟩ => rfl
theorem start1 (k : S768x1.Idx) (a : Fin 2) : scatter_S768x128_S1_S768x1_01_n_1_0.start k zeroI a = 0 := by
  unfold ScatterDims.start; split <;> rfl
theorem window1 (k : S768x1.Idx) (a : Fin 2) : scatter_S768x128_S1_S768x1_01_n_1_0.window k a = (k a).val := by
  match a with
  | ⟨0, _⟩ => rfl
  | ⟨1, _⟩ => rfl
theorem start1v (k : S1.Idx) (a : Fin 1) : scatter_S128_S1_S1_0_n_0_0.start k zeroI a = 0 := by
  unfold ScatterDims.start; split <;> rfl
theorem window1v (k : S1.Idx) (a : Fin 1) : scatter_S128_S1_S1_0_n_0_0.window k a = (k a).val := by
  match a with
  | ⟨0, _⟩ => rfl

theorem pair_eq {n0 n1 n2 n3 : Nat} (x : Fin n0) (y : Fin n1) (x' : Fin n2) (y' : Fin n3) (hx : x.val = x'.val) (hy : y.val = y'.val) (a : Fin 2) :
    ((ix2 x y : (⟨2, ![n0, n1]⟩ : Shape).Idx) a).val = ((ix2 x' y' : (⟨2, ![n2, n3]⟩ : Shape).Idx) a).val := by
  match a with
  | ⟨0, _⟩ => exact hx
  | ⟨1, _⟩ => exact hy

theorem solo_eq {n0 n1 : Nat} (x : Fin n0) (x' : Fin n1) (hx : x.val = x'.val) (a : Fin 1) :
    ((ix1 x : (⟨1, ![n0]⟩ : Shape).Idx) a).val = ((ix1 x' : (⟨1, ![n1]⟩ : Shape).Idx) a).val := by
  match a with
  | ⟨0, _⟩ => exact hx

theorem v3_in (q : Fin 24) (k : Fin 768) : (V m c main_v3 : S768x128.Idx → EReal) (ix2 k (Fin.castAdd 104 q)) = (argsOf m c).ww (ix2 q k) := by
  rw [v3_eq]
  exact (placed_in _ _ _ _ start24 window24 _ (ix2 k q) (pair_eq k q k (Fin.castAdd 104 q) rfl rfl)).trans (transpose_ix2_apply _ _ _ _)

theorem v3_out (q : Fin 104) (k : Fin 768) : (V m c main_v3 : S768x128.Idx → EReal) (ix2 k (Fin.natAdd 24 q)) = (0 : EReal) := by
  rw [v3_eq]
  exact (placed_out _ _ _ _ start24 window24 (ix2 k (Fin.natAdd 24 q)) 1 (Nat.le_add_right 24 q.val)).trans K_zero

theorem v6_in (q : Fin 24) : (V m c main_v6 : S128.Idx → EReal) (ix1 (Fin.castAdd 104 q)) = (argsOf m c).bw (ix1 q) := by
  rw [v6_eq]
  exact placed_in _ _ _ _ start24v window24v _ (ix1 q) (solo_eq q (Fin.castAdd 104 q) rfl)

theorem v6_out (q : Fin 104) : (V m c main_v6 : S128.Idx → EReal) (ix1 (Fin.natAdd 24 q)) = (0 : EReal) := by
  rw [v6_eq]
  exact (placed_out _ _ _ _ start24v window24v (ix1 (Fin.natAdd 24 q)) 0 (Nat.le_add_right 24 q.val)).trans K_zero

theorem v9_in (q : Fin 24) : (V m c main_v9 : S128.Idx → EReal) (ix1 (Fin.castAdd 104 q)) = (argsOf m c).gw (ix1 q) := by
  rw [v9_eq]
  exact placed_in _ _ _ _ start24v window24v _ (ix1 q) (solo_eq q (Fin.castAdd 104 q) rfl)

theorem v13_in (k : Fin 768) : (V m c main_v13 : S768x128.Idx → EReal) (ix2 k 0) = (argsOf m c).we (ix2 0 k) := by
  rw [v13_eq]
  exact (placed_in _ _ _ _ start1 window1 _ (ix2 k (0 : Fin 1)) (pair_eq k (0 : Fin 1) k (0 : Fin 128) rfl rfl)).trans (transpose_ix2_apply _ _ _ _)

theorem v16_in : (V m c main_v16 : S128.Idx → EReal) (ix1 0) = (argsOf m c).be (ix1 0) := by
  rw [v16_eq]
  exact placed_in _ _ _ _ start1v window1v _ (ix1 (0 : Fin 1)) (solo_eq (0 : Fin 1) (0 : Fin 128) rfl)

theorem v19_in : (V m c main_v19 : S128.Idx → EReal) (ix1 0) = (argsOf m c).ge (ix1 0) := by
  rw [v19_eq]
  exact placed_in _ _ _ _ start1v window1v _ (ix1 (0 : Fin 1)) (solo_eq (0 : Fin 1) (0 : Fin 128) rfl)

theorem v20_in (q : Fin 384) (k : Fin 768) : (V m c main_v20 : S768x384.Idx → EReal) (ix2 k q) = (argsOf m c).wk (ix2 q k) := by
  rw [v20_eq]
  exact transpose_ix2_apply _ _ _ _

/-! ## Blocks -/

/-- The point of the grid for a batch and a block of rows. -/
def pt (b : Fin 2) (i : Fin 8) : Fin cfg0.N := ⟨8 * b.val + i.val, Nat.lt_of_lt_of_eq (by have := b.isLt; have := i.isLt; omega) N_0.symm⟩

theorem pt_c0 (b : Fin 2) (i : Fin 8) : (grid0.coords (pt b i) 0).val = b.val := by
  have e : (grid0.coords (pt b i) 0).val = (8 * b.val + i.val) / 8 % 2 := Pipeline.Grid.coords_val _ 0 (by decide) rfl
  have := b.isLt; have := i.isLt; omega
theorem pt_c1 (b : Fin 2) (i : Fin 8) : (grid0.coords (pt b i) 1).val = i.val := by
  have e : (grid0.coords (pt b i) 1).val = (8 * b.val + i.val) / 1 % 8 := Pipeline.Grid.coords_val _ 1 (by decide) rfl
  have := b.isLt; have := i.isLt; omega

theorem word_nat {n : Nat} (h : n < 4096) : (BitVec.ofNat 32 n).toNat = n := by
  rw [BitVec.toNat_ofNat]; exact Nat.mod_eq_of_lt (by omega)

/-- An input's block that is its whole array. -/
theorem whole_blk (w : Fin cfg0.W) (t : Fin cfg0.N) (h : ∀ a, (cfg0.win w).index t a = 0) (y : ((cfg0.win w).xblock (cfg0.grid.coords t)).Idx)
    (z : (cfg0.win w).shape.Idx) (hz : ∀ a, (z a).val = (y a).val) : ((cfg0.win w).rect t).emb y = z :=
  funext fun a => Fin.ext ((Pipeline.Window.rect_emb_val_of_index_zero (cfg0.win w) t a (h a) y).trans (hz a).symm)

variable (b : Fin 2) (i : Fin 8) (r : Fin 256)

/-- A block's row in its array. -/
def rowOf (i : Fin 8) (r : Fin 256) : Fin 2048 := ⟨256 * i.val + r.val, by have := i.isLt; have := r.isLt; omega⟩

theorem blk0 (k : Fin 768) : (iblk m c 0 (pt b i) : S1x256x768.Idx → EReal) (ix3 0 r k) = (argsOf m c).row b (rowOf i r) k := by
  show V m c main_arg0 (((cfg0.win 0).rect (pt b i)).emb (ix3 0 r k)) = _
  rw [V_main_arg0]
  refine congrArg (argsOf m c).x (funext fun a => Fin.ext ?_)
  refine (Pipeline.Window.rect_emb_val (cfg0.win 0) (pt b i) (ix3 0 r k) a).trans ?_
  match a with
  | ⟨0, _⟩ => show (BitVec.ofNat 32 (grid0.coords (pt b i) 0).val).toNat * 1 + 0 = b.val; rw [pt_c0, word_nat (by omega)]; omega
  | ⟨1, _⟩ => show (BitVec.ofNat 32 (grid0.coords (pt b i) 1).val).toNat * 256 + r.val = 256 * i.val + r.val; rw [pt_c1, word_nat (by omega)]; omega
  | ⟨2, _⟩ => show (0#32).toNat * 768 + k.val = k.val; simp

theorem index2 (w : Fin cfg0.W) (t : Fin cfg0.N) (hr : (cfg0.win w).shape.rank = 2) (h : ∀ a, (cfg0.win w).index t a = (![(0#32).toNat, (0#32).toNat] : Fin 2 → Nat) (a.cast hr)) (a) :
    (cfg0.win w).index t a = 0 := by
  rw [h]; generalize a.cast hr = a'; fin_cases a' <;> rfl

theorem index1 (w : Fin cfg0.W) (t : Fin cfg0.N) (hr : (cfg0.win w).shape.rank = 1) (h : ∀ a, (cfg0.win w).index t a = (![(0#32).toNat] : Fin 1 → Nat) (a.cast hr)) (a) :
    (cfg0.win w).index t a = 0 := by
  rw [h]; generalize a.cast hr = a'; fin_cases a'; rfl

theorem blk1 (t : Fin cfg0.N) : (iblk m c 1 t : S768x128.Idx → EReal) = V m c main_v3 :=
  funext fun y => congrArg (V m c main_v3) (whole_blk 1 t (index2 1 t rfl fun _ => rfl) y y fun _ => rfl)
theorem blk2 (t : Fin cfg0.N) : (iblk m c 2 t : S128.Idx → EReal) = V m c main_v6 :=
  funext fun y => congrArg (V m c main_v6) (whole_blk 2 t (index1 2 t rfl fun _ => rfl) y y fun _ => rfl)
theorem blk3 (t : Fin cfg0.N) : (iblk m c 3 t : S128.Idx → EReal) = V m c main_v9 :=
  funext fun y => congrArg (V m c main_v9) (whole_blk 3 t (index1 3 t rfl fun _ => rfl) y y fun _ => rfl)
theorem blk4 (t : Fin cfg0.N) : (iblk m c 4 t : S768x384.Idx → EReal) = V m c main_v20 :=
  funext fun y => congrArg (V m c main_v20) (whole_blk 4 t (index2 4 t rfl fun _ => rfl) y y fun _ => rfl)
theorem blk5 (t : Fin cfg0.N) : (iblk m c 5 t : S384.Idx → EReal) = V m c main_arg5 :=
  funext fun y => congrArg (V m c main_arg5) (whole_blk 5 t (index1 5 t rfl fun _ => rfl) y y fun _ => rfl)
theorem blk6 (t : Fin cfg0.N) : (iblk m c 6 t : S384.Idx → EReal) = V m c main_arg6 :=
  funext fun y => congrArg (V m c main_arg6) (whole_blk 6 t (index1 6 t rfl fun _ => rfl) y y fun _ => rfl)
theorem blk7 (t : Fin cfg0.N) : (iblk m c 7 t : S768x128.Idx → EReal) = V m c main_v13 :=
  funext fun y => congrArg (V m c main_v13) (whole_blk 7 t (index2 7 t rfl fun _ => rfl) y y fun _ => rfl)
theorem blk8 (t : Fin cfg0.N) : (iblk m c 8 t : S128.Idx → EReal) = V m c main_v16 :=
  funext fun y => congrArg (V m c main_v16) (whole_blk 8 t (index1 8 t rfl fun _ => rfl) y y fun _ => rfl)
theorem blk9 (t : Fin cfg0.N) : (iblk m c 9 t : S128.Idx → EReal) = V m c main_v19 :=
  funext fun y => congrArg (V m c main_v19) (whole_blk 9 t (index1 9 t rfl fun _ => rfl) y y fun _ => rfl)

theorem holds : Holds (grid0.coords (pt b i)) (iblk m c 0 (pt b i)) (iblk m c 1 (pt b i)) (iblk m c 2 (pt b i)) (iblk m c 3 (pt b i)) (iblk m c 4 (pt b i))
    (iblk m c 5 (pt b i)) (iblk m c 6 (pt b i)) (iblk m c 7 (pt b i)) (iblk m c 8 (pt b i)) (iblk m c 9 (pt b i)) (argsOf m c) b (rowOf i r) r where
  hl := by rw [pt_c1]; rfl
  h0 := blk0 m c b i r
  h1 q k := (congrFun (blk1 m c _) _).trans (v3_in m c q k)
  h1z q k := (congrFun (blk1 m c _) _).trans (v3_out m c q k)
  h2 q := (congrFun (blk2 m c _) _).trans (v6_in m c q)
  h2z q := (congrFun (blk2 m c _) _).trans (v6_out m c q)
  h3 q := (congrFun (blk3 m c _) _).trans (v9_in m c q)
  h4 q k := (congrFun (blk4 m c _) _).trans (v20_in m c q k)
  h5 := (blk5 m c _).trans (V_main_arg5 m c)
  h6 := (blk6 m c _).trans (V_main_arg6 m c)
  h7 k := (congrFun (blk7 m c _) _).trans (v13_in m c k)
  h8 := (congrFun (blk8 m c _) _).trans (v16_in m c)
  h9 := (congrFun (blk9 m c _) _).trans (v19_in m c)

/-! ## The three results -/

theorem pt_all (t : Fin cfg0.N) : ∃ (b : Fin 2) (i : Fin 8), t = pt b i := by
  have ht : t.val < 16 := Nat.lt_of_lt_of_eq t.isLt N_0
  exact ⟨⟨t.val / 8, by omega⟩, ⟨t.val % 8, by omega⟩, Fin.ext (by show t.val = 8 * (t.val / 8) + t.val % 8; omega)⟩

theorem idx_all (y : S1x256x192.Idx) : ∃ (r : Fin 256) (q : Fin 192), y = ix3 0 r q :=
  ⟨y 1, y 2, funext fun a => by
    match a with
    | ⟨0, _⟩ => exact Subsingleton.elim (α := Fin 1) _ _
    | ⟨1, _⟩ => rfl
    | ⟨2, _⟩ => rfl⟩

theorem place_val (q : Fin 192) (a : Fin 3) :
    (![(BitVec.ofNat 32 (grid0.coords (pt b i) 0).val).toNat, (BitVec.ofNat 32 (grid0.coords (pt b i) 1).val).toNat, (0#32).toNat] : Fin 3 → Nat) a * S1x256x192.size a
      + ((ix3 0 r q : S1x256x192.Idx) a).val = ((ix3 b (rowOf i r) q : S2x2048x192.Idx) a).val := by
  match a with
  | ⟨0, _⟩ => show (BitVec.ofNat 32 (grid0.coords (pt b i) 0).val).toNat * 1 + 0 = b.val; rw [pt_c0, word_nat (by omega)]; omega
  | ⟨1, _⟩ => show (BitVec.ofNat 32 (grid0.coords (pt b i) 1).val).toNat * 256 + r.val = 256 * i.val + r.val; rw [pt_c1, word_nat (by omega)]; omega
  | ⟨2, _⟩ => show (0#32).toNat * 192 + q.val = q.val; simp

theorem blkOut10 (b : Fin 2) (i : Fin 8) (r : Fin 256) (q : Fin 192) :
    out0_10 (grid0.coords (pt b i)) (iblk m c 0 (pt b i)) (iblk m c 1 (pt b i)) (iblk m c 2 (pt b i)) (iblk m c 3 (pt b i)) (iblk m c 4 (pt b i)) (iblk m c 5 (pt b i))
      (iblk m c 6 (pt b i)) (iblk m c 7 (pt b i)) (iblk m c 8 (pt b i)) (iblk m c 9 (pt b i)) (ix3 0 r q) = lowerZ (argsOf m c) (ix3 b (rowOf i r) q) :=
  out10_apply _ _ _ _ _ _ _ _ _ _ _ _ b _ r (holds m c b i r) q

theorem blkOut11 (b : Fin 2) (i : Fin 8) (r : Fin 256) (q : Fin 192) :
    out0_11 (grid0.coords (pt b i)) (iblk m c 0 (pt b i)) (iblk m c 1 (pt b i)) (iblk m c 2 (pt b i)) (iblk m c 3 (pt b i)) (iblk m c 4 (pt b i)) (iblk m c 5 (pt b i))
      (iblk m c 6 (pt b i)) (iblk m c 7 (pt b i)) (iblk m c 8 (pt b i)) (iblk m c 9 (pt b i)) (ix3 0 r q) = upperZ (argsOf m c) (ix3 b (rowOf i r) q) :=
  out11_apply _ _ _ _ _ _ _ _ _ _ _ _ b _ r (holds m c b i r) q

theorem blkOut12 (b : Fin 2) (i : Fin 8) (r : Fin 256) (q : Fin 192) :
    out0_12 (grid0.coords (pt b i)) (iblk m c 0 (pt b i)) (iblk m c 1 (pt b i)) (iblk m c 2 (pt b i)) (iblk m c 3 (pt b i)) (iblk m c 4 (pt b i)) (iblk m c 5 (pt b i))
      (iblk m c 6 (pt b i)) (iblk m c 7 (pt b i)) (iblk m c 8 (pt b i)) (iblk m c 9 (pt b i)) (ix3 0 r q) = offsetZ (argsOf m c) (ix3 b (rowOf i r) q) :=
  out12_apply _ _ _ _ _ _ _ _ _ _ _ _ b _ r (holds m c b i r) q

theorem emb10 (b : Fin 2) (i : Fin 8) (r : Fin 256) (q : Fin 192) : ((cfg0.win 10).rect (pt b i)).emb (ix3 0 r q) = ix3 b (rowOf i r) q :=
  funext fun a => Fin.ext ((Pipeline.Window.rect_emb_val (cfg0.win 10) (pt b i) (ix3 0 r q) a).trans (place_val b i r q a))

theorem at10 (b : Fin 2) (i : Fin 8) (r : Fin 256) (q : Fin 192) : ((dats m 0 c).after 10 (pt b i) : S1x256x192.Idx → EReal) (ix3 0 r q) = lowerZ (argsOf m c) (((cfg0.win 10).rect (pt b i)).emb (ix3 0 r q)) := by
  rw [emb10]
  exact (congrFun (after0_10 m c (pt b i)) (ix3 0 r q)).trans (blkOut10 m c b i r q)

theorem all10 (t : Fin cfg0.N) (y : S1x256x192.Idx) : ((dats m 0 c).after 10 t : S1x256x192.Idx → EReal) y = lowerZ (argsOf m c) (((cfg0.win 10).rect t).emb y) := by
  obtain ⟨b, i, rfl⟩ := pt_all t
  obtain ⟨r, q, rfl⟩ := idx_all y
  exact at10 m c b i r q

theorem arr10 : (dats m 0 c).arrAt 10 cfg0.N = lowerZ (argsOf m c) :=
  (dats m 0 c).arrAt_eq_of_covers 10 _ (by decide +kernel) fun t _ y => all10 m c t y

theorem emb11 (b : Fin 2) (i : Fin 8) (r : Fin 256) (q : Fin 192) : ((cfg0.win 11).rect (pt b i)).emb (ix3 0 r q) = ix3 b (rowOf i r) q :=
  funext fun a => Fin.ext ((Pipeline.Window.rect_emb_val (cfg0.win 11) (pt b i) (ix3 0 r q) a).trans (place_val b i r q a))

theorem at11 (b : Fin 2) (i : Fin 8) (r : Fin 256) (q : Fin 192) : ((dats m 0 c).after 11 (pt b i) : S1x256x192.Idx → EReal) (ix3 0 r q) = upperZ (argsOf m c) (((cfg0.win 11).rect (pt b i)).emb (ix3 0 r q)) := by
  rw [emb11]
  exact (congrFun (after0_11 m c (pt b i)) (ix3 0 r q)).trans (blkOut11 m c b i r q)

theorem all11 (t : Fin cfg0.N) (y : S1x256x192.Idx) : ((dats m 0 c).after 11 t : S1x256x192.Idx → EReal) y = upperZ (argsOf m c) (((cfg0.win 11).rect t).emb y) := by
  obtain ⟨b, i, rfl⟩ := pt_all t
  obtain ⟨r, q, rfl⟩ := idx_all y
  exact at11 m c b i r q

theorem arr11 : (dats m 0 c).arrAt 11 cfg0.N = upperZ (argsOf m c) :=
  (dats m 0 c).arrAt_eq_of_covers 11 _ (by decide +kernel) fun t _ y => all11 m c t y

theorem emb12 (b : Fin 2) (i : Fin 8) (r : Fin 256) (q : Fin 192) : ((cfg0.win 12).rect (pt b i)).emb (ix3 0 r q) = ix3 b (rowOf i r) q :=
  funext fun a => Fin.ext ((Pipeline.Window.rect_emb_val (cfg0.win 12) (pt b i) (ix3 0 r q) a).trans (place_val b i r q a))

theorem at12 (b : Fin 2) (i : Fin 8) (r : Fin 256) (q : Fin 192) : ((dats m 0 c).after 12 (pt b i) : S1x256x192.Idx → BitVec 32) (ix3 0 r q) = offsetZ (argsOf m c) (((cfg0.win 12).rect (pt b i)).emb (ix3 0 r q)) := by
  rw [emb12]
  exact (congrFun (after0_12 m c (pt b i)) (ix3 0 r q)).trans (blkOut12 m c b i r q)

theorem all12 (t : Fin cfg0.N) (y : S1x256x192.Idx) : ((dats m 0 c).after 12 t : S1x256x192.Idx → BitVec 32) y = offsetZ (argsOf m c) (((cfg0.win 12).rect t).emb y) := by
  obtain ⟨b, i, rfl⟩ := pt_all t
  obtain ⟨r, q, rfl⟩ := idx_all y
  exact at12 m c b i r q

theorem arr12 : (dats m 0 c).arrAt 12 cfg0.N = offsetZ (argsOf m c) :=
  (dats m 0 c).arrAt_eq_of_covers 12 _ (by decide +kernel) fun t _ y => all12 m c t y

end

end Cert.Proof.Wt

end
-- ==== Proof.WRef.lean ====
/- What the reference of the tap weights computes at one entry. -/
module

public import proofs.«01_k».proof.Defs
public import proofs.«01_k».proof.Proof.WSpec
public import Idealize.ShloMosaic.Lib.ValueLayout
public import Idealize.ShloMosaic.Lib.WordCmp
public import Idealize.ShloMosaic.Lib.IdealHost
public import Idealize.ShloMosaic.Lib.KernelVsHost
public import Idealize.ShloMosaic.Lib.ReduceAll
public import proofs.«01_k».proof.Proof.Gen.WeightsRefIdeal
public import proofs.«01_k».proof.Proof.Gen.WeightsRefIdeal.Run

@[expose] public section

set_option maxRecDepth 16384

noncomputable section

namespace Cert.Proof.WtRef

open Cert.WeightsRefIdeal Cert.WeightsRefIdeal.Gen
open Cert.WeightsRefIdeal.Value
open Cert.Proof.Wt
open Idealize.ShloMosaic
open Idealize.ShloMosaic.ValueIdx
open Idealize.ShloMosaic.TcCoe
open Idealize.ShloMosaic.StableHlo

/-! ## Operations over batch, place and output -/

section

variable {n : Nat}

theorem proj_dot (d : DotDims S2x2048x768 ⟨2, ![768, n]⟩ ⟨3, ![2, 2048, n]⟩) (hr : d.contr.rank = 1) (hs : d.contr.size ⟨0, by omega⟩ = 768)
    (el : ∀ b l o k, d.lhsIdx (ix3 b l o) ((contrEquiv1 d 768 hr hs).symm k) = ix3 b l k)
    (er : ∀ b l o k, d.rhsIdx (ix3 b l o) ((contrEquiv1 d 768 hr hs).symm k) = ix2 k o)
    (X : FVec Ideal S2x2048x768 .f32) (W : FVec Ideal ⟨2, ![768, n]⟩ .f32) (b : Fin 2) (l : Fin 2048) (o : Fin n) :
    (Host.dotGeneral (F := Ideal) d none X W : (⟨3, ![2, 2048, n]⟩ : Shape).Idx → EReal) (ix3 b l o) = ∑ k : Fin 768, (X (ix3 b l k) * W (ix2 k o) : EReal) := by
  show FloatOps.dotGeneral _ _ _ _ _ _ = _
  rw [Ideal.dotGeneral_apply, ← Equiv.sum_comp (contrEquiv1 d 768 hr hs).symm]
  exact Finset.sum_congr rfl fun k _ => by rw [el, er]

/-- One value an output. -/
theorem each_apply {α : Type} (x : (⟨1, ![n]⟩ : Shape).Idx → α) (h1 : (⟨1, ![n]⟩ : Shape).BroadcastsInDim ⟨3, ![1, 1, n]⟩ ![2])
    (h2 : (⟨3, ![1, 1, n]⟩ : Shape).BroadcastsInDim ⟨3, ![2, 2048, n]⟩ ![0, 1, 2]) (b : Fin 2) (l : Fin 2048) (o : Fin n) :
    broadcastInDim ⟨3, ![2, 2048, n]⟩ ![0, 1, 2] h2 (broadcastInDim ⟨3, ![1, 1, n]⟩ ![2] h1 x) (ix3 b l o) = x (ix1 o) := by
  have ho : o.val = if n = 1 then 0 else o.val := by
    split
    · next h => subst h; omega
    · rfl
  refine (broadcastInDim_apply _ h2 _ _ (ix3 0 0 o) fun a => ?_).trans (broadcastInDim_apply _ h1 _ _ (ix1 o) fun a => ?_)
  · match a with
    | ⟨0, _⟩ => rfl
    | ⟨1, _⟩ => rfl
    | ⟨2, _⟩ => exact ho
  · match a with
    | ⟨0, _⟩ => exact ho

/-- One value a place. -/
theorem along_apply {α : Type} (x : (⟨3, ![2, 2048, 1]⟩ : Shape).Idx → α) (h : (⟨3, ![2, 2048, 1]⟩ : Shape).BroadcastsInDim ⟨3, ![2, 2048, n]⟩ ![0, 1, 2])
    (b : Fin 2) (l : Fin 2048) (o : Fin n) : broadcastInDim ⟨3, ![2, 2048, n]⟩ ![0, 1, 2] h x (ix3 b l o) = x (ix3 b l 0) :=
  broadcastInDim_apply _ h _ _ _ fun a => by
    match a with
    | ⟨0, _⟩ => rfl
    | ⟨1, _⟩ => rfl
    | ⟨2, _⟩ => rfl

theorem lift_apply {α : Type} (x : S2x2048.Idx → α) (h : S2x2048.BroadcastsInDim S2x2048x1 ![0, 1]) (b : Fin 2) (l : Fin 2048) :
    broadcastInDim S2x2048x1 ![0, 1] h x (ix3 b l 0) = x (ix2 b l) :=
  broadcastInDim_apply _ h _ _ _ fun a => by
    match a with
    | ⟨0, _⟩ => rfl
    | ⟨1, _⟩ => rfl

def outEmb (b : Fin 2) (l : Fin 2048) : Fin n ↪ (⟨3, ![2, 2048, n]⟩ : Shape).Idx := ⟨fun o => ix3 b l o, fun _ _ e => congrFun e 2⟩

theorem sum_outs (Y : FVec Ideal ⟨3, ![2, 2048, n]⟩ .f32) (h : (⟨3, ![2, 2048, n]⟩ : Shape).ReducesTo [2] S2x2048) (b : Fin 2) (l : Fin 2048) :
    Host.reduceAdd (F := Ideal) Y (constant (F := Ideal) S_ .f32 0x00000000#32) h h_S_ (ix2 b l) = ∑ o : Fin n, (Y (ix3 b l o) : EReal) := by
  show Ideal.hostReduceAdd _ _ _ _ = _
  unfold Ideal.hostReduceAdd
  have hd0 (i) : (h.drop i 0).val = (i 0).val := rfl
  have hd1 (i) : (h.drop i 1).val = (i 1).val := rfl
  have e : Finset.univ.filter (fun i : (⟨3, ![2, 2048, n]⟩ : Shape).Idx => h.drop i = ix2 b l) = Finset.univ.map (outEmb b l) := by
    ext i
    simp only [Finset.mem_filter, Finset.mem_univ, true_and, Finset.mem_map]
    constructor
    · intro e
      refine ⟨i 2, ?_⟩
      funext a
      match a with
      | ⟨0, _⟩ => exact (congrFun e 0).symm
      | ⟨1, _⟩ => exact (congrFun e 1).symm
      | ⟨2, _⟩ => rfl
    · rintro ⟨o, rfl⟩
      funext a
      match a with
      | ⟨0, _⟩ => rfl
      | ⟨1, _⟩ => rfl
  rw [e, Finset.sum_map]
  show Ideal.ofBits .f32 0x00000000#32 + _ = _
  rw [Idealize.ShloMosaic.Ideal.ofBits_zero_f32, zero_add]
  rfl

theorem norm_apply (g : FVec Ideal ⟨1, ![n]⟩ .f32) (v : FVec Ideal ⟨3, ![2, 2048, n]⟩ .f32) (w : BitVec 32)
    (h1 : (⟨1, ![n]⟩ : Shape).BroadcastsInDim ⟨3, ![1, 1, n]⟩ ![2]) (h2 : (⟨3, ![1, 1, n]⟩ : Shape).BroadcastsInDim ⟨3, ![2, 2048, n]⟩ ![0, 1, 2])
    (h3 : (⟨3, ![2, 2048, 1]⟩ : Shape).BroadcastsInDim ⟨3, ![2, 2048, n]⟩ ![0, 1, 2])
    (h : (⟨3, ![2, 2048, n]⟩ : Shape).ReducesTo [2] S2x2048) (b : Fin 2) (l : Fin 2048) (o : Fin n) :
    (mulf (broadcastInDim ⟨3, ![2, 2048, n]⟩ ![0, 1, 2] h2 (broadcastInDim ⟨3, ![1, 1, n]⟩ ![2] h1 g))
      (mulf v (broadcastInDim ⟨3, ![2, 2048, n]⟩ ![0, 1, 2] h3 (Host.rsqrt (addf (Host.divf (broadcastInDim S2x2048x1 ![0, 1] bcast_S2x2048_S2x2048x1_0_1
        (Host.reduceAdd (mulf v v) (constant (F := Ideal) S_ .f32 0x00000000#32) h h_S_)) (broadcastInDim S2x2048x1 ![] bcast_S_S2x2048x1 (constant (F := Ideal) S_ .f32 w)))
        (broadcastInDim S2x2048x1 ![] bcast_S_S2x2048x1 (constant (F := Ideal) S_ .f32 0x358637BD#32)))))) (ix3 b l o) : EReal)
      = nrm (g (ix1 o)) (v (ix3 b l o)) (Ideal.div (∑ q, v (ix3 b l q) * v (ix3 b l q)) (K w)) := by
  refine (congrArg₂ (fun x y : EReal => x * ((v (ix3 b l o) : EReal) * y)) (each_apply g h1 h2 b l o) (along_apply _ h3 b l o)).trans ?_
  refine congrArg (fun x : EReal => (g (ix1 o) : EReal) * ((v (ix3 b l o) : EReal) * Ideal.rsqrt (Ideal.div x (K w) + K 0x358637BD#32))) ((lift_apply _ _ b l).trans ?_)
  exact sum_outs (mulf v v) h b l

end

/-- The logistic function as a quotient. -/
theorem logistic_form (y : EReal) : Ideal.div (K 0x3F800000#32) (K 0x3F800000#32 + Ideal.exp (-y)) = Ideal.logistic y := by
  rw [K_one]; rfl

section

variable (U : Valuation τ sig (Elt Ideal))

/-- The arguments of a valuation. -/
def argsIn : Args where
  x := U (Proc.devRef .tc main_arg0)
  ww := U (Proc.devRef .tc main_arg1)
  bw := U (Proc.devRef .tc main_arg2)
  gw := U (Proc.devRef .tc main_arg3)
  wk := U (Proc.devRef .tc main_arg4)
  bk := U (Proc.devRef .tc main_arg5)
  gk := U (Proc.devRef .tc main_arg6)
  we := U (Proc.devRef .tc main_arg7)
  be := U (Proc.devRef .tc main_arg8)
  ge := U (Proc.devRef .tc main_arg9)

/-! The reference's named values, with their shapes. -/

abbrev r7 : S2x2048x24.Idx → EReal := res_main_v7 U
abbrev r20 : S2x2048x24.Idx → EReal := res_main_v20 U
abbrev r28 : S2x2048x2x12.Idx → EReal := res_main_v28 U
abbrev r51 : S2x2048x12x9.Idx → EReal := res_main_v51 U
abbrev r57 : S2x2048x12x9.Idx → EReal := res_main_v57 U
abbrev r64 : S2x2048x12x9.Idx → EReal := res_main_v64 U
abbrev i67 : IVec S2x2048x12x9 32 := res_main_v67 U
abbrev r69 : S2x2048x12x9.Idx → EReal := res_main_v69 U
abbrev r74 : S2x2048x384.Idx → EReal := res_main_v74 U
abbrev r87 : S2x2048x384.Idx → EReal := res_main_v87 U
abbrev r95 : S2x2048x12x32.Idx → EReal := res_main_v95 U
abbrev r100 : S2x2048x1.Idx → EReal := res_main_v100 U
abbrev r138 : S2x2048x12x9.Idx → EReal := res_main_v138 U
abbrev i140 : IVec S2x2048x12x9 32 := res_main_v140 U
abbrev r142 : S2x2048x12x9.Idx → EReal := res_main_v142 U
abbrev i145 : IVec S2x2048x12x9 32 := res_main_v145 U
abbrev r153 : S2x2048x12x9.Idx → EReal := res_main_v153 U

theorem dot24_l (b : Fin 2) (l : Fin 2048) (o : Fin 24) (k : Fin 768) :
    dot_S2x2048x768_S768x24_S2x2048x24_2_0_01_1_n_n.lhsIdx (ix3 b l o) ((contrEquiv1 dot_S2x2048x768_S768x24_S2x2048x24_2_0_01_1_n_n 768 rfl rfl).symm k) = ix3 b l k := by
  have hk := contrEquiv1_symm_val dot_S2x2048x768_S768x24_S2x2048x24_2_0_01_1_n_n 768 rfl rfl k
  funext a; apply Fin.ext
  match a with
  | ⟨0, _⟩ => rfl
  | ⟨1, _⟩ => rfl
  | ⟨2, _⟩ => exact hk

theorem dot24_r (b : Fin 2) (l : Fin 2048) (o : Fin 24) (k : Fin 768) :
    dot_S2x2048x768_S768x24_S2x2048x24_2_0_01_1_n_n.rhsIdx (ix3 b l o) ((contrEquiv1 dot_S2x2048x768_S768x24_S2x2048x24_2_0_01_1_n_n 768 rfl rfl).symm k) = ix2 k o := by
  have hk := contrEquiv1_symm_val dot_S2x2048x768_S768x24_S2x2048x24_2_0_01_1_n_n 768 rfl rfl k
  funext a; apply Fin.ext
  match a with
  | ⟨0, _⟩ => exact hk
  | ⟨1, _⟩ => rfl

theorem dot384_l (b : Fin 2) (l : Fin 2048) (o : Fin 384) (k : Fin 768) :
    dot_S2x2048x768_S768x384_S2x2048x384_2_0_01_1_n_n.lhsIdx (ix3 b l o) ((contrEquiv1 dot_S2x2048x768_S768x384_S2x2048x384_2_0_01_1_n_n 768 rfl rfl).symm k) = ix3 b l k := by
  have hk := contrEquiv1_symm_val dot_S2x2048x768_S768x384_S2x2048x384_2_0_01_1_n_n 768 rfl rfl k
  funext a; apply Fin.ext
  match a with
  | ⟨0, _⟩ => rfl
  | ⟨1, _⟩ => rfl
  | ⟨2, _⟩ => exact hk

theorem dot384_r (b : Fin 2) (l : Fin 2048) (o : Fin 384) (k : Fin 768) :
    dot_S2x2048x768_S768x384_S2x2048x384_2_0_01_1_n_n.rhsIdx (ix3 b l o) ((contrEquiv1 dot_S2x2048x768_S768x384_S2x2048x384_2_0_01_1_n_n 768 rfl rfl).symm k) = ix2 k o := by
  have hk := contrEquiv1_symm_val dot_S2x2048x768_S768x384_S2x2048x384_2_0_01_1_n_n 768 rfl rfl k
  funext a; apply Fin.ext
  match a with
  | ⟨0, _⟩ => exact hk
  | ⟨1, _⟩ => rfl

theorem dot1_l (b : Fin 2) (l : Fin 2048) (o : Fin 1) (k : Fin 768) :
    dot_S2x2048x768_S768x1_S2x2048x1_2_0_01_1_n_n.lhsIdx (ix3 b l o) ((contrEquiv1 dot_S2x2048x768_S768x1_S2x2048x1_2_0_01_1_n_n 768 rfl rfl).symm k) = ix3 b l k := by
  have hk := contrEquiv1_symm_val dot_S2x2048x768_S768x1_S2x2048x1_2_0_01_1_n_n 768 rfl rfl k
  funext a; apply Fin.ext
  match a with
  | ⟨0, _⟩ => rfl
  | ⟨1, _⟩ => rfl
  | ⟨2, _⟩ => exact hk

theorem dot1_r (b : Fin 2) (l : Fin 2048) (o : Fin 1) (k : Fin 768) :
    dot_S2x2048x768_S768x1_S2x2048x1_2_0_01_1_n_n.rhsIdx (ix3 b l o) ((contrEquiv1 dot_S2x2048x768_S768x1_S2x2048x1_2_0_01_1_n_n 768 rfl rfl).symm k) = ix2 k o := by
  have hk := contrEquiv1_symm_val dot_S2x2048x768_S768x1_S2x2048x1_2_0_01_1_n_n 768 rfl rfl k
  funext a; apply Fin.ext
  match a with
  | ⟨0, _⟩ => exact hk
  | ⟨1, _⟩ => rfl

/-! ### The projections -/

theorem v7_apply (b : Fin 2) (l : Fin 2048) (o : Fin 24) :
    r7 U (ix3 b l o) = lin ((argsIn U).row b l) (fun k => (argsIn U).ww (ix2 o k)) ((argsIn U).bw (ix1 o)) := by
  unfold r7 res_main_v7
  refine (congrArg₂ (fun x y : EReal => x + y) (proj_dot _ rfl rfl dot24_l dot24_r _ _ b l o) (each_apply _ _ _ b l o)).trans ?_
  exact congrArg (fun x : EReal => x + _) (Finset.sum_congr rfl fun k _ => congrArg (fun x : EReal => (argsIn U).row b l k * x) (transpose_ix2_apply _ _ _ _))

theorem v74_apply (b : Fin 2) (l : Fin 2048) (o : Fin 384) :
    r74 U (ix3 b l o) = lin ((argsIn U).row b l) (fun k => (argsIn U).wk (ix2 o k)) ((argsIn U).bk (ix1 o)) := by
  unfold r74 res_main_v74
  refine (congrArg₂ (fun x y : EReal => x + y) (proj_dot _ rfl rfl dot384_l dot384_r _ _ b l o) (each_apply _ _ _ b l o)).trans ?_
  exact congrArg (fun x : EReal => x + _) (Finset.sum_congr rfl fun k _ => congrArg (fun x : EReal => (argsIn U).row b l k * x) (transpose_ix2_apply _ _ _ _))

theorem v100_apply (b : Fin 2) (l : Fin 2048) :
    r100 U (ix3 b l 0) = lin ((argsIn U).row b l) (fun k => (argsIn U).we (ix2 0 k)) ((argsIn U).be (ix1 0)) := by
  unfold r100 res_main_v100
  refine (congrArg₂ (fun x y : EReal => x + y) (proj_dot _ rfl rfl dot1_l dot1_r _ _ b l (0 : Fin 1)) (each_apply (n := 1) _ _ _ b l 0)).trans ?_
  exact congrArg (fun x : EReal => x + _) (Finset.sum_congr rfl fun k _ => congrArg (fun x : EReal => (argsIn U).row b l k * x) (transpose_ix2_apply _ _ _ _))

theorem v20_apply (b : Fin 2) (l : Fin 2048) (o : Fin 24) :
    r20 U (ix3 b l o) = nrm ((argsIn U).gw (ix1 o)) (r7 U (ix3 b l o))
      (Ideal.div (∑ q : Fin 24, r7 U (ix3 b l q) * r7 U (ix3 b l q)) (K 0x41C00000#32)) := by
  unfold r20 res_main_v20
  exact norm_apply _ _ _ _ _ _ _ b l o

theorem v87_apply (b : Fin 2) (l : Fin 2048) (o : Fin 384) :
    r87 U (ix3 b l o) = nrm ((argsIn U).gk (ix1 o)) (r74 U (ix3 b l o))
      (Ideal.div (∑ q : Fin 384, r74 U (ix3 b l q) * r74 U (ix3 b l q)) (K 0x43C00000#32)) := by
  unfold r87 res_main_v87
  exact norm_apply _ _ _ _ _ _ _ b l o

theorem wave_eq (b : Fin 2) (l : Fin 2048) (o : Fin 24) :
    silu (r20 U (ix3 b l o)) = (argsIn U).wave b l o := by
  rw [v20_apply]
  simp only [v7_apply]
  rfl

theorem kern_eq (b : Fin 2) (l : Fin 2048) (o : Fin 384) :
    silu (r87 U (ix3 b l o)) = (argsIn U).kern b l o := by
  rw [v87_apply]
  simp only [v74_apply]
  rfl

theorem v28_apply (b : Fin 2) (l : Fin 2048) (s : Fin 2) (h : Fin 12) (o : Fin 24) (ho : o.val = 12 * s.val + h.val) :
    r28 U (ix4 b l s h) = (argsIn U).wave b l o := by
  unfold r28 res_main_v28
  show shapeCast S2x2048x2x12 _ _ _ = _
  refine (shapeCast_apply _ _ _ (ix3 b l o) ?_).trans ?_
  · rw [Shape.rowMajor_val_three, Shape.rowMajor_val_four]
    show (b.val * 2048 + l.val) * 24 + o.val = ((b.val * 2048 + l.val) * 2 + s.val) * 12 + h.val
    omega
  refine Eq.trans ?_ (wave_eq U b l o)
  exact congrArg (fun x : EReal => r20 U (ix3 b l o) * x) (logistic_form _)

theorem v95_apply (b : Fin 2) (l : Fin 2048) (h : Fin 12) (q : Fin 32) :
    r95 U (ix4 b l h q) = (argsIn U).table b l h q := by
  unfold r95 res_main_v95
  show shapeCast S2x2048x12x32 _ _ _ = _
  refine (shapeCast_apply _ _ _ (ix3 b l (⟨32 * h.val + q.val, by omega⟩ : Fin 384)) ?_).trans ?_
  · rw [Shape.rowMajor_val_three, Shape.rowMajor_val_four]
    show (b.val * 2048 + l.val) * 384 + (32 * h.val + q.val) = ((b.val * 2048 + l.val) * 12 + h.val) * 32 + q.val
    omega
  refine Eq.trans ?_ (kern_eq U b l _)
  exact congrArg (fun x : EReal => r87 U (ix3 b l _) * x) (logistic_form _)

end

end Cert.Proof.WtRef

end
-- ==== Proof.WRefTap.lean ====
/- The reference of the tap weights, tap by tap, and its three results. -/
module

public import proofs.«01_k».proof.Proof.WRef

@[expose] public section

set_option maxRecDepth 16384

noncomputable section

namespace Cert.Proof.WtRef

open Cert.WeightsRefIdeal Cert.WeightsRefIdeal.Gen
open Cert.WeightsRefIdeal.Value
open Cert.Proof.Wt
open Idealize.ShloMosaic
open Idealize.ShloMosaic.ValueIdx
open Idealize.ShloMosaic.TcCoe
open Idealize.ShloMosaic.StableHlo

/-! ## Spreading over batch, place, head and tap -/

section

variable {α : Type} (b : Fin 2) (l : Fin 2048) (h : Fin 12) (j : Fin 9)

theorem byTap_apply (x : S9.Idx → α) :
    broadcastInDim S2x2048x12x9 ![0, 1, 2, 3] bcast_S1x1x1x9_S2x2048x12x9_0_1_2_3 (broadcastInDim S1x1x1x9 ![3] bcast_S9_S1x1x1x9_3 x) (ix4 b l h j) = x (ix1 j) :=
  congrArg x (funext fun a => by
    match a with
    | ⟨0, _⟩ => rfl)

theorem byHead_apply (x : S2x2048x12.Idx → α) :
    broadcastInDim S2x2048x12x9 ![0, 1, 2, 3] bcast_S2x2048x12x1_S2x2048x12x9_0_1_2_3 (broadcastInDim S2x2048x12x1 ![0, 1, 2] bcast_S2x2048x12_S2x2048x12x1_0_1_2 x) (ix4 b l h j)
      = x (ix3 b l h) :=
  congrArg x (funext fun a => by
    match a with
    | ⟨0, _⟩ => rfl
    | ⟨1, _⟩ => rfl
    | ⟨2, _⟩ => rfl)

theorem byPlace_apply (x : S2048.Idx → α) :
    broadcastInDim S2x2048x12x9 ![0, 1, 2, 3] bcast_S1x2048x1x1_S2x2048x12x9_0_1_2_3 (broadcastInDim S1x2048x1x1 ![1] bcast_S2048_S1x2048x1x1_1 x) (ix4 b l h j) = x (ix1 l) :=
  congrArg x (funext fun a => by
    match a with
    | ⟨0, _⟩ => rfl)

theorem byRow_apply (x : S2x2048x1.Idx → α) :
    broadcastInDim S2x2048x12x9 ![0, 1, 2, 3] bcast_S2x2048x1x1_S2x2048x12x9_0_1_2_3 (broadcastInDim S2x2048x1x1 ![0, 1, 2] bcast_S2x2048x1_S2x2048x1x1_0_1_2 x) (ix4 b l h j)
      = x (ix3 b l 0) :=
  congrArg x (funext fun a => by
    match a with
    | ⟨0, _⟩ => rfl
    | ⟨1, _⟩ => rfl
    | ⟨2, _⟩ => rfl)

/-- One of the two halves of the wave outputs. -/
theorem half_apply (s : Fin 2) (x : S2x2048x2x12.Idx → α) (hs : S2x2048x2x12.Slices ![0, 0, s.val, 0] S2x2048x1x12) :
    shapeCast S2x2048x12 (extractStridedSlice S2x2048x1x12 ![0, 0, s.val, 0] x hs) shapeCasts_S2x2048x1x12_S2x2048x12 (ix3 b l h) = x (ix4 b l s h) := by
  refine (shapeCast_apply _ _ _ (ix4 b l 0 h) ?_).trans (extractStridedSlice_apply _ _ _ _ _ fun a => ?_)
  · rw [Shape.rowMajor_val_three, Shape.rowMajor_val_four]
    show ((b.val * 2048 + l.val) * 1 + 0) * 12 + h.val = (b.val * 2048 + l.val) * 12 + h.val
    omega
  · match a with
    | ⟨0, _⟩ => exact (Nat.zero_add _).symm
    | ⟨1, _⟩ => exact (Nat.zero_add _).symm
    | ⟨2, _⟩ => rfl
    | ⟨3, _⟩ => exact (Nat.zero_add _).symm

end

theorem toInt_small {n : Nat} (h : n < 4096) : (BitVec.ofNat 32 n).toInt = n := by
  have e : (BitVec.ofNat 32 n).toNat = n := by rw [BitVec.toNat_ofNat]; exact Nat.mod_eq_of_lt (by omega)
  rw [WordCmp.toInt_eq_toNat_of_lt_half (by omega), e]

/-! ## The stages -/

section

variable (U : Valuation τ sig (Elt Ideal)) (b : Fin 2) (l : Fin 2048) (h : Fin 12) (j : Fin 9)

theorem v51_apply : r51 U (ix4 b l h j) = strideS j.val * (argsIn U).freq b l h := by
  unfold r51 res_main_v51
  refine (congrArg₂ (fun x y : EReal => x * y) (byTap_apply b l h j _) (byHead_apply b l h j _)).trans (congrArg₂ (fun x y : EReal => x * y) ?_ ?_)
  · show K 0xC0800000#32 + (((BitVec.ofNat 32 j.val).toInt : ℝ) : EReal) = _
    rw [toInt_small (by omega)]
    rfl
  · refine congrArg (fun x : EReal => x * K 0x41700000#32 + K 0x3F800000#32) ((logistic_form _).trans (congrArg Ideal.logistic ?_))
    exact (half_apply b l h 0 _ _).trans (v28_apply U b l 0 h _ (by show h.val = 12 * 0 + h.val; omega))

theorem v57_apply : r57 U (ix4 b l h j) = spotS (strideS j.val) ((argsIn U).freq b l h) ((argsIn U).phase b l h) (place l) := by
  unfold r57 res_main_v57
  refine (congrArg₂ (fun x y : EReal => x + r51 U (ix4 b l h j) + y) (byPlace_apply b l h j _) (byHead_apply b l h j _)).trans ?_
  rw [v51_apply]
  refine congrArg (fun x : EReal => (((place l).toInt : ℝ) : EReal) + strideS j.val * (argsIn U).freq b l h + Ideal.tanh x * K 0x41800000#32) ?_
  exact (half_apply b l h 1 _ _).trans (v28_apply U b l 1 h _ (by show 12 + h.val = 12 * 1 + h.val; omega))

/-- Where a tap falls. -/
abbrev spotAt (A : Args) (b : Fin 2) (l : Fin 2048) (h : Fin 12) (j : Nat) : EReal := spotS (strideS j) (A.freq b l h) (A.phase b l h) (place l)

theorem v64_apply : r64 U (ix4 b l h j) = clipS (spotAt (argsIn U) b l h j.val) := by
  unfold r64 res_main_v64
  exact congrArg clipS (v57_apply U b l h j)

theorem v67_apply : i67 U (ix4 b l h j) = belowS (spotAt (argsIn U) b l h j.val) := by
  unfold i67 res_main_v67
  exact congrArg (fun x : EReal => IntOp.minsi 2047#32 (IntOp.maxsi 0#32 (Ideal.fptosi 32 (Ideal.liftRound Int.floor x)))) (v64_apply U b l h j)

theorem v69_apply : r69 U (ix4 b l h j) = fracS (spotAt (argsIn U) b l h j.val) := by
  unfold r69 res_main_v69
  exact congrArg₂ (fun (x : EReal) (y : BitVec 32) => x - ((y.toInt : ℝ) : EReal)) (v64_apply U b l h j) (v67_apply U b l h j)

theorem v138_apply : r138 U (ix4 b l h j) = slotS (strideS j.val) ((argsIn U).freq b l h) := by
  unfold r138 res_main_v138
  exact congrArg (fun x : EReal => min (K 0x3F800000#32) (max (K 0x00000000#32) (Ideal.div (max x (-x)) (K 0x42800000#32))) * K 0x41F80000#32) (v51_apply U b l h j)

theorem v140_apply : i140 U (ix4 b l h j) = slotW (strideS j.val) ((argsIn U).freq b l h) := by
  unfold i140 res_main_v140
  exact congrArg (fun x : EReal => IntOp.minsi 30#32 (IntOp.maxsi 0#32 (Ideal.fptosi 32 x))) (v138_apply U b l h j)

theorem v142_apply : r142 U (ix4 b l h j) = slotF (strideS j.val) ((argsIn U).freq b l h) := by
  unfold r142 res_main_v142
  exact congrArg₂ (fun (x : EReal) (y : BitVec 32) => x - ((y.toInt : ℝ) : EReal)) (v138_apply U b l h j) (v140_apply U b l h j)

theorem v145_apply : i145 U (ix4 b l h j) = slotW (strideS j.val) ((argsIn U).freq b l h) + 1#32 := by
  unfold i145 res_main_v145
  exact congrArg (· + 1#32) (v140_apply U b l h j)

end

/-! ### Reading the table -/

section

/-- A place in the table counted from the end if negative, as the reference indexes. -/
abbrev wrapT (p : IVec S2x2048x12x9 32) : IVec S2x2048x12x9x1 32 :=
  shapeCast S2x2048x12x9x1 (select (cmpi .slt p (broadcastInDim S2x2048x12x9 ![] bcast_S_S2x2048x12x9 (constantI S_ 32 0#32)))
    (addi p (broadcastInDim S2x2048x12x9 ![] bcast_S_S2x2048x12x9 (constantI S_ 32 32#32))) p) shapeCasts_S2x2048x12x9_S2x2048x12x9x1

/-- Whether each place is in the table. -/
abbrev insideT (q : IVec S2x2048x12x9x1 32) : IVec S2x2048x12x9 1 :=
  Host.reduce IntOp.andi (andi (cmpi .sge q (broadcastInDim S2x2048x12x9x1 ![] bcast_S_S2x2048x12x9x1 (constantI S_ 32 0#32)))
    (cmpi .sle q (broadcastInDim S2x2048x12x9x1 ![0, 1, 2, 3, 4] bcast_S1x1x1x1x1_S2x2048x12x9x1_0_1_2_3_4 (broadcastInDim S1x1x1x1x1 ![4] bcast_S1_S1x1x1x1x1_4 (constantI S1 32 31#32)))))
    (constantI S_ 1 1#1) reducesTo_S2x2048x12x9x1_S2x2048x12x9_d4 h_S_

abbrev gthT : GatherDims S2x2048x12x32 S2x2048x12x9x1 S2x2048x12x9 := gather_S2x2048x12x32_S2x2048x12x9x1_S2x2048x12x9_n_3_012_012_3_4_1111

/-- The table's entries. -/
abbrev readT (Y : S2x2048x12x32.Idx → Ideal .f32) (q : IVec S2x2048x12x9x1 32) : S2x2048x12x9.Idx → EReal :=
  select (insideT q) (Host.gather gthT Y q) (broadcastInDim S2x2048x12x9 ![] bcast_S_S2x2048x12x9 (constant (F := Ideal) S_ .f32 0x7FC00000#32))

theorem ix4_all (z : S2x2048x12x9.Idx) : ∃ b l h j, z = ix4 b l h j := ⟨z 0, z 1, z 2, z 3, funext fun a => by
  match a with
  | ⟨0, _⟩ => rfl
  | ⟨1, _⟩ => rfl
  | ⟨2, _⟩ => rfl
  | ⟨3, _⟩ => rfl⟩

theorem ix5_all (z : S2x2048x12x9x1.Idx) : ∃ b l h j, z = ix5 b l h j 0 := ⟨z 0, z 1, z 2, z 3, funext fun a => by
  match a with
  | ⟨0, _⟩ => rfl
  | ⟨1, _⟩ => rfl
  | ⟨2, _⟩ => rfl
  | ⟨3, _⟩ => rfl
  | ⟨4, _⟩ => exact Subsingleton.elim (α := Fin 1) _ _⟩

variable (p : IVec S2x2048x12x9 32) (hp : ∀ b l h j, (p (ix4 b l h j)).toNat < 32) (b : Fin 2) (l : Fin 2048) (h : Fin 12) (j : Fin 9)

include hp

theorem wrapT_apply : wrapT p (ix5 b l h j 0) = p (ix4 b l h j) := by
  refine (shapeCast_apply _ _ _ (ix4 b l h j) ?_).trans ?_
  · rw [Shape.rowMajor_val_four, Shape.rowMajor_val_five]
    show ((b.val * 2048 + l.val) * 12 + h.val) * 9 + j.val = (((b.val * 2048 + l.val) * 12 + h.val) * 9 + j.val) * 1 + 0
    omega
  · have := hp b l h j
    show Scalar.select (IntOp.cmpi .slt (p (ix4 b l h j)) 0#32) _ (p (ix4 b l h j)) = _
    rw [WordCmp.cmpi_slt_zero, WordCmp.select_ofBool, if_neg (by rw [decide_eq_true_eq]; omega)]

theorem insideT_apply : insideT (wrapT p) (ix4 b l h j) = 1#1 := by
  refine Host.reduce_andi_one _ _ _ _ _ rfl fun z => ?_
  obtain ⟨b, l, h, j, rfl⟩ := ix5_all z
  have hlt := hp b l h j
  show IntOp.andi (IntOp.cmpi .sge (wrapT p (ix5 b l h j 0)) 0#32) (IntOp.cmpi .sle (wrapT p (ix5 b l h j 0)) 31#32) = 1#1
  rw [wrapT_apply p hp]
  have hi := WordCmp.toInt_eq_toNat_of_lt_half (x := p (ix4 b l h j)) (by omega)
  have e1 : IntOp.cmpi .sge (p (ix4 b l h j)) 0#32 = 1#1 := by
    rw [WordCmp.cmpi_sge_zero, decide_eq_true (by omega)]; rfl
  have e2 : IntOp.cmpi .sle (p (ix4 b l h j)) 31#32 = 1#1 := by
    rw [WordCmp.cmpi_sle_eq, decide_eq_true (by rw [hi]; have : (31#32).toInt = 31 := by decide
                                                rw [this]; omega)]; rfl
  rw [e1, e2]; rfl

theorem readT_apply (Y : S2x2048x12x32.Idx → Ideal .f32) : readT Y (wrapT p) (ix4 b l h j) = pickS (fun q => Y (ix4 b l h q)) (p (ix4 b l h j)) := by
  have hlt := hp b l h j
  show Scalar.select (insideT (wrapT p) (ix4 b l h j)) (Host.gather gthT Y (wrapT p) (ix4 b l h j)) _ = _
  rw [insideT_apply p hp, WordCmp.select_one]
  show Y (gthT.operandIdx (ix4 b l h j) (wrapT p)) = Y (ix4 b l h _)
  have e0 : gthT.siIdx (ix4 b l h j) ⟨0, by decide⟩ = ix5 b l h j 0 := by
    funext a
    match a with
    | ⟨0, _⟩ => rfl
    | ⟨1, _⟩ => rfl
    | ⟨2, _⟩ => rfl
    | ⟨3, _⟩ => rfl
    | ⟨4, _⟩ => rfl
  refine congrArg Y (funext fun a => Fin.ext ?_)
  match a with
  | ⟨0, _⟩ => show 0 + b.val + 0 = b.val; omega
  | ⟨1, _⟩ => show 0 + l.val + 0 = l.val; omega
  | ⟨2, _⟩ => show 0 + h.val + 0 = h.val; omega
  | ⟨3, _⟩ =>
    show min (wrapT p (gthT.siIdx (ix4 b l h j) ⟨0, _⟩)).toInt.toNat (32 - 1) + 0 + 0 = (p (ix4 b l h j)).toNat % 32
    rw [e0, wrapT_apply p hp, WordCmp.toInt_eq_toNat_of_lt_half (by omega), Int.toNat_natCast]
    omega

end

/-! ### One tap -/

section

variable (U : Valuation τ sig (Elt Ideal)) (b : Fin 2) (l : Fin 2048) (h : Fin 12) (j : Fin 9)

/-- Each place's exponent. -/
abbrev expoT : S2x2048x1.Idx → EReal :=
  addf (F := Ideal) (mulf (Host.divf (broadcastInDim S2x2048x1 ![] bcast_S_S2x2048x1 (constant S_ .f32 0x3F800000#32)) (addf (broadcastInDim S2x2048x1 ![] bcast_S_S2x2048x1 (constant S_ .f32 0x3F800000#32)) (Host.exp (Host.negf
    (mulf (broadcastInDim S2x2048x1 ![0, 1, 2] bcast_S1x1x1_S2x2048x1_0_1_2 (broadcastInDim S1x1x1 ![2] bcast_S1_S1x1x1_2 (argsIn U).ge))
      (mulf (r100 U) (Host.rsqrt (addf (Host.divf (broadcastInDim S2x2048x1 ![0, 1] bcast_S2x2048_S2x2048x1_0_1
        (Host.reduceAdd (mulf (r100 U) (r100 U)) (constant S_ .f32 0x00000000#32) reducesTo_S2x2048x1_S2x2048_d2 h_S_)) (broadcastInDim S2x2048x1 ![] bcast_S_S2x2048x1 (constant S_ .f32 0x3F800000#32)))
        (broadcastInDim S2x2048x1 ![] bcast_S_S2x2048x1 (constant S_ .f32 0x358637BD#32)))))))))) (broadcastInDim S2x2048x1 ![] bcast_S_S2x2048x1 (constant S_ .f32 0x40600000#32)))
    (broadcastInDim S2x2048x1 ![] bcast_S_S2x2048x1 (constant S_ .f32 0x3F000000#32))

theorem expoT_apply : expoT U (ix3 b l 0) = (argsIn U).expo b l := by
  refine (congrArg (fun x : EReal => x * K 0x40600000#32 + K 0x3F000000#32) (logistic_form _)).trans ?_
  show _ = expS _ _
  unfold expS
  rw [← v100_apply]
  refine congrArg (fun x : EReal => Ideal.logistic x * K 0x40600000#32 + K 0x3F000000#32) ?_
  refine (congrArg₂ (fun x y : EReal => x * (r100 U (ix3 b l 0) * Ideal.rsqrt (Ideal.div y (K 0x3F800000#32) + K 0x358637BD#32)))
    (each_apply (n := 1) _ _ _ b l (0 : Fin 1)) ((lift_apply _ _ b l).trans (sum_outs (n := 1) _ _ b l))).trans ?_
  refine congrArg (fun x : EReal => nrm ((argsIn U).ge (ix1 0)) (r100 U (ix3 b l 0)) x) (Eq.trans ?_ (one_mean (r100 U (ix3 b l 0) * r100 U (ix3 b l 0))))
  refine congrArg (fun x : EReal => Ideal.div x (K 0x3F800000#32)) (Finset.sum_congr rfl fun q _ => ?_)
  obtain rfl : q = 0 := Subsingleton.elim _ _
  rfl

theorem v153_eq : r153 U = mulf (F := Ideal) (φ := .f32) (mulf (F := Ideal) (addf (F := Ideal) (mulf (F := Ideal) (readT (r95 U) (wrapT (i140 U))) (subf (F := Ideal) (broadcastInDim S2x2048x12x9 ![] bcast_S_S2x2048x12x9 (constant S_ .f32 0x3F800000#32)) (r142 U)))
      (mulf (F := Ideal) (readT (r95 U) (wrapT (i145 U))) (r142 U)))
    (Host.divf (broadcastInDim S2x2048x12x9 ![] bcast_S_S2x2048x12x9 (constant S_ .f32 0x3F800000#32)) (Host.powf (addf (broadcastInDim S2x2048x12x9 ![] bcast_S_S2x2048x12x9 (constant S_ .f32 0x3F800000#32))
        (Host.divf (Host.absf (r51 U)) (broadcastInDim S2x2048x12x9 ![] bcast_S_S2x2048x12x9 (constant S_ .f32 0x45000000#32))))
      (broadcastInDim S2x2048x12x9 ![0, 1, 2, 3] bcast_S2x2048x1x1_S2x2048x12x9_0_1_2_3 (broadcastInDim S2x2048x1x1 ![0, 1, 2] bcast_S2x2048x1_S2x2048x1x1_0_1_2 (expoT U))))))
    (uitofp .f32 (andi (cmpf (F := Ideal) (φ := .f32) .oge (r57 U) (broadcastInDim S2x2048x12x9 ![] bcast_S_S2x2048x12x9 (constant S_ .f32 0x00000000#32)))
      (cmpf (F := Ideal) (φ := .f32) .olt (r57 U) (broadcastInDim S2x2048x12x9 ![] bcast_S_S2x2048x12x9 (constant S_ .f32 0x45000000#32))))) := by
  unfold r153 res_main_v153
  rfl

theorem i140_lt (b l h j) : (i140 U (ix4 b l h j)).toNat < 32 := by
  rw [v140_apply]; have := slotW_le (strideS j.val) ((argsIn U).freq b l h); omega

theorem i145_lt (b l h j) : (i145 U (ix4 b l h j)).toNat < 32 := by
  rw [v145_apply, slotW_succ]; have := slotW_le (strideS j.val) ((argsIn U).freq b l h); omega

theorem table_row : (fun q => r95 U (ix4 b l h q)) = (argsIn U).table b l h := funext fun q => v95_apply U b l h q

theorem v153_apply : r153 U (ix4 b l h j) = tapS (strideS j.val) ((argsIn U).freq b l h) ((argsIn U).phase b l h) ((argsIn U).expo b l) (place l) ((argsIn U).table b l h) := by
  have e1 := readT_apply _ (i140_lt U) b l h j (r95 U)
  have e2 := readT_apply _ (i145_lt U) b l h j (r95 U)
  have e3 := (byRow_apply b l h j (expoT U)).trans (expoT_apply U b l)
  rw [table_row, v140_apply] at e1
  rw [table_row, v145_apply] at e2
  rw [v153_eq]
  show (readT (r95 U) (wrapT (i140 U)) (ix4 b l h j) * (K 0x3F800000#32 - r142 U (ix4 b l h j)) + readT (r95 U) (wrapT (i145 U)) (ix4 b l h j) * r142 U (ix4 b l h j))
      * Ideal.div (K 0x3F800000#32) (Ideal.pow (K 0x3F800000#32 + Ideal.div (max (r51 U (ix4 b l h j)) (-r51 U (ix4 b l h j))) (K 0x45000000#32))
        (broadcastInDim S2x2048x12x9 ![0, 1, 2, 3] bcast_S2x2048x1x1_S2x2048x12x9_0_1_2_3 (broadcastInDim S2x2048x1x1 ![0, 1, 2] bcast_S2x2048x1_S2x2048x1x1_0_1_2 (expoT U)) (ix4 b l h j)))
      * (((validB (r57 U (ix4 b l h j))).toNat : ℝ) : EReal) = _
  rw [e1, e2, e3, v142_apply, v51_apply, v57_apply]
  rfl

/-! ## The results -/

/-- Nine taps a head, then seven columns of the padding value. -/
abbrev padT {α : Type} (X : S2x2048x12x9.Idx → α) (v : S_.Idx → α) : S2x2048x192.Idx → α :=
  shapeCast S2x2048x192 (pad S2x2048x12x16 ![0, 0, 0, 0] ![0, 0, 0, 7] ![0, 0, 0, 0] X v pads_S2x2048x12x9_S2x2048x12x16_000_000_000_070 h_S_) shapeCasts_S2x2048x12x16_S2x2048x192

theorem padT_apply {α : Type} (X : S2x2048x12x9.Idx → α) (v : S_.Idx → α) (m : Fin 192) :
    padT X v (ix3 b l m) = if h : m.val % 16 < 9 then X (ix4 b l (headOf m.val) ⟨m.val % 16, h⟩) else v (Shape.Idx.first h_S_) := by
  have hm : m.val / 16 % 12 = m.val / 16 := Nat.mod_eq_of_lt (by have := m.isLt; omega)
  refine (shapeCast_apply _ _ _ (ix4 b l (headOf m.val) (⟨m.val % 16, Nat.mod_lt _ (by decide)⟩ : Fin 16)) ?_).trans ?_
  · rw [Shape.rowMajor_val_three, Shape.rowMajor_val_four]
    show ((b.val * 2048 + l.val) * 12 + m.val / 16 % 12) * 16 + m.val % 16 = (b.val * 2048 + l.val) * 192 + m.val
    rw [hm]; omega
  · split
    · next h =>
      refine pad_apply_of_inside _ _ _ X v _ h_S_ _ (ix4 b l (headOf m.val) ⟨m.val % 16, h⟩) fun a => ?_
      match a with
      | ⟨0, _⟩ => show b.val = 0 + b.val * 1; omega
      | ⟨1, _⟩ => show l.val = 0 + l.val * 1; omega
      | ⟨2, _⟩ => show (headOf m.val).val = 0 + (headOf m.val).val * 1; omega
      | ⟨3, _⟩ => show m.val % 16 = 0 + m.val % 16 * 1; omega
    · next h =>
      refine pad_apply_of_not_inside _ _ _ X v _ h_S_ _ 3 ?_
      show ¬ (0 ≤ m.val % 16 ∧ (m.val % 16 - 0) % 1 = 0 ∧ (m.val % 16 - 0) / 1 < 9)
      omega

theorem ix3_all (z : S2x2048x192.Idx) : ∃ b l m, z = ix3 b l m := ⟨z 0, z 1, z 2, funext fun a => by
  match a with
  | ⟨0, _⟩ => rfl
  | ⟨1, _⟩ => rfl
  | ⟨2, _⟩ => rfl⟩

theorem pad_zero : (sitofp (F := Ideal) .f32 (constantI S_ 32 0#32) (Shape.Idx.first h_S_) : EReal) = 0 := by
  show (((0#32 : BitVec 32).toInt : ℝ) : EReal) = 0
  simp

theorem lower_res : padT (mulf (F := Ideal) (φ := .f32) (r153 U) (subf (F := Ideal) (φ := .f32) (broadcastInDim S2x2048x12x9 ![] bcast_S_S2x2048x12x9 (constant S_ .f32 0x3F800000#32)) (r69 U)))
    (sitofp (F := Ideal) .f32 (constantI S_ 32 0#32)) = lowerZ (argsIn U) := by
  funext z
  obtain ⟨b, l, m, rfl⟩ := ix3_all z
  rw [padT_apply]
  show _ = if m.val % 16 < 9 then lowerE (argsIn U) b l (headOf m.val) (m.val % 16) else 0
  split
  · next h =>
    exact congrArg₂ (fun x y : EReal => x * (K 0x3F800000#32 - y)) (v153_apply U b l (headOf m.val) ⟨m.val % 16, h⟩) (v69_apply U b l (headOf m.val) ⟨m.val % 16, h⟩)
  · exact pad_zero

theorem upper_res : padT (mulf (F := Ideal) (φ := .f32) (r153 U) (r69 U)) (sitofp (F := Ideal) .f32 (constantI S_ 32 0#32)) = upperZ (argsIn U) := by
  funext z
  obtain ⟨b, l, m, rfl⟩ := ix3_all z
  rw [padT_apply]
  show _ = if m.val % 16 < 9 then upperE (argsIn U) b l (headOf m.val) (m.val % 16) else 0
  split
  · next h =>
    exact congrArg₂ (fun x y : EReal => x * y) (v153_apply U b l (headOf m.val) ⟨m.val % 16, h⟩) (v69_apply U b l (headOf m.val) ⟨m.val % 16, h⟩)
  · exact pad_zero

/-- Each place's first row, as the reference counts it. -/
abbrev firstT : IVec S2048 32 :=
  subi (muli (select (andi (cmpi .ne (signi (res_main_v154 U)) (broadcastInDim S2048 ![] bcast_S_S2048 (signi (res_main_call6_v0 U)))) (cmpi .ne (Host.remsi (res_main_v154 U) (broadcastInDim S2048 ![] bcast_S_S2048 (res_main_call6_v0 U)))
    (broadcastInDim S2048 ![] bcast_S_S2048 (constantI S_ 32 0#32)))) (subi (res_main_call6_v2 U) (broadcastInDim S2048 ![] bcast_S_S2048 (constantI S_ 32 1#32))) (res_main_call6_v2 U))
    (broadcastInDim S2048 ![] bcast_S_S2048 (constantI S_ 32 256#32))) (broadcastInDim S2048 ![] bcast_S_S2048 (constantI S_ 32 96#32))

theorem firstT_apply : firstT U (ix1 l) = firstRow l := by
  have e : firstT U (ix1 l) = IntOp.subi (IntOp.muli (Pre.floorW (BitVec.ofNat 32 l.val) 256#32) 256#32) 96#32 := rfl
  have hl : l.val = 256 * (l.val / 256) + l.val % 256 := by omega
  rw [e]
  have := first_eq ⟨l.val / 256, by omega⟩ ⟨l.val % 256, by omega⟩
  rw [show 256 * (l.val / 256) + l.val % 256 = l.val from hl.symm] at this
  exact this

theorem offset_res : padT (muli (subi (i67 U) (broadcastInDim S2x2048x12x9 ![0, 1, 2, 3] bcast_S1x2048x1x1_S2x2048x12x9_0_1_2_3 (broadcastInDim S1x2048x1x1 ![1] bcast_S2048_S1x2048x1x1_1 (firstT U))))
    (broadcastInDim S2x2048x12x9 ![] bcast_S_S2x2048x12x9 (constantI S_ 32 64#32))) (id (constantI S_ 32 0#32)) = offsetZ (argsIn U) := by
  funext z
  obtain ⟨b, l, m, rfl⟩ := ix3_all z
  rw [padT_apply]
  show _ = if m.val % 16 < 9 then offsetE (argsIn U) b l (headOf m.val) (m.val % 16) else 0#32
  split
  · next h =>
    exact congrArg₂ (fun x y : BitVec 32 => (x - y) * 64#32) (v67_apply U b l (headOf m.val) ⟨m.val % 16, h⟩) ((byPlace_apply b l (headOf m.val) ⟨m.val % 16, h⟩ _).trans (firstT_apply U l))
  · rfl

end

end Cert.Proof.WtRef

end
-- ==== Proof.WValue.lean ====
/- The tap weights' call: its three programs run and leave their arguments, and it computes what its reference computes. -/
module

public import proofs.«01_k».proof.Proof.WRun
public import proofs.«01_k».proof.Proof.WRefTap
public import proofs.«01_k».proof.Proof.Gen.Weights
public import proofs.«01_k».proof.Proof.Gen.Weights.Frame

@[expose] public section

set_option maxRecDepth 16384

noncomputable section

namespace Cert.Proof.Wt

open Idealize.ShloMosaic
open Idealize.ShloMosaic.TcCoe

theorem frame_weights : Cert.quiescent_Weights := fun m ρ _ => Cert.Weights.Gen.frame m ρ

theorem frame_weightsIdeal : Cert.quiescent_WeightsIdeal := fun m ρ _ => Cert.WeightsIdeal.Gen.frame m ρ

theorem frame_weightsRef : Cert.quiescent_WeightsRefIdeal := fun m ρ _ =>
  (θ_run Cert.WeightsRefIdeal.defs _ _).mono (fun r h => ⟨fun c => (h c).2.2.2, Idealize.ShloMosaic.sem_eq_zero_of_no_sems (by decide) r.2⟩)
    (Cert.WeightsRefIdeal.Value.run (F := Ideal) m ρ)

section

open Cert.WeightsIdeal Cert.WeightsIdeal.Gen

/-- What the call leaves: the three results, and its arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21_0) = lowerZ (argsOf m c)
      ∧ r.2.mem ((c.tc : Thread nD τ).loc main_v21_1) = upperZ (argsOf m c)
      ∧ r.2.mem ((c.tc : Thread nD τ).loc main_v21_2) = offsetZ (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 10).trans (arr10 m c), ((h c).1 11).trans (arr11 m c), ((h c).1 12).trans (arr12 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end

theorem algebraic : Cert.algebraic_WeightsIdeal_WeightsRefIdeal := by
  intro m g m' g' _ hargs
  have hA (c) : WtRef.argsIn (StableHlo.launchContents m' c) = argsOf m c := by
    obtain ⟨h0, h1, h2, h3, h4, h5, h6, h7, h8, h9⟩ := hargs c
    unfold WtRef.argsIn argsOf
    exact (Args.mk.injEq ..).mpr ⟨h0, h1, h2, h3, h4, h5, h6, h7, h8, h9⟩
  refine ⟨fun c => lowerZ (argsOf m c), fun c => upperZ (argsOf m c), fun c => offsetZ (argsOf m c), kernel_run m g, ?_⟩
  refine (θ_run Cert.WeightsRefIdeal.defs _ _).mono (fun r h c => ⟨(h c).1.trans ?_, (h c).2.1.trans ?_, (h c).2.2.1.trans ?_, (h c).2.2.2⟩)
    (Cert.WeightsRefIdeal.Value.run (F := Ideal) m' g')
  · exact (WtRef.lower_res _).trans (congrArg lowerZ (hA c))
  · exact (WtRef.upper_res _).trans (congrArg upperZ (hA c))
  · exact (WtRef.offset_res _).trans (congrArg offsetZ (hA c))

end Cert.Proof.Wt

end
-- ==== Proof.lean ====
module

public import proofs.«01_k».proof.Defs
public import proofs.«01_k».proof.Proof.Gen.Mix
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixRefIdeal
public import proofs.«01_k».proof.Proof.Gen.MixRefIdeal.Run
public import proofs.«01_k».proof.Proof.Gen.Pre_in_window
public import proofs.«01_k».proof.Proof.Frames
public import proofs.«01_k».proof.Proof.Value
public import proofs.«01_k».proof.Proof.Gen.Weights
public import proofs.«01_k».proof.Proof.Gen.WeightsIdeal
public import proofs.«01_k».proof.Proof.Gen.WeightsRefIdeal
public import proofs.«01_k».proof.Proof.WValue

@[expose] public section

noncomputable section

namespace Cert.Proof

open Idealize.ShloMosaic Idealize.SL.Sem

theorem claim : Cert.Claim :=
  ⟨Cert.Mix.Gen.facts, Cert.MixIdeal.Gen.facts, Cert.MixRefIdeal.Gen.facts, Cert.Weights.Gen.facts, Cert.WeightsIdeal.Gen.facts, Cert.WeightsRefIdeal.Gen.facts,
    Cert.Pre_in_window.Gen.facts,
    Cert.Proof.Mix.frame_mix, Cert.Proof.Mix.frame_mixIdeal, Cert.Proof.Mix.frame_ref,
    Cert.Proof.Wt.frame_weights, Cert.Proof.Wt.frame_weightsIdeal, Cert.Proof.Wt.frame_weightsRef,
    trivial, Cert.Proof.Mix.algebraic, trivial, Cert.Proof.Wt.algebraic⟩

end Cert.Proof

end
